-- ==== Defs.lean ====
def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1RefIdeal (m : (ℓ : Loc Cert.Dw1RefIdeal.nD Cert.Dw1RefIdeal.τ Cert.Dw1RefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantRefIdeal (m : (ℓ : Loc Cert.QuantRefIdeal.nD Cert.QuantRefIdeal.τ Cert.QuantRefIdeal.sig) → Buf (Elt Ideal) ℓ) : Prop :=
  True

def Pre_Amax (m : (ℓ : Loc Cert.Amax.nD Cert.Amax.τ Cert.Amax.sig) → Buf (Elt Bits) ℓ) : Prop :=
  True

def Pre_AmaxIdeal (m : (ℓ : Loc Cert.AmaxIdeal.nD Cert.AmaxIdeal.τ Cert.AmaxIdeal.sig) → Buf (Elt Ideal) ℓ) : Prop :=
  True

def Pre_AmaxRefIdeal (m : (ℓ : Loc Cert.AmaxRefIdeal.nD Cert.AmaxRefIdeal.τ Cert.AmaxRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1)
      ∧ r.2.mem ((c.tc : Thread Cert.Dw1.nD Cert.Dw1.τ).loc Cert.Dw1.main_arg2) = m ((c.tc : Thread Cert.Dw1.nD Cert.Dw1.τ).loc Cert.Dw1.main_arg2)
      ∧ r.2.mem ((c.tc : Thread Cert.Dw1.nD Cert.Dw1.τ).loc Cert.Dw1.main_arg3) = m ((c.tc : Thread Cert.Dw1.nD Cert.Dw1.τ).loc Cert.Dw1.main_arg3))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1)
      ∧ r.2.mem ((c.tc : Thread Cert.Dw1Ideal.nD Cert.Dw1Ideal.τ).loc Cert.Dw1Ideal.main_arg2) = m ((c.tc : Thread Cert.Dw1Ideal.nD Cert.Dw1Ideal.τ).loc Cert.Dw1Ideal.main_arg2)
      ∧ r.2.mem ((c.tc : Thread Cert.Dw1Ideal.nD Cert.Dw1Ideal.τ).loc Cert.Dw1Ideal.main_arg3) = m ((c.tc : Thread Cert.Dw1Ideal.nD Cert.Dw1Ideal.τ).loc Cert.Dw1Ideal.main_arg3))
      ∧ r.2.sem = fun _ => 0)

def quiescent_Dw1RefIdeal [hDw1RefIdeal : Cert.Dw1RefIdeal.Facts] : Prop :=
  ∀ (m : (ℓ : Loc Cert.Dw1RefIdeal.nD Cert.Dw1RefIdeal.τ Cert.Dw1RefIdeal.sig) → Buf (Elt Ideal) ℓ) (g : Dev Cert.Dw1RefIdeal.nD → PrngReg), Pre_Dw1RefIdeal m →
    θ_run (Cert.Dw1RefIdeal.defs (F := Ideal)) (onTc (τ := Cert.Dw1RefIdeal.τ) (Cert.Dw1RefIdeal.main (F := Ideal))) ⟨m, fun _ => 0, g⟩ (fun r => (∀ c : Dev Cert.Dw1RefIdeal.nD,
      r.2.mem ((c.tc : Thread Cert.Dw1RefIdeal.nD Cert.Dw1RefIdeal.τ).loc Cert.Dw1RefIdeal.main_arg0) = m ((c.tc : Thread Cert.Dw1RefIdeal.nD Cert.Dw1RefIdeal.τ).loc Cert.Dw1RefIdeal.main_arg0)
      ∧ r.2.mem ((c.tc : Thread Cert.Dw1RefIdeal.nD Cert.Dw1RefIdeal.τ).loc Cert.Dw1RefIdeal.main_arg1) = m ((c.tc : Thread Cert.Dw1RefIdeal.nD Cert.Dw1RefIdeal.τ).loc Cert.Dw1RefIdeal.main_arg1)
      ∧ r.2.mem ((c.tc : Thread Cert.Dw1RefIdeal.nD Cert.Dw1RefIdeal.τ).loc Cert.Dw1RefIdeal.main_arg2) = m ((c.tc : Thread Cert.Dw1RefIdeal.nD Cert.Dw1RefIdeal.τ).loc Cert.Dw1RefIdeal.main_arg2)
      ∧ r.2.mem ((c.tc : Thread Cert.Dw1RefIdeal.nD Cert.Dw1RefIdeal.τ).loc Cert.Dw1RefIdeal.main_arg3) = m ((c.tc : Thread Cert.Dw1RefIdeal.nD Cert.Dw1RefIdeal.τ).loc Cert.Dw1RefIdeal.main_arg3))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1)
      ∧ r.2.mem ((c.tc : Thread Cert.Dw2.nD Cert.Dw2.τ).loc Cert.Dw2.main_arg2) = m ((c.tc : Thread Cert.Dw2.nD Cert.Dw2.τ).loc Cert.Dw2.main_arg2)
      ∧ r.2.mem ((c.tc : Thread Cert.Dw2.nD Cert.Dw2.τ).loc Cert.Dw2.main_arg3) = m ((c.tc : Thread Cert.Dw2.nD Cert.Dw2.τ).loc Cert.Dw2.main_arg3)
      ∧ r.2.mem ((c.tc : Thread Cert.Dw2.nD Cert.Dw2.τ).loc Cert.Dw2.main_arg4) = m ((c.tc : Thread Cert.Dw2.nD Cert.Dw2.τ).loc Cert.Dw2.main_arg4)
      ∧ r.2.mem ((c.tc : Thread Cert.Dw2.nD Cert.Dw2.τ).loc Cert.Dw2.main_arg5) = m ((c.tc : Thread Cert.Dw2.nD Cert.Dw2.τ).loc Cert.Dw2.main_arg5)
      ∧ r.2.mem ((c.tc : Thread Cert.Dw2.nD Cert.Dw2.τ).loc Cert.Dw2.main_arg6) = m ((c.tc : Thread Cert.Dw2.nD Cert.Dw2.τ).loc Cert.Dw2.main_arg6))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
      ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2)
      ∧ r.2.mem ((c.tc : Thread Cert.Dw2Ideal.nD Cert.Dw2Ideal.τ).loc Cert.Dw2Ideal.main_arg3) = m ((c.tc : Thread Cert.Dw2Ideal.nD Cert.Dw2Ideal.τ).loc Cert.Dw2Ideal.main_arg3)
      ∧ r.2.mem ((c.tc : Thread Cert.Dw2Ideal.nD Cert.Dw2Ideal.τ).loc Cert.Dw2Ideal.main_arg4) = m ((c.tc : Thread Cert.Dw2Ideal.nD Cert.Dw2Ideal.τ).loc Cert.Dw2Ideal.main_arg4)
      ∧ r.2.mem ((c.tc : Thread Cert.Dw2Ideal.nD Cert.Dw2Ideal.τ).loc Cert.Dw2Ideal.main_arg5) = m ((c.tc : Thread Cert.Dw2Ideal.nD Cert.Dw2Ideal.τ).loc Cert.Dw2Ideal.main_arg5)
      ∧ r.2.mem ((c.tc : Thread Cert.Dw2Ideal.nD Cert.Dw2Ideal.τ).loc Cert.Dw2Ideal.main_arg6) = m ((c.tc : Thread Cert.Dw2Ideal.nD Cert.Dw2Ideal.τ).loc Cert.Dw2Ideal.main_arg6))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1)
      ∧ r.2.mem ((c.tc : Thread Cert.Dw2RefIdeal.nD Cert.Dw2RefIdeal.τ).loc Cert.Dw2RefIdeal.main_arg2) = m ((c.tc : Thread Cert.Dw2RefIdeal.nD Cert.Dw2RefIdeal.τ).loc Cert.Dw2RefIdeal.main_arg2)
      ∧ r.2.mem ((c.tc : Thread Cert.Dw2RefIdeal.nD Cert.Dw2RefIdeal.τ).loc Cert.Dw2RefIdeal.main_arg3) = m ((c.tc : Thread Cert.Dw2RefIdeal.nD Cert.Dw2RefIdeal.τ).loc Cert.Dw2RefIdeal.main_arg3)
      ∧ r.2.mem ((c.tc : Thread Cert.Dw2RefIdeal.nD Cert.Dw2RefIdeal.τ).loc Cert.Dw2RefIdeal.main_arg4) = m ((c.tc : Thread Cert.Dw2RefIdeal.nD Cert.Dw2RefIdeal.τ).loc Cert.Dw2RefIdeal.main_arg4)
      ∧ r.2.mem ((c.tc : Thread Cert.Dw2RefIdeal.nD Cert.Dw2RefIdeal.τ).loc Cert.Dw2RefIdeal.main_arg5) = m ((c.tc : Thread Cert.Dw2RefIdeal.nD Cert.Dw2RefIdeal.τ).loc Cert.Dw2RefIdeal.main_arg5)
      ∧ r.2.mem ((c.tc : Thread Cert.Dw2RefIdeal.nD Cert.Dw2RefIdeal.τ).loc Cert.Dw2RefIdeal.main_arg6) = m ((c.tc : Thread Cert.Dw2RefIdeal.nD Cert.Dw2RefIdeal.τ).loc Cert.Dw2RefIdeal.main_arg6))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0)
      ∧ r.2.mem ((c.tc : Thread Cert.QuantRefIdeal.nD Cert.QuantRefIdeal.τ).loc Cert.QuantRefIdeal.main_arg1) = m ((c.tc : Thread Cert.QuantRefIdeal.nD Cert.QuantRefIdeal.τ).loc Cert.QuantRefIdeal.main_arg1))
      ∧ r.2.sem = fun _ => 0)

def quiescent_Amax [hAmax : Cert.Amax.Facts] : Prop :=
  ∀ (m : (ℓ : Loc Cert.Amax.nD Cert.Amax.τ Cert.Amax.sig) → Buf (Elt Bits) ℓ) (g : Dev Cert.Amax.nD → PrngReg), Pre_Amax m →
    θ_run (Cert.Amax.defs (F := Bits)) (onTc (τ := Cert.Amax.τ) (Cert.Amax.main (F := Bits))) ⟨m, fun _ => 0, g⟩ (fun r => (∀ c : Dev Cert.Amax.nD,
      r.2.mem ((c.tc : Thread Cert.Amax.nD Cert.Amax.τ).loc Cert.Amax.main_arg0) = m ((c.tc : Thread Cert.Amax.nD Cert.Amax.τ).loc Cert.Amax.main_arg0))
      ∧ r.2.sem = fun _ => 0)

def quiescent_AmaxIdeal [hAmaxIdeal : Cert.AmaxIdeal.Facts] : Prop :=
  ∀ (m : (ℓ : Loc Cert.AmaxIdeal.nD Cert.AmaxIdeal.τ Cert.AmaxIdeal.sig) → Buf (Elt Ideal) ℓ) (g : Dev Cert.AmaxIdeal.nD → PrngReg), Pre_AmaxIdeal m →
    θ_run (Cert.AmaxIdeal.defs (F := Ideal)) (onTc (τ := Cert.AmaxIdeal.τ) (Cert.AmaxIdeal.main (F := Ideal))) ⟨m, fun _ => 0, g⟩ (fun r => (∀ c : Dev Cert.AmaxIdeal.nD,
      r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ r.2.sem = fun _ => 0)

def quiescent_AmaxRefIdeal [hAmaxRefIdeal : Cert.AmaxRefIdeal.Facts] : Prop :=
  ∀ (m : (ℓ : Loc Cert.AmaxRefIdeal.nD Cert.AmaxRefIdeal.τ Cert.AmaxRefIdeal.sig) → Buf (Elt Ideal) ℓ) (g : Dev Cert.AmaxRefIdeal.nD → PrngReg), Pre_AmaxRefIdeal m →
    θ_run (Cert.AmaxRefIdeal.defs (F := Ideal)) (onTc (τ := Cert.AmaxRefIdeal.τ) (Cert.AmaxRefIdeal.main (F := Ideal))) ⟨m, fun _ => 0, g⟩ (fun r => (∀ c : Dev Cert.AmaxRefIdeal.nD,
      r.2.mem ((c.tc : Thread Cert.AmaxRefIdeal.nD Cert.AmaxRefIdeal.τ).loc Cert.AmaxRefIdeal.main_arg0) = m ((c.tc : Thread Cert.AmaxRefIdeal.nD Cert.AmaxRefIdeal.τ).loc Cert.AmaxRefIdeal.main_arg0))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4))
      ∧ r.2.sem = fun _ => 0)

def preserves_Dw1_Dw1Ideal : Prop :=
  True

def algebraic_Dw1Ideal_Dw1RefIdeal [hDw1Ideal : Cert.Dw1Ideal.Facts] [hDw1RefIdeal : Cert.Dw1RefIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1RefIdeal.nD Cert.Dw1RefIdeal.τ Cert.Dw1RefIdeal.sig) → Buf (Elt Ideal) ℓ) (g' : Dev Cert.Dw1RefIdeal.nD → PrngReg), Pre_Dw1Ideal m →
    (∀ c : Dev Cert.Dw1Ideal.nD,
      m' ((c.tc : Thread Cert.Dw1RefIdeal.nD Cert.Dw1RefIdeal.τ).loc Cert.Dw1RefIdeal.main_arg0) = m ((c.tc : Thread Cert.Dw1Ideal.nD Cert.Dw1Ideal.τ).loc Cert.Dw1Ideal.main_arg0)
      ∧ m' ((c.tc : Thread Cert.Dw1RefIdeal.nD Cert.Dw1RefIdeal.τ).loc Cert.Dw1RefIdeal.main_arg1) = m ((c.tc : Thread Cert.Dw1Ideal.nD Cert.Dw1Ideal.τ).loc Cert.Dw1Ideal.main_arg1)
      ∧ m' ((c.tc : Thread Cert.Dw1RefIdeal.nD Cert.Dw1RefIdeal.τ).loc Cert.Dw1RefIdeal.main_arg2) = m ((c.tc : Thread Cert.Dw1Ideal.nD Cert.Dw1Ideal.τ).loc Cert.Dw1Ideal.main_arg2)
      ∧ m' ((c.tc : Thread Cert.Dw1RefIdeal.nD Cert.Dw1RefIdeal.τ).loc Cert.Dw1RefIdeal.main_arg3) = m ((c.tc : Thread Cert.Dw1Ideal.nD Cert.Dw1Ideal.τ).loc Cert.Dw1Ideal.main_arg3)) →
    ∃ (v0 : (c : Dev Cert.Dw1Ideal.nD) → Buf (Elt Ideal) ((c.tc : Thread Cert.Dw1Ideal.nD Cert.Dw1Ideal.τ).loc Cert.Dw1Ideal.main_v2)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v2) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1)
          ∧ r.2.mem ((c.tc : Thread Cert.Dw1Ideal.nD Cert.Dw1Ideal.τ).loc Cert.Dw1Ideal.main_arg2) = m ((c.tc : Thread Cert.Dw1Ideal.nD Cert.Dw1Ideal.τ).loc Cert.Dw1Ideal.main_arg2)
          ∧ r.2.mem ((c.tc : Thread Cert.Dw1Ideal.nD Cert.Dw1Ideal.τ).loc Cert.Dw1Ideal.main_arg3) = m ((c.tc : Thread Cert.Dw1Ideal.nD Cert.Dw1Ideal.τ).loc Cert.Dw1Ideal.main_arg3))
      ∧ θ_run (Cert.Dw1RefIdeal.defs (F := Ideal)) (onTc (τ := Cert.Dw1RefIdeal.τ) (Cert.Dw1RefIdeal.main (F := Ideal))) ⟨m', fun _ => 0, g'⟩ (fun r => ∀ c : Dev Cert.Dw1RefIdeal.nD,
          r.2.mem ((c.tc : Thread Cert.Dw1RefIdeal.nD Cert.Dw1RefIdeal.τ).loc Cert.Dw1RefIdeal.main_v2) = v0 c
          ∧ r.2.mem ((c.tc : Thread Cert.Dw1RefIdeal.nD Cert.Dw1RefIdeal.τ).loc Cert.Dw1RefIdeal.main_arg0) = m' ((c.tc : Thread Cert.Dw1RefIdeal.nD Cert.Dw1RefIdeal.τ).loc Cert.Dw1RefIdeal.main_arg0)
          ∧ r.2.mem ((c.tc : Thread Cert.Dw1RefIdeal.nD Cert.Dw1RefIdeal.τ).loc Cert.Dw1RefIdeal.main_arg1) = m' ((c.tc : Thread Cert.Dw1RefIdeal.nD Cert.Dw1RefIdeal.τ).loc Cert.Dw1RefIdeal.main_arg1)
          ∧ r.2.mem ((c.tc : Thread Cert.Dw1RefIdeal.nD Cert.Dw1RefIdeal.τ).loc Cert.Dw1RefIdeal.main_arg2) = m' ((c.tc : Thread Cert.Dw1RefIdeal.nD Cert.Dw1RefIdeal.τ).loc Cert.Dw1RefIdeal.main_arg2)
          ∧ r.2.mem ((c.tc : Thread Cert.Dw1RefIdeal.nD Cert.Dw1RefIdeal.τ).loc Cert.Dw1RefIdeal.main_arg3) = m' ((c.tc : Thread Cert.Dw1RefIdeal.nD Cert.Dw1RefIdeal.τ).loc Cert.Dw1RefIdeal.main_arg3))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)) →
    ∃ (v0 : (c : Dev Cert.DxIdeal.nD) → Buf (Elt Ideal) ((c.tc : Thread Cert.DxIdeal.nD Cert.DxIdeal.τ).loc Cert.DxIdeal.main_v1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v1) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v1) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)
      ∧ m' ((c.tc : Thread Cert.Dw2RefIdeal.nD Cert.Dw2RefIdeal.τ).loc Cert.Dw2RefIdeal.main_arg2) = m ((c.tc : Thread Cert.Dw2Ideal.nD Cert.Dw2Ideal.τ).loc Cert.Dw2Ideal.main_arg2)
      ∧ m' ((c.tc : Thread Cert.Dw2RefIdeal.nD Cert.Dw2RefIdeal.τ).loc Cert.Dw2RefIdeal.main_arg3) = m ((c.tc : Thread Cert.Dw2Ideal.nD Cert.Dw2Ideal.τ).loc Cert.Dw2Ideal.main_arg3)
      ∧ m' ((c.tc : Thread Cert.Dw2RefIdeal.nD Cert.Dw2RefIdeal.τ).loc Cert.Dw2RefIdeal.main_arg4) = m ((c.tc : Thread Cert.Dw2Ideal.nD Cert.Dw2Ideal.τ).loc Cert.Dw2Ideal.main_arg4)
      ∧ m' ((c.tc : Thread Cert.Dw2RefIdeal.nD Cert.Dw2RefIdeal.τ).loc Cert.Dw2RefIdeal.main_arg5) = m ((c.tc : Thread Cert.Dw2Ideal.nD Cert.Dw2Ideal.τ).loc Cert.Dw2Ideal.main_arg5)
      ∧ m' ((c.tc : Thread Cert.Dw2RefIdeal.nD Cert.Dw2RefIdeal.τ).loc Cert.Dw2RefIdeal.main_arg6) = m ((c.tc : Thread Cert.Dw2Ideal.nD Cert.Dw2Ideal.τ).loc Cert.Dw2Ideal.main_arg6)) →
    ∃ (v0 : (c : Dev Cert.Dw2Ideal.nD) → Buf (Elt Ideal) ((c.tc : Thread Cert.Dw2Ideal.nD Cert.Dw2Ideal.τ).loc Cert.Dw2Ideal.main_v2_0)) (v1 : (c : Dev Cert.Dw2Ideal.nD) → Buf (Elt Ideal) ((c.tc : Thread Cert.Dw2Ideal.nD Cert.Dw2Ideal.τ).loc Cert.Dw2Ideal.main_v2_1)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v2_0) = v0 c
          ∧ r.2.mem ((c.tc : Thread Cert.Dw2Ideal.nD Cert.Dw2Ideal.τ).loc Cert.Dw2Ideal.main_v2_1) = v1 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
          ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2)
          ∧ r.2.mem ((c.tc : Thread Cert.Dw2Ideal.nD Cert.Dw2Ideal.τ).loc Cert.Dw2Ideal.main_arg3) = m ((c.tc : Thread Cert.Dw2Ideal.nD Cert.Dw2Ideal.τ).loc Cert.Dw2Ideal.main_arg3)
          ∧ r.2.mem ((c.tc : Thread Cert.Dw2Ideal.nD Cert.Dw2Ideal.τ).loc Cert.Dw2Ideal.main_arg4) = m ((c.tc : Thread Cert.Dw2Ideal.nD Cert.Dw2Ideal.τ).loc Cert.Dw2Ideal.main_arg4)
          ∧ r.2.mem ((c.tc : Thread Cert.Dw2Ideal.nD Cert.Dw2Ideal.τ).loc Cert.Dw2Ideal.main_arg5) = m ((c.tc : Thread Cert.Dw2Ideal.nD Cert.Dw2Ideal.τ).loc Cert.Dw2Ideal.main_arg5)
          ∧ r.2.mem ((c.tc : Thread Cert.Dw2Ideal.nD Cert.Dw2Ideal.τ).loc Cert.Dw2Ideal.main_arg6) = m ((c.tc : Thread Cert.Dw2Ideal.nD Cert.Dw2Ideal.τ).loc Cert.Dw2Ideal.main_arg6))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v2_0) = v0 c
          ∧ r.2.mem ((c.tc : Thread Cert.Dw2RefIdeal.nD Cert.Dw2RefIdeal.τ).loc Cert.Dw2RefIdeal.main_v2_1) = v1 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1)
          ∧ r.2.mem ((c.tc : Thread Cert.Dw2RefIdeal.nD Cert.Dw2RefIdeal.τ).loc Cert.Dw2RefIdeal.main_arg2) = m' ((c.tc : Thread Cert.Dw2RefIdeal.nD Cert.Dw2RefIdeal.τ).loc Cert.Dw2RefIdeal.main_arg2)
          ∧ r.2.mem ((c.tc : Thread Cert.Dw2RefIdeal.nD Cert.Dw2RefIdeal.τ).loc Cert.Dw2RefIdeal.main_arg3) = m' ((c.tc : Thread Cert.Dw2RefIdeal.nD Cert.Dw2RefIdeal.τ).loc Cert.Dw2RefIdeal.main_arg3)
          ∧ r.2.mem ((c.tc : Thread Cert.Dw2RefIdeal.nD Cert.Dw2RefIdeal.τ).loc Cert.Dw2RefIdeal.main_arg4) = m' ((c.tc : Thread Cert.Dw2RefIdeal.nD Cert.Dw2RefIdeal.τ).loc Cert.Dw2RefIdeal.main_arg4)
          ∧ r.2.mem ((c.tc : Thread Cert.Dw2RefIdeal.nD Cert.Dw2RefIdeal.τ).loc Cert.Dw2RefIdeal.main_arg5) = m' ((c.tc : Thread Cert.Dw2RefIdeal.nD Cert.Dw2RefIdeal.τ).loc Cert.Dw2RefIdeal.main_arg5)
          ∧ r.2.mem ((c.tc : Thread Cert.Dw2RefIdeal.nD Cert.Dw2RefIdeal.τ).loc Cert.Dw2RefIdeal.main_arg6) = m' ((c.tc : Thread Cert.Dw2RefIdeal.nD Cert.Dw2RefIdeal.τ).loc Cert.Dw2RefIdeal.main_arg6))

def preserves_Quant_QuantIdeal : Prop :=
  True

def algebraic_QuantIdeal_QuantRefIdeal [hQuantIdeal : Cert.QuantIdeal.Facts] [hQuantRefIdeal : Cert.QuantRefIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantIdeal m →
    (∀ c : Dev Cert.QuantIdeal.nD,
      m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)
      ∧ m' ((c.tc : Thread Cert.QuantRefIdeal.nD Cert.QuantRefIdeal.τ).loc Cert.QuantRefIdeal.main_arg1) = m ((c.tc : Thread Cert.QuantIdeal.nD Cert.QuantIdeal.τ).loc Cert.QuantIdeal.main_arg1)) →
    ∃ (v0 : (c : Dev Cert.QuantIdeal.nD) → Buf (Elt Ideal) ((c.tc : Thread Cert.QuantIdeal.nD Cert.QuantIdeal.τ).loc Cert.QuantIdeal.main_v1)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v1) = v0 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v1) = v0 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0)
          ∧ r.2.mem ((c.tc : Thread Cert.QuantRefIdeal.nD Cert.QuantRefIdeal.τ).loc Cert.QuantRefIdeal.main_arg1) = m' ((c.tc : Thread Cert.QuantRefIdeal.nD Cert.QuantRefIdeal.τ).loc Cert.QuantRefIdeal.main_arg1))

def preserves_Amax_AmaxIdeal : Prop :=
  True

def algebraic_AmaxIdeal_AmaxRefIdeal [hAmaxIdeal : Cert.AmaxIdeal.Facts] [hAmaxRefIdeal : Cert.AmaxRefIdeal.Facts] : Prop :=
  ∀ (m : (ℓ : Loc Cert.AmaxIdeal.nD Cert.AmaxIdeal.τ Cert.AmaxIdeal.sig) → Buf (Elt Ideal) ℓ) (g : Dev Cert.AmaxIdeal.nD → PrngReg)
    (m' : (ℓ : Loc Cert.AmaxRefIdeal.nD Cert.AmaxRefIdeal.τ Cert.AmaxRefIdeal.sig) → Buf (Elt Ideal) ℓ) (g' : Dev Cert.AmaxRefIdeal.nD → PrngReg), Pre_AmaxIdeal m →
    (∀ c : Dev Cert.AmaxIdeal.nD,
      m' ((c.tc : Thread Cert.AmaxRefIdeal.nD Cert.AmaxRefIdeal.τ).loc Cert.AmaxRefIdeal.main_arg0) = m ((c.tc : Thread Cert.AmaxIdeal.nD Cert.AmaxIdeal.τ).loc Cert.AmaxIdeal.main_arg0)) →
    ∃ (v0 : (c : Dev Cert.AmaxIdeal.nD) → Buf (Elt Ideal) ((c.tc : Thread Cert.AmaxIdeal.nD Cert.AmaxIdeal.τ).loc Cert.AmaxIdeal.main_v1_0)),
      θ_run (Cert.AmaxIdeal.defs (F := Ideal)) (onTc (τ := Cert.AmaxIdeal.τ) (Cert.AmaxIdeal.main (F := Ideal))) ⟨m, fun _ => 0, g⟩ (fun r => ∀ c : Dev Cert.AmaxIdeal.nD,
          r.2.mem ((c.tc : Thread Cert.AmaxIdeal.nD Cert.AmaxIdeal.τ).loc Cert.AmaxIdeal.main_v1_0) = v0 c
          ∧ r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ θ_run (Cert.AmaxRefIdeal.defs (F := Ideal)) (onTc (τ := Cert.AmaxRefIdeal.τ) (Cert.AmaxRefIdeal.main (F := Ideal))) ⟨m', fun _ => 0, g'⟩ (fun r => ∀ c : Dev Cert.AmaxRefIdeal.nD,
          r.2.mem ((c.tc : Thread Cert.AmaxRefIdeal.nD Cert.AmaxRefIdeal.τ).loc Cert.AmaxRefIdeal.main_v1) = v0 c
          ∧ r.2.mem ((c.tc : Thread Cert.AmaxRefIdeal.nD Cert.AmaxRefIdeal.τ).loc Cert.AmaxRefIdeal.main_arg0) = m' ((c.tc : Thread Cert.AmaxRefIdeal.nD Cert.AmaxRefIdeal.τ).loc Cert.AmaxRefIdeal.main_arg0))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)) →
    ∃ (v0 : (c : Dev Cert.DhIdeal.nD) → Buf (Elt Ideal) ((c.tc : Thread Cert.DhIdeal.nD Cert.DhIdeal.τ).loc Cert.DhIdeal.main_v2_0)) (v1 : (c : Dev Cert.DhIdeal.nD) → Buf (Elt Ideal) ((c.tc : Thread Cert.DhIdeal.nD Cert.DhIdeal.τ).loc Cert.DhIdeal.main_v2_1)) (v2 : (c : Dev Cert.DhIdeal.nD) → Buf (Elt Ideal) ((c.tc : Thread Cert.DhIdeal.nD Cert.DhIdeal.τ).loc Cert.DhIdeal.main_v2_2)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v2_0) = v0 c
          ∧ r.2.mem ((c.tc : Thread Cert.DhIdeal.nD Cert.DhIdeal.τ).loc Cert.DhIdeal.main_v2_1) = v1 c
          ∧ r.2.mem ((c.tc : Thread Cert.DhIdeal.nD Cert.DhIdeal.τ).loc Cert.DhIdeal.main_v2_2) = v2 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v2_0) = v0 c
          ∧ r.2.mem ((c.tc : Thread Cert.DhRefIdeal.nD Cert.DhRefIdeal.τ).loc Cert.DhRefIdeal.main_v2_1) = v1 c
          ∧ r.2.mem ((c.tc : Thread Cert.DhRefIdeal.nD Cert.DhRefIdeal.τ).loc Cert.DhRefIdeal.main_v2_2) = v2 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4))

def Claim : Prop :=
  ∃ (hDw1 : Cert.Dw1.Facts) (hDw1Ideal : Cert.Dw1Ideal.Facts) (hDw1RefIdeal : Cert.Dw1RefIdeal.Facts) (hDx : Cert.Dx.Facts) (hDxIdeal : Cert.DxIdeal.Facts) (hDxRefIdeal : Cert.DxRefIdeal.Facts) (hDw2 : Cert.Dw2.Facts) (hDw2Ideal : Cert.Dw2Ideal.Facts) (hDw2RefIdeal : Cert.Dw2RefIdeal.Facts) (hQuant : Cert.Quant.Facts) (hQuantIdeal : Cert.QuantIdeal.Facts) (hQuantRefIdeal : Cert.QuantRefIdeal.Facts) (hAmax : Cert.Amax.Facts) (hAmaxIdeal : Cert.AmaxIdeal.Facts) (hAmaxRefIdeal : Cert.AmaxRefIdeal.Facts) (hDh : Cert.Dh.Facts) (hDhIdeal : Cert.DhIdeal.Facts) (hDhRefIdeal : Cert.DhRefIdeal.Facts),
    quiescent_Dw1 (hDw1 := hDw1)
    ∧ quiescent_Dw1Ideal (hDw1Ideal := hDw1Ideal)
    ∧ quiescent_Dw1RefIdeal (hDw1RefIdeal := hDw1RefIdeal)
    ∧ quiescent_Dx (hDx := hDx)
    ∧ quiescent_DxIdeal (hDxIdeal := hDxIdeal)
    ∧ quiescent_DxRefIdeal (hDxRefIdeal := hDxRefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_Quant (hQuant := hQuant)
    ∧ quiescent_QuantIdeal (hQuantIdeal := hQuantIdeal)
    ∧ quiescent_QuantRefIdeal (hQuantRefIdeal := hQuantRefIdeal)
    ∧ quiescent_Amax (hAmax := hAmax)
    ∧ quiescent_AmaxIdeal (hAmaxIdeal := hAmaxIdeal)
    ∧ quiescent_AmaxRefIdeal (hAmaxRefIdeal := hAmaxRefIdeal)
    ∧ quiescent_Dh (hDh := hDh)
    ∧ quiescent_DhIdeal (hDhIdeal := hDhIdeal)
    ∧ quiescent_DhRefIdeal (hDhRefIdeal := hDhRefIdeal)
    ∧ preserves_Dw1_Dw1Ideal
    ∧ algebraic_Dw1Ideal_Dw1RefIdeal (hDw1Ideal := hDw1Ideal) (hDw1RefIdeal := hDw1RefIdeal)
    ∧ preserves_Dx_DxIdeal
    ∧ algebraic_DxIdeal_DxRefIdeal (hDxIdeal := hDxIdeal) (hDxRefIdeal := hDxRefIdeal)
    ∧ preserves_Dw2_Dw2Ideal
    ∧ algebraic_Dw2Ideal_Dw2RefIdeal (hDw2Ideal := hDw2Ideal) (hDw2RefIdeal := hDw2RefIdeal)
    ∧ preserves_Quant_QuantIdeal
    ∧ algebraic_QuantIdeal_QuantRefIdeal (hQuantIdeal := hQuantIdeal) (hQuantRefIdeal := hQuantRefIdeal)
    ∧ preserves_Amax_AmaxIdeal
    ∧ algebraic_AmaxIdeal_AmaxRefIdeal (hAmaxIdeal := hAmaxIdeal) (hAmaxRefIdeal := hAmaxRefIdeal)
    ∧ preserves_Dh_DhIdeal
    ∧ algebraic_DhIdeal_DhRefIdeal (hDhIdeal := hDhIdeal) (hDhRefIdeal := hDhRefIdeal)
-- ==== Dw1.lean ====
abbrev S1x3072x8192 : Shape := ⟨3, ![1, 3072, 8192]⟩
abbrev S_ : Shape := ⟨0, ![]⟩
abbrev S3072x32768 : Shape := ⟨2, ![3072, 32768]⟩
abbrev S8x128 : Shape := ⟨2, ![8, 128]⟩
abbrev S3072x8192 : Shape := ⟨2, ![3072, 8192]⟩
abbrev S1 : Shape := ⟨1, ![1]⟩
abbrev S8192x32768 : Shape := ⟨2, ![8192, 32768]⟩
abbrev S3072x2048 : Shape := ⟨2, ![3072, 2048]⟩
abbrev S3072x1024 : Shape := ⟨2, ![3072, 1024]⟩
abbrev S2048x1024 : Shape := ⟨2, ![2048, 1024]⟩
abbrev S2048x3072 : Shape := ⟨2, ![2048, 3072]⟩
abbrev S1x1 : Shape := ⟨2, ![1, 1]⟩

abbrev nBuf : Space → Nat
  | .hbm => 7
  | .vmem => 8
  | .smem => 1
  | _ => 0

abbrev bufTy : (tb : Table) → Fin (tcTables nBuf tb) → BufTy
  | .hbm, ⟨0, _⟩ => ⟨S1x3072x8192, .fp8e4m3⟩
  | .hbm, ⟨1, _⟩ => ⟨S_, .f32⟩
  | .hbm, ⟨2, _⟩ => ⟨S3072x32768, .fp8e5m2⟩
  | .hbm, ⟨3, _⟩ => ⟨S8x128, .f32⟩
  | .hbm, ⟨4, _⟩ => ⟨S3072x8192, .fp8e4m3⟩
  | .hbm, ⟨5, _⟩ => ⟨S1, .f32⟩
  | .hbm, ⟨6, _⟩ => ⟨S8192x32768, .bf16⟩
  | .local _ .vmem, ⟨0, _⟩ => ⟨S3072x2048, .fp8e4m3⟩
  | .local _ .vmem, ⟨1, _⟩ => ⟨S3072x2048, .fp8e4m3⟩
  | .local _ .vmem, ⟨2, _⟩ => ⟨S3072x1024, .fp8e5m2⟩
  | .local _ .vmem, ⟨3, _⟩ => ⟨S3072x1024, .fp8e5m2⟩
  | .local _ .vmem, ⟨4, _⟩ => ⟨S8x128, .f32⟩
  | .local _ .vmem, ⟨5, _⟩ => ⟨S2048x1024, .bf16⟩
  | .local _ .vmem, ⟨6, _⟩ => ⟨S2048x1024, .bf16⟩
  | .local _ .vmem, ⟨7, _⟩ => ⟨S2048x3072, .fp8e4m3⟩
  | .local _ .smem, ⟨0, _⟩ => ⟨S1, .f32⟩
  | _, _ => ⟨S1x3072x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S3072x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3072x1024 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Dw1RefIdeal.lean ====
abbrev S1x3072x8192 : Shape := ⟨3, ![1, 3072, 8192]⟩
abbrev S_ : Shape := ⟨0, ![]⟩
abbrev S3072x32768 : Shape := ⟨2, ![3072, 32768]⟩
abbrev S8x128 : Shape := ⟨2, ![8, 128]⟩
abbrev S3072x8192 : Shape := ⟨2, ![3072, 8192]⟩
abbrev S1 : Shape := ⟨1, ![1]⟩
abbrev S8192x32768 : Shape := ⟨2, ![8192, 32768]⟩
abbrev S1x1 : Shape := ⟨2, ![1, 1]⟩

abbrev nBuf : Space → Nat
  | .hbm => 7
  | .vmem => 4
  | .smem => 1
  | _ => 0

abbrev bufTy : (tb : Table) → Fin (tcTables nBuf tb) → BufTy
  | .hbm, ⟨0, _⟩ => ⟨S1x3072x8192, .fp8e4m3⟩
  | .hbm, ⟨1, _⟩ => ⟨S_, .f32⟩
  | .hbm, ⟨2, _⟩ => ⟨S3072x32768, .fp8e5m2⟩
  | .hbm, ⟨3, _⟩ => ⟨S8x128, .f32⟩
  | .hbm, ⟨4, _⟩ => ⟨S3072x8192, .fp8e4m3⟩
  | .hbm, ⟨5, _⟩ => ⟨S1, .f32⟩
  | .hbm, ⟨6, _⟩ => ⟨S8192x32768, .bf16⟩
  | .local _ .vmem, ⟨0, _⟩ => ⟨S3072x8192, .fp8e4m3⟩
  | .local _ .vmem, ⟨1, _⟩ => ⟨S3072x32768, .fp8e5m2⟩
  | .local _ .vmem, ⟨2, _⟩ => ⟨S8x128, .f32⟩
  | .local _ .vmem, ⟨3, _⟩ => ⟨S8192x32768, .bf16⟩
  | .local _ .smem, ⟨0, _⟩ => ⟨S1, .f32⟩
  | _, _ => ⟨S1x3072x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3072x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x32768 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x32768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Dx.lean ====
abbrev S3072x32768 : Shape := ⟨2, ![3072, 32768]⟩
abbrev S8x128 : Shape := ⟨2, ![8, 128]⟩
abbrev S8192x32768 : Shape := ⟨2, ![8192, 32768]⟩
abbrev S_ : Shape := ⟨0, ![]⟩
abbrev S1 : Shape := ⟨1, ![1]⟩
abbrev S3072x8192 : Shape := ⟨2, ![3072, 8192]⟩
abbrev S1536x2048 : Shape := ⟨2, ![1536, 2048]⟩
abbrev S2048x2048 : Shape := ⟨2, ![2048, 2048]⟩
abbrev S1x1 : Shape := ⟨2, ![1, 1]⟩

abbrev nBuf : Space → Nat
  | .hbm => 6
  | .vmem => 8
  | .smem => 1
  | _ => 0

abbrev bufTy : (tb : Table) → Fin (tcTables nBuf tb) → BufTy
  | .hbm, ⟨0, _⟩ => ⟨S3072x32768, .fp8e5m2⟩
  | .hbm, ⟨1, _⟩ => ⟨S8x128, .f32⟩
  | .hbm, ⟨2, _⟩ => ⟨S8192x32768, .fp8e4m3⟩
  | .hbm, ⟨3, _⟩ => ⟨S_, .f32⟩
  | .hbm, ⟨4, _⟩ => ⟨S1, .f32⟩
  | .hbm, ⟨5, _⟩ => ⟨S3072x8192, .bf16⟩
  | .local _ .vmem, ⟨0, _⟩ => ⟨S1536x2048, .fp8e5m2⟩
  | .local _ .vmem, ⟨1, _⟩ => ⟨S1536x2048, .fp8e5m2⟩
  | .local _ .vmem, ⟨2, _⟩ => ⟨S2048x2048, .fp8e4m3⟩
  | .local _ .vmem, ⟨3, _⟩ => ⟨S2048x2048, .fp8e4m3⟩
  | .local _ .vmem, ⟨4, _⟩ => ⟨S8x128, .f32⟩
  | .local _ .vmem, ⟨5, _⟩ => ⟨S1536x2048, .bf16⟩
  | .local _ .vmem, ⟨6, _⟩ => ⟨S1536x2048, .bf16⟩
  | .local _ .vmem, ⟨7, _⟩ => ⟨S1536x2048, .f32⟩
  | .local _ .smem, ⟨0, _⟩ => ⟨S1, .f32⟩
  | _, _ => ⟨S3072x32768, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![2, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1536x2048 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1536x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DxRefIdeal.lean ====
abbrev S3072x32768 : Shape := ⟨2, ![3072, 32768]⟩
abbrev S8x128 : Shape := ⟨2, ![8, 128]⟩
abbrev S8192x32768 : Shape := ⟨2, ![8192, 32768]⟩
abbrev S_ : Shape := ⟨0, ![]⟩
abbrev S1 : Shape := ⟨1, ![1]⟩
abbrev S3072x8192 : Shape := ⟨2, ![3072, 8192]⟩
abbrev S1x1 : Shape := ⟨2, ![1, 1]⟩

abbrev nBuf : Space → Nat
  | .hbm => 6
  | .vmem => 4
  | .smem => 1
  | _ => 0

abbrev bufTy : (tb : Table) → Fin (tcTables nBuf tb) → BufTy
  | .hbm, ⟨0, _⟩ => ⟨S3072x32768, .fp8e5m2⟩
  | .hbm, ⟨1, _⟩ => ⟨S8x128, .f32⟩
  | .hbm, ⟨2, _⟩ => ⟨S8192x32768, .fp8e4m3⟩
  | .hbm, ⟨3, _⟩ => ⟨S_, .f32⟩
  | .hbm, ⟨4, _⟩ => ⟨S1, .f32⟩
  | .hbm, ⟨5, _⟩ => ⟨S3072x8192, .bf16⟩
  | .local _ .vmem, ⟨0, _⟩ => ⟨S3072x32768, .fp8e5m2⟩
  | .local _ .vmem, ⟨1, _⟩ => ⟨S8x128, .f32⟩
  | .local _ .vmem, ⟨2, _⟩ => ⟨S8192x32768, .fp8e4m3⟩
  | .local _ .vmem, ⟨3, _⟩ => ⟨S3072x8192, .bf16⟩
  | .local _ .smem, ⟨0, _⟩ => ⟨S1, .f32⟩
  | _, _ => ⟨S3072x32768, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3072x32768 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x32768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Dw2.lean ====
abbrev S1x3072x16384 : Shape := ⟨3, ![1, 3072, 16384]⟩
abbrev S_ : Shape := ⟨0, ![]⟩
abbrev S3072x8192 : Shape := ⟨2, ![3072, 8192]⟩
abbrev S8x128 : Shape := ⟨2, ![8, 128]⟩
abbrev S3072x16384 : Shape := ⟨2, ![3072, 16384]⟩
abbrev S1 : Shape := ⟨1, ![1]⟩
abbrev S16384x8192 : Shape := ⟨2, ![16384, 8192]⟩
abbrev S3072x32768 : Shape := ⟨2, ![3072, 32768]⟩
abbrev S3072x2048 : Shape := ⟨2, ![3072, 2048]⟩
abbrev S3072x1024 : Shape := ⟨2, ![3072, 1024]⟩
abbrev S3072x512 : Shape := ⟨2, ![3072, 512]⟩
abbrev S2048x1024 : Shape := ⟨2, ![2048, 1024]⟩
abbrev S2048x3072 : Shape := ⟨2, ![2048, 3072]⟩
abbrev S1x1 : Shape := ⟨2, ![1, 1]⟩

abbrev nBuf : Space → Nat
  | .hbm => 11
  | .vmem => 15
  | .smem => 1
  | _ => 0

abbrev bufTy : (tb : Table) → Fin (tcTables nBuf tb) → BufTy
  | .hbm, ⟨0, _⟩ => ⟨S1x3072x16384, .fp8e4m3⟩
  | .hbm, ⟨1, _⟩ => ⟨S_, .f32⟩
  | .hbm, ⟨2, _⟩ => ⟨S3072x8192, .fp8e5m2⟩
  | .hbm, ⟨3, _⟩ => ⟨S8x128, .f32⟩
  | .hbm, ⟨4, _⟩ => ⟨S3072x16384, .bf16⟩
  | .hbm, ⟨5, _⟩ => ⟨S3072x16384, .bf16⟩
  | .hbm, ⟨6, _⟩ => ⟨S8x128, .f32⟩
  | .hbm, ⟨7, _⟩ => ⟨S3072x16384, .fp8e4m3⟩
  | .hbm, ⟨8, _⟩ => ⟨S1, .f32⟩
  | .hbm, ⟨9, _⟩ => ⟨S16384x8192, .bf16⟩
  | .hbm, ⟨10, _⟩ => ⟨S3072x32768, .fp8e5m2⟩
  | .local _ .vmem, ⟨0, _⟩ => ⟨S3072x2048, .fp8e4m3⟩
  | .local _ .vmem, ⟨1, _⟩ => ⟨S3072x2048, .fp8e4m3⟩
  | .local _ .vmem, ⟨2, _⟩ => ⟨S3072x1024, .fp8e5m2⟩
  | .local _ .vmem, ⟨3, _⟩ => ⟨S3072x1024, .fp8e5m2⟩
  | .local _ .vmem, ⟨4, _⟩ => ⟨S3072x512, .bf16⟩
  | .local _ .vmem, ⟨5, _⟩ => ⟨S3072x512, .bf16⟩
  | .local _ .vmem, ⟨6, _⟩ => ⟨S3072x512, .bf16⟩
  | .local _ .vmem, ⟨7, _⟩ => ⟨S3072x512, .bf16⟩
  | .local _ .vmem, ⟨8, _⟩ => ⟨S8x128, .f32⟩
  | .local _ .vmem, ⟨9, _⟩ => ⟨S8x128, .f32⟩
  | .local _ .vmem, ⟨10, _⟩ => ⟨S2048x1024, .bf16⟩
  | .local _ .vmem, ⟨11, _⟩ => ⟨S2048x1024, .bf16⟩
  | .local _ .vmem, ⟨12, _⟩ => ⟨S3072x512, .fp8e5m2⟩
  | .local _ .vmem, ⟨13, _⟩ => ⟨S3072x512, .fp8e5m2⟩
  | .local _ .vmem, ⟨14, _⟩ => ⟨S2048x3072, .fp8e4m3⟩
  | .local _ .smem, ⟨0, _⟩ => ⟨S1, .f32⟩
  | _, _ => ⟨S1x3072x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c32_i32 : BitVec 32 := 32#32
  let v5 : BitVec 1 := Scalar.cmpi .slt v1 c32_i32
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c32_i32_2 : BitVec 32 := 32#32
  let v8 : BitVec 1 := Scalar.cmpi .sge v1 c32_i32_2
  let v9 : BitVec 32 := Scalar.extui v8
  let c0_i32_3 : BitVec 32 := 0#32
  let v10 : BitVec 1 := Scalar.cmpi .ne v9 c0_i32_3
  v10

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.subi v1 c32_i32
  let c0_i32 : BitVec 32 := 0#32
  let v3 : BitVec 32 := Scalar.maxsi v2 c0_i32
  let c0_i32_0 : BitVec 32 := 0#32
  let c0_i32_1 : BitVec 32 := 0#32
  ![c0_i32_0.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S3072x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3072x1024 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3072x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3072x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3072x512 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Dw2RefIdeal.lean ====
abbrev S1x3072x16384 : Shape := ⟨3, ![1, 3072, 16384]⟩
abbrev S_ : Shape := ⟨0, ![]⟩
abbrev S3072x8192 : Shape := ⟨2, ![3072, 8192]⟩
abbrev S8x128 : Shape := ⟨2, ![8, 128]⟩
abbrev S3072x16384 : Shape := ⟨2, ![3072, 16384]⟩
abbrev S1 : Shape := ⟨1, ![1]⟩
abbrev S16384x8192 : Shape := ⟨2, ![16384, 8192]⟩
abbrev S3072x32768 : Shape := ⟨2, ![3072, 32768]⟩
abbrev S1x1 : Shape := ⟨2, ![1, 1]⟩

abbrev nBuf : Space → Nat
  | .hbm => 11
  | .vmem => 8
  | .smem => 1
  | _ => 0

abbrev bufTy : (tb : Table) → Fin (tcTables nBuf tb) → BufTy
  | .hbm, ⟨0, _⟩ => ⟨S1x3072x16384, .fp8e4m3⟩
  | .hbm, ⟨1, _⟩ => ⟨S_, .f32⟩
  | .hbm, ⟨2, _⟩ => ⟨S3072x8192, .fp8e5m2⟩
  | .hbm, ⟨3, _⟩ => ⟨S8x128, .f32⟩
  | .hbm, ⟨4, _⟩ => ⟨S3072x16384, .bf16⟩
  | .hbm, ⟨5, _⟩ => ⟨S3072x16384, .bf16⟩
  | .hbm, ⟨6, _⟩ => ⟨S8x128, .f32⟩
  | .hbm, ⟨7, _⟩ => ⟨S3072x16384, .fp8e4m3⟩
  | .hbm, ⟨8, _⟩ => ⟨S1, .f32⟩
  | .hbm, ⟨9, _⟩ => ⟨S16384x8192, .bf16⟩
  | .hbm, ⟨10, _⟩ => ⟨S3072x32768, .fp8e5m2⟩
  | .local _ .vmem, ⟨0, _⟩ => ⟨S3072x16384, .fp8e4m3⟩
  | .local _ .vmem, ⟨1, _⟩ => ⟨S3072x8192, .fp8e5m2⟩
  | .local _ .vmem, ⟨2, _⟩ => ⟨S8x128, .f32⟩
  | .local _ .vmem, ⟨3, _⟩ => ⟨S3072x16384, .bf16⟩
  | .local _ .vmem, ⟨4, _⟩ => ⟨S3072x16384, .bf16⟩
  | .local _ .vmem, ⟨5, _⟩ => ⟨S8x128, .f32⟩
  | .local _ .vmem, ⟨6, _⟩ => ⟨S16384x8192, .bf16⟩
  | .local _ .vmem, ⟨7, _⟩ => ⟨S3072x32768, .fp8e5m2⟩
  | .local _ .smem, ⟨0, _⟩ => ⟨S1, .f32⟩
  | _, _ => ⟨S1x3072x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S3072x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x8192 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072x32768 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Quant.lean ====
abbrev S1x3072x8192 : Shape := ⟨3, ![1, 3072, 8192]⟩
abbrev S8x128 : Shape := ⟨2, ![8, 128]⟩
abbrev S3072x8192 : Shape := ⟨2, ![3072, 8192]⟩
abbrev S256x8192 : Shape := ⟨2, ![256, 8192]⟩
abbrev S1x1 : Shape := ⟨2, ![1, 1]⟩

abbrev nBuf : Space → Nat
  | .hbm => 4
  | .vmem => 5
  | .smem => 0
  | _ => 0

abbrev bufTy : (tb : Table) → Fin (tcTables nBuf tb) → BufTy
  | .hbm, ⟨0, _⟩ => ⟨S1x3072x8192, .bf16⟩
  | .hbm, ⟨1, _⟩ => ⟨S8x128, .f32⟩
  | .hbm, ⟨2, _⟩ => ⟨S3072x8192, .bf16⟩
  | .hbm, ⟨3, _⟩ => ⟨S3072x8192, .fp8e5m2⟩
  | .local _ .vmem, ⟨0, _⟩ => ⟨S256x8192, .bf16⟩
  | .local _ .vmem, ⟨1, _⟩ => ⟨S256x8192, .bf16⟩
  | .local _ .vmem, ⟨2, _⟩ => ⟨S8x128, .f32⟩
  | .local _ .vmem, ⟨3, _⟩ => ⟨S256x8192, .fp8e5m2⟩
  | .local _ .vmem, ⟨4, _⟩ => ⟨S256x8192, .fp8e5m2⟩
  | _, _ => ⟨S1x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantRefIdeal.lean ====
abbrev S1x3072x8192 : Shape := ⟨3, ![1, 3072, 8192]⟩
abbrev S8x128 : Shape := ⟨2, ![8, 128]⟩
abbrev S3072x8192 : Shape := ⟨2, ![3072, 8192]⟩
abbrev S1x1 : Shape := ⟨2, ![1, 1]⟩

abbrev nBuf : Space → Nat
  | .hbm => 4
  | .vmem => 3
  | .smem => 0
  | _ => 0

abbrev bufTy : (tb : Table) → Fin (tcTables nBuf tb) → BufTy
  | .hbm, ⟨0, _⟩ => ⟨S1x3072x8192, .bf16⟩
  | .hbm, ⟨1, _⟩ => ⟨S8x128, .f32⟩
  | .hbm, ⟨2, _⟩ => ⟨S3072x8192, .bf16⟩
  | .hbm, ⟨3, _⟩ => ⟨S3072x8192, .fp8e5m2⟩
  | .local _ .vmem, ⟨0, _⟩ => ⟨S3072x8192, .bf16⟩
  | .local _ .vmem, ⟨1, _⟩ => ⟨S8x128, .f32⟩
  | .local _ .vmem, ⟨2, _⟩ => ⟨S3072x8192, .fp8e5m2⟩
  | _, _ => ⟨S1x3072x8192, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S3072x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x8192 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Amax.lean ====
abbrev S1x3072x8192 : Shape := ⟨3, ![1, 3072, 8192]⟩
abbrev S3072x8192 : Shape := ⟨2, ![3072, 8192]⟩
abbrev S8x128 : Shape := ⟨2, ![8, 128]⟩
abbrev S256x8192 : Shape := ⟨2, ![256, 8192]⟩
abbrev S32x8x8192 : Shape := ⟨3, ![32, 8, 8192]⟩
abbrev S8x8192 : Shape := ⟨2, ![8, 8192]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 4
  | .vmem => 5
  | .smem => 0
  | _ => 0

abbrev bufTy : (tb : Table) → Fin (tcTables nBuf tb) → BufTy
  | .hbm, ⟨0, _⟩ => ⟨S1x3072x8192, .bf16⟩
  | .hbm, ⟨1, _⟩ => ⟨S3072x8192, .bf16⟩
  | .hbm, ⟨2, _⟩ => ⟨S8x128, .f32⟩
  | .hbm, ⟨3, _⟩ => ⟨S8x128, .f32⟩
  | .local _ .vmem, ⟨0, _⟩ => ⟨S256x8192, .bf16⟩
  | .local _ .vmem, ⟨1, _⟩ => ⟨S256x8192, .bf16⟩
  | .local _ .vmem, ⟨2, _⟩ => ⟨S8x128, .f32⟩
  | .local _ .vmem, ⟨3, _⟩ => ⟨S8x128, .f32⟩
  | .local _ .vmem, ⟨4, _⟩ => ⟨S8x128, .f32⟩
  | _, _ => ⟨S1x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c11_i32 : BitVec 32 := 11#32
  let v141 : BitVec 1 := Scalar.cmpi .eq arg0 c11_i32
  let v142 : BitVec 32 := Scalar.extui v141
  let c0_i32_6 : BitVec 32 := 0#32
  let v143 : BitVec 1 := Scalar.cmpi .ne v142 c0_i32_6
  v143

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== AmaxRefIdeal.lean ====
abbrev S1x3072x8192 : Shape := ⟨3, ![1, 3072, 8192]⟩
abbrev S3072x8192 : Shape := ⟨2, ![3072, 8192]⟩
abbrev S8x128 : Shape := ⟨2, ![8, 128]⟩
abbrev S1 : Shape := ⟨1, ![1]⟩
abbrev S1x1x1 : Shape := ⟨3, ![1, 1, 1]⟩
abbrev S8x32 : Shape := ⟨2, ![8, 32]⟩
abbrev S1x8x32 : Shape := ⟨3, ![1, 8, 32]⟩

abbrev nBuf : Space → Nat
  | .hbm => 3
  | .vmem => 2
  | .smem => 0
  | _ => 0

abbrev bufTy : (tb : Table) → Fin (tcTables nBuf tb) → BufTy
  | .hbm, ⟨0, _⟩ => ⟨S1x3072x8192, .bf16⟩
  | .hbm, ⟨1, _⟩ => ⟨S3072x8192, .bf16⟩
  | .hbm, ⟨2, _⟩ => ⟨S8x128, .f32⟩
  | .local _ .vmem, ⟨0, _⟩ => ⟨S3072x8192, .bf16⟩
  | .local _ .vmem, ⟨1, _⟩ => ⟨S8x128, .f32⟩
  | _, _ => ⟨S1x3072x8192, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3072x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Dh.lean ====
abbrev S3072x8192 : Shape := ⟨2, ![3072, 8192]⟩
abbrev S8x128 : Shape := ⟨2, ![8, 128]⟩
abbrev S16384x8192 : Shape := ⟨2, ![16384, 8192]⟩
abbrev S_ : Shape := ⟨0, ![]⟩
abbrev S1x3072x32768 : Shape := ⟨3, ![1, 3072, 32768]⟩
abbrev S3072x32768 : Shape := ⟨2, ![3072, 32768]⟩
abbrev S1 : Shape := ⟨1, ![1]⟩
abbrev S3072x16384 : Shape := ⟨2, ![3072, 16384]⟩
abbrev S256x8192 : Shape := ⟨2, ![256, 8192]⟩
abbrev S3072x256 : Shape := ⟨2, ![3072, 256]⟩
abbrev S1x1 : Shape := ⟨2, ![1, 1]⟩
abbrev S1024x8192 : Shape := ⟨2, ![1024, 8192]⟩
abbrev S1024x256 : Shape := ⟨2, ![1024, 256]⟩
abbrev S128x8x256 : Shape := ⟨3, ![128, 8, 256]⟩
abbrev S8x256 : Shape := ⟨2, ![8, 256]⟩
abbrev S1x8x128 : Shape := ⟨3, ![1, 8, 128]⟩
abbrev S1x1x1 : Shape := ⟨3, ![1, 1, 1]⟩

abbrev nBuf : Space → Nat
  | .hbm => 11
  | .vmem => 15
  | .smem => 1
  | _ => 0

abbrev bufTy : (tb : Table) → Fin (tcTables nBuf tb) → BufTy
  | .hbm, ⟨0, _⟩ => ⟨S3072x8192, .fp8e5m2⟩
  | .hbm, ⟨1, _⟩ => ⟨S8x128, .f32⟩
  | .hbm, ⟨2, _⟩ => ⟨S16384x8192, .fp8e4m3⟩
  | .hbm, ⟨3, _⟩ => ⟨S_, .f32⟩
  | .hbm, ⟨4, _⟩ => ⟨S1x3072x32768, .bf16⟩
  | .hbm, ⟨5, _⟩ => ⟨S3072x32768, .bf16⟩
  | .hbm, ⟨6, _⟩ => ⟨S1, .f32⟩
  | .hbm, ⟨7, _⟩ => ⟨S3072x16384, .bf16⟩
  | .hbm, ⟨8, _⟩ => ⟨S3072x16384, .bf16⟩
  | .hbm, ⟨9, _⟩ => ⟨S8x128, .f32⟩
  | .hbm, ⟨10, _⟩ => ⟨S8x128, .f32⟩
  | .local _ .vmem, ⟨0, _⟩ => ⟨S3072x8192, .fp8e5m2⟩
  | .local _ .vmem, ⟨1, _⟩ => ⟨S256x8192, .fp8e4m3⟩
  | .local _ .vmem, ⟨2, _⟩ => ⟨S256x8192, .fp8e4m3⟩
  | .local _ .vmem, ⟨3, _⟩ => ⟨S3072x256, .bf16⟩
  | .local _ .vmem, ⟨4, _⟩ => ⟨S3072x256, .bf16⟩
  | .local _ .vmem, ⟨5, _⟩ => ⟨S3072x256, .bf16⟩
  | .local _ .vmem, ⟨6, _⟩ => ⟨S3072x256, .bf16⟩
  | .local _ .vmem, ⟨7, _⟩ => ⟨S8x128, .f32⟩
  | .local _ .vmem, ⟨8, _⟩ => ⟨S3072x256, .bf16⟩
  | .local _ .vmem, ⟨9, _⟩ => ⟨S3072x256, .bf16⟩
  | .local _ .vmem, ⟨10, _⟩ => ⟨S3072x256, .bf16⟩
  | .local _ .vmem, ⟨11, _⟩ => ⟨S3072x256, .bf16⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .smem, ⟨0, _⟩ => ⟨S1, .f32⟩
  | _, _ => ⟨S3072x8192, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v873 : BitVec 1 := Scalar.cmpi .eq arg0 c63_i32
  let v874 : BitVec 32 := Scalar.extui v873
  let c0_i32_290 : BitVec 32 := 0#32
  let v875 : BitVec 1 := Scalar.cmpi .ne v874 c0_i32_290
  v875

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3072x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3072x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3072x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3072x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3072x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DhRefIdeal.lean ====
abbrev S3072x8192 : Shape := ⟨2, ![3072, 8192]⟩
abbrev S8x128 : Shape := ⟨2, ![8, 128]⟩
abbrev S16384x8192 : Shape := ⟨2, ![16384, 8192]⟩
abbrev S_ : Shape := ⟨0, ![]⟩
abbrev S1x3072x32768 : Shape := ⟨3, ![1, 3072, 32768]⟩
abbrev S1 : Shape := ⟨1, ![1]⟩
abbrev S3072x32768 : Shape := ⟨2, ![3072, 32768]⟩
abbrev S3072x16384 : Shape := ⟨2, ![3072, 16384]⟩
abbrev S1x1 : Shape := ⟨2, ![1, 1]⟩
abbrev S1x1x1 : Shape := ⟨3, ![1, 1, 1]⟩
abbrev S8x32 : Shape := ⟨2, ![8, 32]⟩
abbrev S1x8x32 : Shape := ⟨3, ![1, 8, 32]⟩

abbrev nBuf : Space → Nat
  | .hbm => 10
  | .vmem => 7
  | .smem => 1
  | _ => 0

abbrev bufTy : (tb : Table) → Fin (tcTables nBuf tb) → BufTy
  | .hbm, ⟨0, _⟩ => ⟨S3072x8192, .fp8e5m2⟩
  | .hbm, ⟨1, _⟩ => ⟨S8x128, .f32⟩
  | .hbm, ⟨2, _⟩ => ⟨S16384x8192, .fp8e4m3⟩
  | .hbm, ⟨3, _⟩ => ⟨S_, .f32⟩
  | .hbm, ⟨4, _⟩ => ⟨S1x3072x32768, .bf16⟩
  | .hbm, ⟨5, _⟩ => ⟨S1, .f32⟩
  | .hbm, ⟨6, _⟩ => ⟨S3072x32768, .bf16⟩
  | .hbm, ⟨7, _⟩ => ⟨S3072x16384, .bf16⟩
  | .hbm, ⟨8, _⟩ => ⟨S3072x16384, .bf16⟩
  | .hbm, ⟨9, _⟩ => ⟨S8x128, .f32⟩
  | .local _ .vmem, ⟨0, _⟩ => ⟨S3072x8192, .fp8e5m2⟩
  | .local _ .vmem, ⟨1, _⟩ => ⟨S8x128, .f32⟩
  | .local _ .vmem, ⟨2, _⟩ => ⟨S16384x8192, .fp8e4m3⟩
  | .local _ .vmem, ⟨3, _⟩ => ⟨S3072x32768, .bf16⟩
  | .local _ .vmem, ⟨4, _⟩ => ⟨S3072x16384, .bf16⟩
  | .local _ .vmem, ⟨5, _⟩ => ⟨S3072x16384, .bf16⟩
  | .local _ .vmem, ⟨6, _⟩ => ⟨S8x128, .f32⟩
  | .local _ .smem, ⟨0, _⟩ => ⟨S1, .f32⟩
  | _, _ => ⟨S3072x8192, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3072x8192 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x32768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x16384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Common.lean ====
/-
  Facts the value proofs share: a matrix product whose two operands are both contracted over their rows, read at an
  index; the zero offsets of a whole-buffer access; and a product by a scalar.
-/
module

public import Idealize.ShloMosaic.PureOps.Ideal
public import Idealize.ShloMosaic.Lib.ValueIdx
public import Idealize.ShloMosaic.Lib.MatmulPlain

@[expose] public section

noncomputable section

namespace Cert.Proof.Common

open Idealize.ShloMosaic Idealize.ShloMosaic.ValueIdx
open scoped BigOperators

/-- The zero offsets of a whole rank-2 access. -/
theorem hz2 : (![0, 0] : Fin 2 → Nat) = fun _ => 0 := funext fun a => by fin_cases a <;> rfl
/-- The zero offset of a whole rank-1 access. -/
theorem hz1 : (![0] : Fin 1 → Nat) = fun _ => 0 := funext fun a => by fin_cases a; rfl

/-- The shape of one element has one index. -/
theorem idx1_eq (i j : (⟨1, ![1]⟩ : Shape).Idx) : i = j := by
  funext a; apply Fin.ext
  match a with
  | ⟨0, _⟩ => have h1 : (i 0).val < 1 := (i 0).isLt
              have h2 : (j 0).val < 1 := (j 0).isLt
              show (i 0).val = (j 0).val; omega

/-- The word of a 32-bit zero is the number zero. -/
theorem ofBits_zero : Ideal.ofBits .f32 0x00000000#32 = 0 := by simp [Ideal.ofBits, Ideal.ieee]

/-- `[K,M]ᵀ × [K,N]`: both operands contracted over their rows. -/
def rowsDot (M K N : ℕ) (h : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := h

/-- `[K,M]ᵀ × [K,N]` read at `(r, c)`: the accumulator plus `Σ_k lhs[k,r] · rhs[k,c]`. -/
theorem matmul_rowsDot_apply {M K N : ℕ} (h) {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (rowsDot M K N h) prec lhs rhs acc (ix2 r c)
      = acc (ix2 r c) + ∑ k : Fin K, lhs (ix2 k r) * rhs (ix2 k c) := by
  rw [Ideal.matmul_apply, ← Equiv.sum_comp (contrEquiv1 (rowsDot M K N h) K rfl rfl).symm]
  refine congrArg (acc (ix2 r c) + ·) (Finset.sum_congr rfl fun k _ => ?_)
  have hk := contrEquiv1_symm_val (rowsDot M K N h) K rfl rfl k
  have el : (rowsDot M K N h).lhsIdx (ix2 r c) ((contrEquiv1 (rowsDot M K N h) K rfl rfl).symm k) = ix2 k r := by
    funext a; apply Fin.ext
    match a with
    | ⟨0, _⟩ => exact hk
    | ⟨1, _⟩ => rfl
  have er : (rowsDot M K N h).rhsIdx (ix2 r c) ((contrEquiv1 (rowsDot M K N h) K rfl rfl).symm k) = ix2 k c := by
    funext a; apply Fin.ext
    match a with
    | ⟨0, _⟩ => exact hk
    | ⟨1, _⟩ => rfl
  rw [el, er]

/-- A value times a factor, clipped to the range of e5m2: the quantiser over the extended reals. -/
def clipped (x s : EReal) : EReal :=
  min (Ideal.ofBits .f32 0x47600000#32) (max (Ideal.ofBits .f32 0xC7600000#32) (x * s))

end Cert.Proof.Common

end
-- ==== Proof.Dw1Out.lean ====
/-
  What each point of the dW1 kernel leaves, as its body's payloads: the scratch holds the transposed block of x from the
  first point of a row of blocks on, and the output block is the product payload of that scratch and the dH block.
-/
module

public import proofs.«01_k».proof.Proof.Gen.Dw1Ideal.Value
public import proofs.«01_k».proof.Proof.Common

@[expose] public section

noncomputable section

namespace Cert.Proof.Dw1

open Cert.Dw1Ideal Cert.Dw1Ideal.Gen Idealize.ShloMosaic Idealize.ShloMosaic.TcCoe Idealize.SL.Sem
open Cert.Proof.Common

variable {F : FTy → Type} [FloatOps F]

/-- At the first point of a row of blocks the body transposes the block of x into the scratch. -/
theorem sout_A (c : Dev nD) (i : grid0.Coords) (a0 h0 a1 h1 a2 h2 a3 h3 a4 h4 a5 h5) (hc : cond0_0 i)
    (x0 : Vec F S1 .f32) (x1 : Vec F S3072x2048 .fp8e4m3) (x2 : Vec F S3072x1024 .fp8e5m2) (x3 : Vec F S8x128 .f32) :
    sout0_A_0 c i a0 h0 a1 h1 a2 h2 a3 h3 a4 h4 a5 h5 hc x0 x1 x2 x3 = k0_pay1 x1 := by
  unfold sout0_A_0
  rw [View.read_writes_eq_canon _ _ _ (scover0_A_0 c i a0 h0 a1 h1 a2 h2 a3 h3 a4 h4 a5 h5 hc x0 x1 x2 x3)]
  unfold kernelRun0_A
  dsimp only
  sl_unfold_words
  rw [View.canon_unit_zero hz2]
  simp only [View.readAt_eq_ld, h1.read_unread, View.ld_unit_zero (S := S3072x2048) hz2]

/-- At the first point of a row of blocks the output block is the product payload of the block just transposed. -/
theorem out_A (c : Dev nD) (i : grid0.Coords) (a0 h0 a1 h1 a2 h2 a3 h3 a4 h4 a5 h5) (hc : cond0_0 i)
    (x0 : Vec F S1 .f32) (x1 : Vec F S3072x2048 .fp8e4m3) (x2 : Vec F S3072x1024 .fp8e5m2) (x3 : Vec F S8x128 .f32) :
    out0_A_4 c i a0 h0 a1 h1 a2 h2 a3 h3 a4 h4 a5 h5 hc x0 x1 x2 x3 = k0_pay2 (x0 (ValueIdx.ix1 0)) x3 (k0_pay1 x1) x2 := by
  unfold out0_A_4
  rw [View.read_writes_eq_canon _ _ _ (cover0_A_4 c i a0 h0 a1 h1 a2 h2 a3 h3 a4 h4 a5 h5 hc x0 x1 x2 x3)]
  unfold kernelRun0_A
  dsimp only
  sl_unfold_words
  rw [View.canon_unit_zero hz2, View.readCov_unit_zero (S := S2048x3072) _ hz2]
  simp only [View.readAt_eq_ld, h0.read_unread, h1.read_unread, h2.read_unread, h3.read_unread, View.ld_unit_zero (S := S3072x1024) hz2,
    View.ld_unit_zero (S := S3072x2048) hz2, View.ld_unit_zero (S := S8x128) hz2, View.ld_unit_zero (S := S2048x3072) hz2]
  exact congrArg (k0_pay2 · x3 _ x2) (congrArg x0 (idx1_eq _ _))

/-- At every other point the output block is the product payload of the scratch as the point before left it. -/
theorem out_B (c : Dev nD) (i : grid0.Coords) (a0 h0 a1 h1 a2 h2 a3 h3 a4 h4 a5 h5) (hc : ¬cond0_0 i)
    (x0 : Vec F S1 .f32) (x1 : Vec F S3072x2048 .fp8e4m3) (x2 : Vec F S3072x1024 .fp8e5m2) (x3 : Vec F S8x128 .f32)
    (xs : Vec F S2048x3072 .fp8e4m3) :
    out0_B_4 c i a0 h0 a1 h1 a2 h2 a3 h3 a4 h4 a5 h5 hc x0 x1 x2 x3 xs = k0_pay2 (x0 (ValueIdx.ix1 0)) x3 xs x2 := by
  unfold out0_B_4
  rw [View.read_writes_eq_canon _ _ _ (cover0_B_4 c i a0 h0 a1 h1 a2 h2 a3 h3 a4 h4 a5 h5 hc x0 x1 x2 x3 xs)]
  unfold kernelRun0_B
  dsimp only
  sl_unfold_words
  rw [View.canon_unit_zero hz2]
  simp only [View.readAt_eq_ld, h0.read_unread, h1.read_unread, h2.read_unread, h3.read_unread, h5.read_unread, View.ld_unit_zero (S := S3072x1024) hz2,
    View.ld_unit_zero (S := S3072x2048) hz2, View.ld_unit_zero (S := S8x128) hz2, View.ld_unit_zero (S := S2048x3072) hz2]
  exact congrArg (k0_pay2 · x3 _ x2) (congrArg x0 (idx1_eq _ _))

end Cert.Proof.Dw1

end
-- ==== Proof.Dw1Blocks.lean ====
/-
  The blocks the dW1 kernel's points read, as entries of the arrays the windows stage.
-/
module

public import proofs.«01_k».proof.Proof.Dw1Out

@[expose] public section

noncomputable section

namespace Cert.Proof.Dw1

open Cert.Dw1Ideal Cert.Dw1Ideal.Gen Idealize.ShloMosaic Idealize.ShloMosaic.TcCoe Idealize.SL.Sem
open Idealize.ShloMosaic.ValueIdx
open Cert.Proof.Common
open scoped BigOperators

section AnyF

variable {F : FTy → Type} [FloatOps F]
variable (m : (ℓ : Loc nD τ sig) → Buf (Elt F) ℓ)

/-- The printed index maps of the input windows, decided over the grid. -/
theorem idx1 : ∀ t : Fin cfg0.N, win0_1.index t (0 : Fin 2) = 0 ∧ win0_1.index t (1 : Fin 2) = t.val / 32 :=
  (by decide +kernel : ∀ t : Fin grid0.N, _)
theorem idx2 : ∀ t : Fin cfg0.N, win0_2.index t (0 : Fin 2) = 0 ∧ win0_2.index t (1 : Fin 2) = t.val % 32 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx0 : ∀ t : Fin cfg0.N, win0_0.index t (0 : Fin 1) = 0 :=
  (by decide +kernel : ∀ t : Fin grid0.N, _)

/-- The arrays the windows read: x reshaped to two axes, its scale as a one-element array, the codes and the tile. -/
abbrev xArr (c : Dev nD) : Vec F S3072x8192 .fp8e4m3 := V m c main_v0
abbrev sArr (c : Dev nD) : Vec F S1 .f32 := V m c main_v1
abbrev dArr (c : Dev nD) : Vec F S3072x32768 .fp8e5m2 := V m c main_arg2
abbrev tArr (c : Dev nD) : Vec F S8x128 .f32 := V m c main_arg3

/-- The host's two reshapes. -/
theorem xArr_eq (c : Dev nD) : xArr m c = shapeCast S3072x8192 (m ((c : Thread nD τ).loc main_arg0)) shapeCasts_S1x3072x8192_S3072x8192 := rfl
theorem sArr_eq (c : Dev nD) : sArr m c = shapeCast S1 (m ((c : Thread nD τ).loc main_arg1)) shapeCasts_S_S1 := rfl

/-- Point `t`'s block of x: all tokens, columns from `2048 · (t / 32)`. -/
theorem blk1 (c : Dev nD) (t : Fin cfg0.N) (a : Fin 3072) (b : Fin 2048) (q : Fin 8192) (hq : q.val = 2048 * (t.val / 32) + b.val) :
    (iblk m c 1 t : Vec F S3072x2048 .fp8e4m3) (ix2 a b) = xArr m c (ix2 a q) := by
  unfold iblk
  rw [View.read_apply]
  show V m c main_v0 _ = V m c main_v0 _
  congr 1
  funext d
  apply Fin.ext
  match d with
  | ⟨0, _⟩ => show win0_1.index t 0 * 3072 + 1 * a.val = a.val; rw [(idx1 t).1]; omega
  | ⟨1, _⟩ => show win0_1.index t 1 * 2048 + 1 * b.val = q.val; rw [(idx1 t).2]; omega

/-- Point `t`'s block of the codes: all tokens, columns from `1024 · (t % 32)`. -/
theorem blk2 (c : Dev nD) (t : Fin cfg0.N) (a : Fin 3072) (b : Fin 1024) (q : Fin 32768) (hq : q.val = 1024 * (t.val % 32) + b.val) :
    (iblk m c 2 t : Vec F S3072x1024 .fp8e5m2) (ix2 a b) = dArr m c (ix2 a q) := by
  unfold iblk
  rw [View.read_apply]
  show V m c main_arg2 _ = V m c main_arg2 _
  congr 1
  funext d
  apply Fin.ext
  match d with
  | ⟨0, _⟩ => show win0_2.index t 0 * 3072 + 1 * a.val = a.val; rw [(idx2 t).1]; omega
  | ⟨1, _⟩ => show win0_2.index t 1 * 1024 + 1 * b.val = q.val; rw [(idx2 t).2]; omega

/-- Every point's tile is the whole tile. -/
theorem blk3 (c : Dev nD) (t : Fin cfg0.N) (a : Fin 8) (b : Fin 128) :
    (iblk m c 3 t : Vec F S8x128 .f32) (ix2 a b) = tArr m c (ix2 a b) := by
  unfold iblk
  rw [View.read_apply]
  show V m c main_arg3 _ = V m c main_arg3 _
  congr 1
  funext d
  apply Fin.ext
  match d with
  | ⟨0, _⟩ => show win0_3.index t 0 * 8 + 1 * a.val = a.val; rw [(idx3 t).1]; omega
  | ⟨1, _⟩ => show win0_3.index t 1 * 128 + 1 * b.val = b.val; rw [(idx3 t).2]; omega

/-- Every point's scale is the one scale. -/
theorem blk0 (c : Dev nD) (t : Fin cfg0.N) : (iblk m c 0 t : Vec F S1 .f32) (ix1 0) = sArr m c (ix1 0) := by
  unfold iblk
  rw [View.read_apply]
  show V m c main_v1 _ = V m c main_v1 _
  exact congrArg _ (idx1_eq _ _)

end AnyF

end Cert.Proof.Dw1

end
-- ==== Proof.Dw1Value.lean ====
/-
  The dW1 kernel's result array over the extended reals, at an index: the contraction over tokens of a column of x with
  a column of dH, times the product of the two scales.
-/
module

public import proofs.«01_k».proof.Proof.Dw1Blocks

@[expose] public section

noncomputable section

namespace Cert.Proof.Dw1

open Cert.Dw1Ideal Cert.Dw1Ideal.Gen Idealize.ShloMosaic Idealize.ShloMosaic.TcCoe Idealize.SL.Sem
open Idealize.ShloMosaic.ValueIdx
open Cert.Proof.Common
open scoped BigOperators

section AnyF

variable {F : FTy → Type} [FloatOps F]
variable (m : (ℓ : Loc nD τ sig) → Buf (Elt F) ℓ)

/-- Two points of one row of blocks read the same block of x. -/
theorem blk1_congr (c : Dev nD) (t t' : Fin cfg0.N) (h : t.val / 32 = t'.val / 32) :
    (iblk m c 1 t : Vec F S3072x2048 .fp8e4m3) = iblk m c 1 t' := by
  funext j
  obtain ⟨a, b, rfl⟩ : ∃ (a : Fin 3072) (b : Fin 2048), j = ix2 a b := ⟨j 0, j 1, eq_ix2 j⟩
  have hN : t.val < 128 := lt_of_lt_of_eq t.isLt N_0
  have hb := b.isLt
  exact (blk1 m c t a b ⟨2048 * (t.val / 32) + b.val, by omega⟩ rfl).trans
    (blk1 m c t' a b ⟨2048 * (t.val / 32) + b.val, by omega⟩ (by show 2048 * (t.val / 32) + b.val = 2048 * (t'.val / 32) + b.val; rw [h])).symm

/-- After the first point of a row of blocks the scratch holds the transposed block of x. -/
theorem scratch_A (c : Dev nD) (t : Fin cfg0.N) (h0 : t.val % 32 = 0) :
    (outsAt0 m c t.val t.isLt).2 = k0_pay1 (iblk m c 1 t) := by
  simp only [outsAt0_A m c t h0, sout_A]

/-- Every other point keeps the scratch. -/
theorem scratch_B (c : Dev nD) (t : Fin cfg0.N) (h0 : ¬t.val % 32 = 0) :
    (outsAt0 m c t.val t.isLt).2 = (outsAt0 m c (t.val - 1) (Nat.lt_of_le_of_lt (Nat.sub_le _ _) t.isLt)).2 := by
  simp only [outsAt0_B m c t h0, sout0_B_0]

/-- After every point the scratch holds the transposed block of x of the point's row of blocks: the first point of the
    row stores it, the others keep it. -/
theorem scratch_eq (c : Dev nD) : ∀ (n : ℕ) (h : n < cfg0.N), (outsAt0 m c n h).2 = k0_pay1 (iblk m c 1 ⟨n, h⟩)
  | 0, h => scratch_A m c ⟨0, h⟩ rfl
  | n + 1, h => by
    by_cases h0 : (n + 1) % 32 = 0
    · exact scratch_A m c ⟨n + 1, h⟩ h0
    · refine (scratch_B m c ⟨n + 1, h⟩ h0).trans ((scratch_eq c n (Nat.lt_of_succ_lt h)).trans ?_)
      exact congrArg k0_pay1 (blk1_congr m c ⟨n, Nat.lt_of_succ_lt h⟩ ⟨n + 1, h⟩ (by show n / 32 = (n + 1) / 32; omega))

/-- After every point the output block is the product payload of the point's own blocks. -/
theorem out_eq (c : Dev nD) (t : Fin cfg0.N) :
    (outsAt0 m c t.val t.isLt).1
      = k0_pay2 ((iblk m c 0 t : Vec F S1 .f32) (ix1 0)) (iblk m c 3 t) (k0_pay1 (iblk m c 1 t)) (iblk m c 2 t) := by
  by_cases h0 : t.val % 32 = 0
  · simp only [outsAt0_A m c t h0, out_A]
  · simp only [outsAt0_B m c t h0, out_B]
    have hN : t.val < 128 := lt_of_lt_of_eq t.isLt N_0
    rw [scratch_eq m c (t.val - 1), blk1_congr m c ⟨t.val - 1, _⟩ t (by show (t.val - 1) / 32 = t.val / 32; omega)]

end AnyF

/-- The transposed block at an index. -/
theorem pay1_apply (x : Vec Ideal S3072x2048 .fp8e4m3) (r : Fin 2048) (k : Fin 3072) :
    k0_pay1 (F := Ideal) x (ix2 r k) = x (ix2 k r) := by
  unfold k0_pay1
  simp only [shapeCast_self]
  show x _ = x _
  congr 1
  funext d
  match d with
  | ⟨0, _⟩ => rfl
  | ⟨1, _⟩ => rfl

/-- The product payload at an index. -/
theorem pay2_apply (s : Elt Ideal .f32) (v4 : Vec Ideal S8x128 .f32) (v8 : Vec Ideal S2048x3072 .fp8e4m3)
    (v9 : Vec Ideal S3072x1024 .fp8e5m2) (r : Fin 2048) (q : Fin 1024) :
    k0_pay2 (F := Ideal) s v4 v8 v9 (ix2 r q)
      = ((∑ k : Fin 3072, (v8 (ix2 r k) : EReal) * v9 (ix2 k q)) * ((s : EReal) * v4 (ix2 0 0)) : EReal) := by
  unfold k0_pay2
  show (FloatOps.matmul (F := Ideal) (DotDims.plain 2048 3072 1024) none v8 v9 (constant S2048x1024 .f32 0x00000000#32) (ix2 r q) : EReal)
    * ((s : EReal) * v4 _) = _
  rw [Ideal.matmul_plain_apply]
  show (Ideal.ofBits .f32 0x00000000#32 + _) * _ = _
  rw [ofBits_zero, zero_add]
  refine congrArg (_ * ·) (congrArg (s * ·) (congrArg v4 ?_))
  funext d
  match d with
  | ⟨0, _⟩ => rfl
  | ⟨1, _⟩ => rfl

/-- The result array at an index. -/
theorem G_apply (m : (ℓ : Loc nD τ sig) → Buf (Elt Ideal) ℓ) (c : Dev nD) (r : Fin 8192) (q : Fin 32768) :
    (Value.G4 m c : Vec Ideal S8192x32768 .bf16) (ix2 r q)
      = ((∑ k : Fin 3072, (xArr m c (ix2 k r) : EReal) * dArr m c (ix2 k q)) * ((sArr m c (ix1 0) : EReal) * tArr m c (ix2 0 0)) : EReal) := by
  have hr := r.isLt
  have hq := q.isLt
  have hp : Value.pt4Of (ix2 r q) < cfg0.N := by
    rw [show cfg0.N = 128 from N_0]
    show 32 * (r.val / 2048 - 0) + 1 * (q.val / 1024 - 0) < 128
    omega
  unfold Value.G4
  rw [dif_pos hp, ← Value.outsAt0_sweep m c _ hp]
  refine (congrFun (out_eq m c ⟨_, hp⟩) _).trans ?_
  have hl : Value.loc4Of (ix2 r q) = ix2 (⟨r.val % 2048, Nat.mod_lt _ (by decide)⟩ : Fin 2048) (⟨q.val % 1024, Nat.mod_lt _ (by decide)⟩ : Fin 1024) := by
    funext d
    match d with
    | ⟨0, _⟩ => rfl
    | ⟨1, _⟩ => rfl
  have hpv : Value.pt4Of (ix2 r q) = 32 * (r.val / 2048) + q.val / 1024 := by
    show 32 * (r.val / 2048 - 0) + 1 * (q.val / 1024 - 0) = _
    omega
  rw [hl, pay2_apply, blk0, blk3]
  refine congrArg (· * _) ?_
  refine Finset.sum_congr rfl fun k _ => ?_
  rw [pay1_apply, blk1 m c _ k _ r (by show _ = 2048 * (Value.pt4Of (ix2 r q) / 32) + r.val % 2048; rw [hpv]; omega),
    blk2 m c _ k _ q (by show _ = 1024 * (Value.pt4Of (ix2 r q) % 32) + q.val % 1024; rw [hpv]; omega)]

end Cert.Proof.Dw1

end
-- ==== Proof.Dw1Ref.lean ====
/-
  The dW1 reference's result array over the extended reals, at an index.
-/
module

public import proofs.«01_k».proof.Proof.Gen.Dw1RefIdeal.Value
public import proofs.«01_k».proof.Proof.Common

@[expose] public section

noncomputable section

namespace Cert.Proof.Dw1Ref

open Cert.Dw1RefIdeal Cert.Dw1RefIdeal.Gen Idealize.ShloMosaic Idealize.ShloMosaic.TcCoe Idealize.SL.Sem
open Idealize.ShloMosaic.ValueIdx
open Cert.Proof.Common
open scoped BigOperators

section AnyF

variable {F : FTy → Type} [FloatOps F]
variable (m : (ℓ : Loc nD τ sig) → Buf (Elt F) ℓ)

/-- The one point. -/
def t₀ : Fin cfg0.N := ⟨0, by decide⟩

/-- The body leaves the payload of its four inputs. -/
theorem out_A (c : Dev nD) (a0 h0 a1 h1 a2 h2 a3 h3 a4 h4)
    (x0 : Vec F S3072x8192 .fp8e4m3) (x1 : Vec F S1 .f32) (x2 : Vec F S3072x32768 .fp8e5m2) (x3 : Vec F S8x128 .f32) :
    out0_A_4 c a0 h0 a1 h1 a2 h2 a3 h3 a4 h4 x0 x1 x2 x3 = k0_pay1 x0 x2 (x1 (ix1 0)) (fun _ => x3 (ix2 0 0)) := by
  unfold out0_A_4
  rw [View.read_writes_eq_canon _ _ _ (cover0_A_4 c a0 h0 a1 h1 a2 h2 a3 h3 a4 h4 x0 x1 x2 x3)]
  unfold kernelRun0_A
  dsimp only
  sl_unfold_words
  rw [View.canon_unit_zero hz2]
  simp only [View.readAt_eq_ld, h0.read_unread, h1.read_unread, h2.read_unread, h3.read_unread,
    View.ld_unit_zero (S := S3072x8192) hz2, View.ld_unit_zero (S := S3072x32768) hz2]
  refine congrArg₂ (k0_pay1 x0 x2) (congrArg x1 (idx1_eq _ _)) (funext fun j => congrArg x3 ?_)
  have e0 : (j 0).val < 1 := (j 0).isLt
  have e1 : (j 1).val < 1 := (j 1).isLt
  funext d
  apply Fin.ext
  match d with
  | ⟨0, _⟩ => show 0 + 1 * (j 0).val = 0; omega
  | ⟨1, _⟩ => show 0 + 1 * (j 1).val = 0; omega

/-- The arrays the windows read. -/
abbrev xArr (c : Dev nD) : Vec F S3072x8192 .fp8e4m3 := V m c main_v0
abbrev sArr (c : Dev nD) : Vec F S1 .f32 := V m c main_v1
abbrev dArr (c : Dev nD) : Vec F S3072x32768 .fp8e5m2 := V m c main_arg2
abbrev tArr (c : Dev nD) : Vec F S8x128 .f32 := V m c main_arg3

/-- The host's two reshapes. -/
theorem xArr_eq (c : Dev nD) : xArr m c = shapeCast S3072x8192 (m ((c : Thread nD τ).loc main_arg0)) shapeCasts_S1x3072x8192_S3072x8192 := rfl
theorem sArr_eq (c : Dev nD) : sArr m c = shapeCast S1 (m ((c : Thread nD τ).loc main_arg1)) shapeCasts_S_S1 := rfl

/-- Each input's one block is its array. -/
theorem blk0 (c : Dev nD) : (iblk m c 0 t₀ : Vec F S3072x8192 .fp8e4m3) = xArr m c := by
  have hz : (fun a => (win0_0.index t₀) a * main_v0.ty.shape.size a) = fun _ => 0 := funext fun a => by fin_cases a <;> decide
  exact Memref.read_access_unit_zero (Elt F) main_v0 hz (fun a => by fin_cases a <;> decide) _
theorem blk1 (c : Dev nD) : (iblk m c 1 t₀ : Vec F S1 .f32) = sArr m c := by
  have hz : (fun a => (win0_1.index t₀) a * main_v1.ty.shape.size a) = fun _ => 0 := funext fun a => by fin_cases a <;> decide
  exact Memref.read_access_unit_zero (Elt F) main_v1 hz (fun a => by fin_cases a <;> decide) _
theorem blk2 (c : Dev nD) : (iblk m c 2 t₀ : Vec F S3072x32768 .fp8e5m2) = dArr m c := by
  have hz : (fun a => (win0_2.index t₀) a * main_arg2.ty.shape.size a) = fun _ => 0 := funext fun a => by fin_cases a <;> decide
  exact Memref.read_access_unit_zero (Elt F) main_arg2 hz (fun a => by fin_cases a <;> decide) _
theorem blk3 (c : Dev nD) : (iblk m c 3 t₀ : Vec F S8x128 .f32) = tArr m c := by
  have hz : (fun a => (win0_3.index t₀) a * main_arg3.ty.shape.size a) = fun _ => 0 := funext fun a => by fin_cases a <;> decide
  exact Memref.read_access_unit_zero (Elt F) main_arg3 hz (fun a => by fin_cases a <;> decide) _

/-- The result array is the payload of the arrays. -/
theorem final_value (c : Dev nD) :
    (dats m 0 c).arrAt 4 cfg0.N = k0_pay1 (xArr m c) (dArr m c) (sArr m c (ix1 0)) (fun _ => tArr m c (ix2 0 0)) := by
  have ho := Value.blocks4 m c t₀ (by decide +kernel)
  have hz : (fun a => (win0_4.index t₀) a * main_v2.ty.shape.size a) = fun _ => 0 := funext fun a => by fin_cases a <;> decide
  have hr := fun f => Memref.read_access_unit_zero (Elt F) main_v2 hz (fun a => by fin_cases a <;> decide) f
  rw [hr] at ho
  rw [ho, Value.flushed4_A]
  simp only [out_A, blk0, blk1, blk2, blk3]
  rfl

end AnyF

/-- The payload at an index. -/
theorem pay1_apply (x : Vec Ideal S3072x8192 .fp8e4m3) (d : Vec Ideal S3072x32768 .fp8e5m2) (s : Elt Ideal .f32) (v : Vec Ideal S1x1 .f32)
    (r : Fin 8192) (q : Fin 32768) :
    k0_pay1 (F := Ideal) x d s v (ix2 r q)
      = ((∑ k : Fin 3072, (x (ix2 k r) : EReal) * d (ix2 k q)) * ((s : EReal) * v (ix2 0 0)) : EReal) := by
  unfold k0_pay1
  simp only [shapeCast_self]
  show (FloatOps.matmul (F := Ideal) (rowsDot 8192 3072 32768 _) none x d (constant S8192x32768 .f32 0x00000000#32) (ix2 r q) : EReal)
    * ((s : EReal) * v _) = _
  rw [matmul_rowsDot_apply]
  show (Ideal.ofBits .f32 0x00000000#32 + _) * _ = _
  rw [ofBits_zero, zero_add]
  refine congrArg (_ * ·) (congrArg (s * ·) (congrArg v ?_))
  funext a
  match a with
  | ⟨0, _⟩ => rfl
  | ⟨1, _⟩ => rfl

/-- The result array at an index. -/
theorem final_apply (m : (ℓ : Loc nD τ sig) → Buf (Elt Ideal) ℓ) (c : Dev nD) (r : Fin 8192) (q : Fin 32768) :
    ((dats m 0 c).arrAt 4 cfg0.N : Vec Ideal S8192x32768 .bf16) (ix2 r q)
      = ((∑ k : Fin 3072, (xArr m c (ix2 k r) : EReal) * dArr m c (ix2 k q)) * ((sArr m c (ix1 0) : EReal) * tArr m c (ix2 0 0)) : EReal) := by
  rw [final_value]
  exact pay1_apply _ _ _ _ r q

end Cert.Proof.Dw1Ref

end
-- ==== Proof.Dw1Alg.lean ====
/-
  The dW1 kernel and its reference end with the same result array, for every argument.
-/
module

public import proofs.«01_k».proof.Defs
public import proofs.«01_k».proof.Proof.Dw1Value
public import proofs.«01_k».proof.Proof.Dw1Ref

@[expose] public section

noncomputable section

namespace Cert.Proof.Dw1Alg

open Idealize.ShloMosaic Idealize.SL.Sem Idealize.ShloMosaic.ValueIdx

theorem algebraic : Cert.algebraic_Dw1Ideal_Dw1RefIdeal (hDw1Ideal := Cert.Dw1Ideal.Gen.facts)
    (hDw1RefIdeal := Cert.Dw1RefIdeal.Gen.facts) := by
  intro m g m' g' _ hargs
  refine ⟨fun c => Cert.Dw1Ideal.Value.G4 (F := Ideal) m c, Cert.Dw1Ideal.Value.run (F := Ideal) m g, ?_⟩
  refine (θ_run (Cert.Dw1RefIdeal.defs (F := Ideal)) _ _).mono (fun r h c => ?_) (Cert.Dw1RefIdeal.Value.run_blocks (F := Ideal) m' g')
  obtain ⟨hv, h0, h1, h2, h3⟩ := h c
  refine ⟨hv.trans ?_, h0, h1, h2, h3⟩
  obtain ⟨a0, a1, a2, a3⟩ := hargs c
  have ex : Dw1Ref.xArr m' c = Dw1.xArr m c := by rw [Dw1Ref.xArr_eq, Dw1.xArr_eq, a0]
  have es : Dw1Ref.sArr m' c = Dw1.sArr m c := by rw [Dw1Ref.sArr_eq, Dw1.sArr_eq, a1]
  have ed : Dw1Ref.dArr m' c = Dw1.dArr m c := (Cert.Dw1RefIdeal.Gen.V_main_arg2 m' c).trans (a2.trans (Cert.Dw1Ideal.Gen.V_main_arg2 m c).symm)
  have et : Dw1Ref.tArr m' c = Dw1.tArr m c := (Cert.Dw1RefIdeal.Gen.V_main_arg3 m' c).trans (a3.trans (Cert.Dw1Ideal.Gen.V_main_arg3 m c).symm)
  funext j
  obtain ⟨p, q, rfl⟩ : ∃ (p : Fin 8192) (q : Fin 32768), j = ix2 p q := ⟨j 0, j 1, eq_ix2 j⟩
  refine (Dw1Ref.final_apply m' c p q).trans (Eq.trans ?_ (Dw1.G_apply m c p q).symm)
  rw [ex, es, ed, et]

end Cert.Proof.Dw1Alg

end
-- ==== Proof.DxOut.lean ====
/-
  What each point of the dX kernel leaves, as its body's payloads: the accumulator starts from zero at the first point of a
  run over the contracted blocks, each point adds its block product, and the last point writes the scaled sum.
-/
module

public import proofs.«01_k».proof.Proof.Gen.DxIdeal.Value
public import proofs.«01_k».proof.Proof.Common

@[expose] public section

noncomputable section

namespace Cert.Proof.Dx

open Cert.DxIdeal Cert.DxIdeal.Gen Idealize.ShloMosaic Idealize.ShloMosaic.TcCoe Idealize.SL.Sem
open Cert.Proof.Common

variable {F : FTy → Type} [FloatOps F]

/-- The first point of a run stores zero and adds its block product. -/
theorem sout_A (c : Dev nD) (i : grid0.Coords) (a0 h0 a1 h1 a2 h2 a3 h3 a4 h4 a5 h5) (hc hd)
    (x0 : Vec F S1 .f32) (x1 : Vec F S1536x2048 .fp8e5m2) (x2 : Vec F S2048x2048 .fp8e4m3) (x3 : Vec F S8x128 .f32) :
    sout0_A_0 c i a0 h0 a1 h1 a2 h2 a3 h3 a4 h4 a5 h5 hc hd x0 x1 x2 x3 = k0_pay2 k0_pay1 x1 x2 := by
  unfold sout0_A_0
  rw [View.read_writes_eq_canon _ _ _ (scover0_A_0 c i a0 h0 a1 h1 a2 h2 a3 h3 a4 h4 a5 h5 hc hd x0 x1 x2 x3)]
  unfold kernelRun0_A
  dsimp only
  sl_unfold_words
  rw [View.canon_cons_unit_zero (S := S1536x2048) hz2, View.readCov_unit_zero (S := S1536x2048) _ hz2]
  simp only [View.readAt_eq_ld, h1.read_unread, h2.read_unread, View.ld_unit_zero (S := S1536x2048) hz2, View.ld_unit_zero (S := S2048x2048) hz2]

/-- A middle point adds its block product to what the point before left. -/
theorem sout_B (c : Dev nD) (i : grid0.Coords) (a0 h0 a1 h1 a2 h2 a3 h3 a4 h4 a5 h5) (hc hd)
    (x0 : Vec F S1 .f32) (x1 : Vec F S1536x2048 .fp8e5m2) (x2 : Vec F S2048x2048 .fp8e4m3) (x3 : Vec F S8x128 .f32)
    (xs : Vec F S1536x2048 .f32) :
    sout0_B_0 c i a0 h0 a1 h1 a2 h2 a3 h3 a4 h4 a5 h5 hc hd x0 x1 x2 x3 xs = k0_pay2 xs x1 x2 := by
  unfold sout0_B_0
  rw [View.read_writes_eq_canon _ _ _ (scover0_B_0 c i a0 h0 a1 h1 a2 h2 a3 h3 a4 h4 a5 h5 hc hd x0 x1 x2 x3 xs)]
  unfold kernelRun0_B
  dsimp only
  sl_unfold_words
  rw [View.canon_unit_zero hz2]
  simp only [View.readAt_eq_ld, h1.read_unread, h2.read_unread, h5.read_unread, View.ld_unit_zero (S := S1536x2048) hz2, View.ld_unit_zero (S := S2048x2048) hz2]

/-- So does the last point of a run, -/
theorem sout_C (c : Dev nD) (i : grid0.Coords) (a0 h0 a1 h1 a2 h2 a3 h3 a4 h4 a5 h5) (hc hd)
    (x0 : Vec F S1 .f32) (x1 : Vec F S1536x2048 .fp8e5m2) (x2 : Vec F S2048x2048 .fp8e4m3) (x3 : Vec F S8x128 .f32)
    (xs : Vec F S1536x2048 .f32) :
    sout0_C_0 c i a0 h0 a1 h1 a2 h2 a3 h3 a4 h4 a5 h5 hc hd x0 x1 x2 x3 xs = k0_pay2 xs x1 x2 := by
  unfold sout0_C_0
  rw [View.read_writes_eq_canon _ _ _ (scover0_C_0 c i a0 h0 a1 h1 a2 h2 a3 h3 a4 h4 a5 h5 hc hd x0 x1 x2 x3 xs)]
  unfold kernelRun0_C
  dsimp only
  sl_unfold_words
  rw [View.canon_unit_zero hz2]
  simp only [View.readAt_eq_ld, h1.read_unread, h2.read_unread, h5.read_unread, View.ld_unit_zero (S := S1536x2048) hz2, View.ld_unit_zero (S := S2048x2048) hz2]

/-- which also writes the scaled sum to the output block. -/
theorem out_C (c : Dev nD) (i : grid0.Coords) (a0 h0 a1 h1 a2 h2 a3 h3 a4 h4 a5 h5) (hc hd)
    (x0 : Vec F S1 .f32) (x1 : Vec F S1536x2048 .fp8e5m2) (x2 : Vec F S2048x2048 .fp8e4m3) (x3 : Vec F S8x128 .f32)
    (xs : Vec F S1536x2048 .f32) :
    out0_C_4 c i a0 h0 a1 h1 a2 h2 a3 h3 a4 h4 a5 h5 hc hd x0 x1 x2 x3 xs
      = k0_pay3 x3 (x0 (ValueIdx.ix1 0)) (k0_pay2 xs x1 x2) := by
  unfold out0_C_4
  rw [View.read_writes_eq_canon _ _ _ (cover0_C_4 c i a0 h0 a1 h1 a2 h2 a3 h3 a4 h4 a5 h5 hc hd x0 x1 x2 x3 xs)]
  unfold kernelRun0_C
  dsimp only
  sl_unfold_words
  rw [View.canon_unit_zero hz2, View.readCov_unit_zero (S := S1536x2048) _ hz2]
  simp only [View.readAt_eq_ld, h0.read_unread, h1.read_unread, h2.read_unread, h3.read_unread, h5.read_unread,
    View.ld_unit_zero (S := S1536x2048) hz2, View.ld_unit_zero (S := S2048x2048) hz2, View.ld_unit_zero (S := S8x128) hz2]
  exact congrArg (k0_pay3 x3 · _) (congrArg x0 (idx1_eq _ _))

end Cert.Proof.Dx

end
-- ==== Proof.DxBlocks.lean ====
/-
  The blocks the dX kernel's points read, as entries of the arrays the windows stage.
-/
module

public import proofs.«01_k».proof.Proof.DxOut

@[expose] public section

noncomputable section

namespace Cert.Proof.Dx

open Cert.DxIdeal Cert.DxIdeal.Gen Idealize.ShloMosaic Idealize.ShloMosaic.TcCoe Idealize.SL.Sem
open Idealize.ShloMosaic.ValueIdx
open Cert.Proof.Common

variable {F : FTy → Type} [FloatOps F]
variable (m : (ℓ : Loc nD τ sig) → Buf (Elt F) ℓ)

/-- The printed index maps of the input windows, decided over the grid. -/
theorem idx0 : ∀ t : Fin cfg0.N, win0_0.index t (0 : Fin 1) = 0 :=
  (by decide +kernel : ∀ t : Fin grid0.N, _)
theorem idx1 : ∀ t : Fin cfg0.N, win0_1.index t (0 : Fin 2) = t.val / 64 ∧ win0_1.index t (1 : Fin 2) = t.val % 16 :=
  (by decide +kernel : ∀ t : Fin grid0.N, _)
theorem idx2 : ∀ t : Fin cfg0.N, win0_2.index t (0 : Fin 2) = t.val / 16 % 4 ∧ win0_2.index t (1 : Fin 2) = t.val % 16 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

/-- The arrays the windows read: the weight scale as a one-element array, the codes of dH, the weight codes, the tile. -/
abbrev sArr (c : Dev nD) : Vec F S1 .f32 := V m c main_v0
abbrev dArr (c : Dev nD) : Vec F S3072x32768 .fp8e5m2 := V m c main_arg0
abbrev wArr (c : Dev nD) : Vec F S8192x32768 .fp8e4m3 := V m c main_arg2
abbrev tArr (c : Dev nD) : Vec F S8x128 .f32 := V m c main_arg1

/-- The host's reshape. -/
theorem sArr_eq (c : Dev nD) : sArr m c = shapeCast S1 (m ((c : Thread nD τ).loc main_arg3)) shapeCasts_S_S1 := rfl

/-- Point `t`'s block of the dH codes: rows from `1536 · (t / 64)`, columns from `2048 · (t % 16)`. -/
theorem blk1 (c : Dev nD) (t : Fin cfg0.N) (a : Fin 1536) (b : Fin 2048) (p : Fin 3072) (q : Fin 32768)
    (hp : p.val = 1536 * (t.val / 64) + a.val) (hq : q.val = 2048 * (t.val % 16) + b.val) :
    (iblk m c 1 t : Vec F S1536x2048 .fp8e5m2) (ix2 a b) = dArr m c (ix2 p q) := by
  unfold iblk
  rw [View.read_apply]
  show V m c main_arg0 _ = V m c main_arg0 _
  congr 1
  funext d
  apply Fin.ext
  match d with
  | ⟨0, _⟩ => show win0_1.index t 0 * 1536 + 1 * a.val = p.val; rw [(idx1 t).1]; omega
  | ⟨1, _⟩ => show win0_1.index t 1 * 2048 + 1 * b.val = q.val; rw [(idx1 t).2]; omega

/-- Point `t`'s block of the weight codes: rows from `2048 · (t / 16 % 4)`, columns from `2048 · (t % 16)`. -/
theorem blk2 (c : Dev nD) (t : Fin cfg0.N) (a : Fin 2048) (b : Fin 2048) (p : Fin 8192) (q : Fin 32768)
    (hp : p.val = 2048 * (t.val / 16 % 4) + a.val) (hq : q.val = 2048 * (t.val % 16) + b.val) :
    (iblk m c 2 t : Vec F S2048x2048 .fp8e4m3) (ix2 a b) = wArr m c (ix2 p q) := by
  unfold iblk
  rw [View.read_apply]
  show V m c main_arg2 _ = V m c main_arg2 _
  congr 1
  funext d
  apply Fin.ext
  match d with
  | ⟨0, _⟩ => show win0_2.index t 0 * 2048 + 1 * a.val = p.val; rw [(idx2 t).1]; omega
  | ⟨1, _⟩ => show win0_2.index t 1 * 2048 + 1 * b.val = q.val; rw [(idx2 t).2]; omega

/-- Every point's tile is the whole tile. -/
theorem blk3 (c : Dev nD) (t : Fin cfg0.N) (a : Fin 8) (b : Fin 128) :
    (iblk m c 3 t : Vec F S8x128 .f32) (ix2 a b) = tArr m c (ix2 a b) := by
  unfold iblk
  rw [View.read_apply]
  show V m c main_arg1 _ = V m c main_arg1 _
  congr 1
  funext d
  apply Fin.ext
  match d with
  | ⟨0, _⟩ => show win0_3.index t 0 * 8 + 1 * a.val = a.val; rw [(idx3 t).1]; omega
  | ⟨1, _⟩ => show win0_3.index t 1 * 128 + 1 * b.val = b.val; rw [(idx3 t).2]; omega

/-- Every point's scale is the one scale. -/
theorem blk0 (c : Dev nD) (t : Fin cfg0.N) : (iblk m c 0 t : Vec F S1 .f32) (ix1 0) = sArr m c (ix1 0) := by
  unfold iblk
  rw [View.read_apply]
  show V m c main_v0 _ = V m c main_v0 _
  exact congrArg _ (idx1_eq _ _)

end Cert.Proof.Dx

end
-- ==== Proof.DxValue.lean ====
/-
  The dX kernel's result array over the extended reals, at an index: the contraction over the 32768 hidden columns of a
  row of dH with a row of the weight, times the product of the two scales.  The kernel contracts in 16 blocks of 2048
  columns; the sum of the blocks is the whole sum.
-/
module

public import proofs.«01_k».proof.Proof.DxBlocks

@[expose] public section

noncomputable section

namespace Cert.Proof.Dx

open Cert.DxIdeal Cert.DxIdeal.Gen Idealize.ShloMosaic Idealize.ShloMosaic.TcCoe Idealize.SL.Sem
open Idealize.ShloMosaic.ValueIdx
open Cert.Proof.Common
open scoped BigOperators

section AnyF

variable {F : FTy → Type} [FloatOps F]
variable (m : (ℓ : Loc nD τ sig) → Buf (Elt F) ℓ)

/-- The accumulator after the first point of a run. -/
theorem scratch_A (c : Dev nD) (t : Fin cfg0.N) (h0 : t.val % 16 = 0) :
    (outsAt0 m c t.val t.isLt).2 = k0_pay2 k0_pay1 (iblk m c 1 t) (iblk m c 2 t) := by
  have h1 : ¬t.val % 16 = 15 := by omega
  simp only [outsAt0_A m c t h0 h1, sout_A]

/-- The accumulator after any other point. -/
theorem scratch_BC (c : Dev nD) (t : Fin cfg0.N) (h0 : ¬t.val % 16 = 0) :
    (outsAt0 m c t.val t.isLt).2
      = k0_pay2 (outsAt0 m c (t.val - 1) (Nat.lt_of_le_of_lt (Nat.sub_le _ _) t.isLt)).2 (iblk m c 1 t) (iblk m c 2 t) := by
  by_cases h1 : t.val % 16 = 15
  · simp only [outsAt0_C m c t h0 h1, sout_C]
  · simp only [outsAt0_B m c t h0 h1, sout_B]

/-- The output block after the last point of a run: the scaled accumulator. -/
theorem out_last (c : Dev nD) (t : Fin cfg0.N) (h1 : t.val % 16 = 15) :
    (outsAt0 m c t.val t.isLt).1
      = k0_pay3 (iblk m c 3 t) ((iblk m c 0 t : Vec F S1 .f32) (ix1 0)) (outsAt0 m c t.val t.isLt).2 := by
  have h0 : ¬t.val % 16 = 0 := by omega
  rw [scratch_BC m c t h0]
  simp only [outsAt0_C m c t h0 h1, out_C]

end AnyF

/-- The starting accumulator is zero. -/
theorem pay1_apply (j : S1536x2048.Idx) : k0_pay1 (F := Ideal) j = (0 : EReal) := ofBits_zero

/-- One accumulation at an index. -/
theorem pay2_apply (v3 : Vec Ideal S1536x2048 .f32) (v4 : Vec Ideal S1536x2048 .fp8e5m2) (v5 : Vec Ideal S2048x2048 .fp8e4m3)
    (a : Fin 1536) (b : Fin 2048) :
    k0_pay2 (F := Ideal) v3 v4 v5 (ix2 a b)
      = ((v3 (ix2 a b) : EReal) + ∑ k : Fin 2048, (v4 (ix2 a k) : EReal) * v5 (ix2 b k) : EReal) := by
  unfold k0_pay2
  simp only [shapeCast_self]
  show (v3 (ix2 a b) : EReal) + FloatOps.matmul (F := Ideal) (DotDims.transposedRhs 1536 2048 2048) none v4 v5 (constant S1536x2048 .f32 0x00000000#32) (ix2 a b) = _
  rw [Ideal.matmul_transposedRhs_apply]
  show _ + (Ideal.ofBits .f32 0x00000000#32 + _) = _
  rw [ofBits_zero, zero_add]

/-- The scaled accumulator at an index. -/
theorem pay3_apply (v14 : Vec Ideal S8x128 .f32) (s : Elt Ideal .f32) (v19 : Vec Ideal S1536x2048 .f32) (a : Fin 1536) (b : Fin 2048) :
    k0_pay3 (F := Ideal) v14 s v19 (ix2 a b) = ((v19 (ix2 a b) : EReal) * ((v14 (ix2 0 0) : EReal) * s) : EReal) := by
  unfold k0_pay3
  show (v19 (ix2 a b) : EReal) * ((v14 _ : EReal) * s) = _
  refine congrArg (_ * ·) (congrArg (· * s) (congrArg v14 ?_))
  funext d
  match d with
  | ⟨0, _⟩ => rfl
  | ⟨1, _⟩ => rfl

variable (m : (ℓ : Loc nD τ sig) → Buf (Elt Ideal) ℓ)

/-- One product of the contraction, at a column given as a natural number. -/
def term (c : Dev nD) (p : Fin 3072) (q : Fin 8192) (k : ℕ) : EReal :=
  if h : k < 32768 then (dArr m c (ix2 p ⟨k, h⟩) : EReal) * wArr m c (ix2 q ⟨k, h⟩) else 0

/-- The blocks of a point. -/
abbrev dBlk (c : Dev nD) (t : Fin cfg0.N) : Vec Ideal S1536x2048 .fp8e5m2 := iblk m c 1 t
abbrev wBlk (c : Dev nD) (t : Fin cfg0.N) : Vec Ideal S2048x2048 .fp8e4m3 := iblk m c 2 t

/-- A block product is the sum of its 2048 columns' products. -/
theorem block_sum (c : Dev nD) (t : Fin cfg0.N) (a : Fin 1536) (b : Fin 2048) (p : Fin 3072) (q : Fin 8192)
    (hp : p.val = 1536 * (t.val / 64) + a.val) (hq : q.val = 2048 * (t.val / 16 % 4) + b.val) :
    (∑ k : Fin 2048, (dBlk m c t (ix2 a k) : EReal) * wBlk m c t (ix2 b k) : EReal)
      = ∑ k ∈ Finset.range 2048, term m c p q (2048 * (t.val % 16) + k) := by
  rw [Finset.sum_range]
  refine Finset.sum_congr rfl fun k _ => ?_
  have hk := k.isLt
  have hlt : 2048 * (t.val % 16) + k.val < 32768 := by omega
  unfold term
  rw [dif_pos hlt]
  exact congrArg₂ (· * ·) (blk1 m c t a k p ⟨_, hlt⟩ hp rfl) (blk2 m c t b k q ⟨_, hlt⟩ hq rfl)

/-- After every point the accumulator holds the sum over the columns of the run's blocks so far. -/
theorem scratch_eq (c : Dev nD) (a : Fin 1536) (b : Fin 2048) (p : Fin 3072) (q : Fin 8192) : ∀ (n : ℕ) (h : n < cfg0.N),
    p.val = 1536 * (n / 64) + a.val → q.val = 2048 * (n / 16 % 4) + b.val →
    ((outsAt0 m c n h).2 (ix2 a b) : EReal) = ∑ k ∈ Finset.range (2048 * (n % 16) + 2048), term m c p q k
  | 0, h, hp, hq => by
    refine (congrFun (scratch_A m c ⟨0, h⟩ rfl) _).trans ?_
    rw [pay2_apply, pay1_apply, zero_add, block_sum m c ⟨0, h⟩ a b p q hp hq]
    refine Finset.sum_congr rfl fun k _ => congrArg _ ?_
    show 2048 * (0 % 16) + k = k
    omega
  | n + 1, h, hp, hq => by
    by_cases h0 : (n + 1) % 16 = 0
    · refine (congrFun (scratch_A m c ⟨n + 1, h⟩ h0) _).trans ?_
      rw [pay2_apply, pay1_apply, zero_add, block_sum m c ⟨n + 1, h⟩ a b p q hp hq, h0]
      refine Finset.sum_congr rfl fun k _ => congrArg _ ?_
      show 2048 * 0 + k = k
      omega
    · refine (congrFun (scratch_BC m c ⟨n + 1, h⟩ h0) _).trans ?_
      rw [pay2_apply, block_sum m c ⟨n + 1, h⟩ a b p q hp hq, Finset.sum_range_add]
      refine congrArg (· + _) ?_
      refine (scratch_eq c a b p q n (Nat.lt_of_succ_lt h) (by omega) (by omega)).trans ?_
      rw [show 2048 * (n % 16) + 2048 = 2048 * ((n + 1) % 16) from by omega]

/-- The result array at an index. -/
theorem G_apply (c : Dev nD) (p : Fin 3072) (q : Fin 8192) :
    (Value.G4 m c : Vec Ideal S3072x8192 .bf16) (ix2 p q)
      = ((∑ k : Fin 32768, (dArr m c (ix2 p k) : EReal) * wArr m c (ix2 q k)) * ((tArr m c (ix2 0 0) : EReal) * sArr m c (ix1 0)) : EReal) := by
  have hr := p.isLt
  have hq := q.isLt
  have hpv : Value.pt4Of (ix2 p q) = 16 * (4 * (p.val / 1536) + q.val / 2048) + 15 := by
    show 16 * (4 * (p.val / 1536 - 0) + 1 * (q.val / 2048 - 0)) + 15 = _
    omega
  have hp : Value.pt4Of (ix2 p q) < cfg0.N := by
    rw [show cfg0.N = 128 from N_0, hpv]
    omega
  unfold Value.G4
  rw [dif_pos hp, ← Value.outsAt0_sweep m c _ hp]
  refine (congrFun (out_last m c ⟨_, hp⟩ (by show Value.pt4Of (ix2 p q) % 16 = 15; rw [hpv]; omega)) _).trans ?_
  have hl : Value.loc4Of (ix2 p q) = ix2 (⟨p.val % 1536, Nat.mod_lt _ (by decide)⟩ : Fin 1536) (⟨q.val % 2048, Nat.mod_lt _ (by decide)⟩ : Fin 2048) := by
    funext d
    match d with
    | ⟨0, _⟩ => rfl
    | ⟨1, _⟩ => rfl
  rw [hl, pay3_apply, blk0, blk3]
  refine congrArg (· * _) ?_
  refine (scratch_eq m c _ _ p q _ hp (by show p.val = 1536 * (Value.pt4Of (ix2 p q) / 64) + p.val % 1536; rw [hpv]; omega)
    (by show q.val = 2048 * (Value.pt4Of (ix2 p q) / 16 % 4) + q.val % 2048; rw [hpv]; omega)).trans ?_
  rw [show 2048 * (Value.pt4Of (ix2 p q) % 16) + 2048 = 32768 from by rw [hpv]; omega, Finset.sum_range]
  refine Finset.sum_congr rfl fun k _ => ?_
  unfold term
  rw [dif_pos k.isLt]

end Cert.Proof.Dx

end
-- ==== Proof.DxRef.lean ====
/-
  The dX reference's result array over the extended reals, at an index.
-/
module

public import proofs.«01_k».proof.Proof.Gen.DxRefIdeal.Value
public import proofs.«01_k».proof.Proof.Common

@[expose] public section

noncomputable section

namespace Cert.Proof.DxRef

open Cert.DxRefIdeal Cert.DxRefIdeal.Gen Idealize.ShloMosaic Idealize.ShloMosaic.TcCoe Idealize.SL.Sem
open Idealize.ShloMosaic.ValueIdx
open Cert.Proof.Common
open scoped BigOperators

section AnyF

variable {F : FTy → Type} [FloatOps F]
variable (m : (ℓ : Loc nD τ sig) → Buf (Elt F) ℓ)

/-- The one point. -/
def t₀ : Fin cfg0.N := ⟨0, by decide⟩

/-- The body leaves the payload of its four inputs. -/
theorem out_A (c : Dev nD) (a0 h0 a1 h1 a2 h2 a3 h3 a4 h4)
    (x0 : Vec F S3072x32768 .fp8e5m2) (x1 : Vec F S8x128 .f32) (x2 : Vec F S8192x32768 .fp8e4m3) (x3 : Vec F S1 .f32) :
    out0_A_4 c a0 h0 a1 h1 a2 h2 a3 h3 a4 h4 x0 x1 x2 x3 = k0_pay1 x0 x2 (fun _ => x1 (ix2 0 0)) (x3 (ix1 0)) := by
  unfold out0_A_4
  rw [View.read_writes_eq_canon _ _ _ (cover0_A_4 c a0 h0 a1 h1 a2 h2 a3 h3 a4 h4 x0 x1 x2 x3)]
  unfold kernelRun0_A
  dsimp only
  sl_unfold_words
  rw [View.canon_unit_zero hz2]
  simp only [View.readAt_eq_ld, h0.read_unread, h1.read_unread, h2.read_unread, h3.read_unread,
    View.ld_unit_zero (S := S3072x32768) hz2, View.ld_unit_zero (S := S8192x32768) hz2]
  refine congrArg₂ (k0_pay1 x0 x2) (funext fun j => congrArg x1 ?_) (congrArg x3 (idx1_eq _ _))
  have e0 : (j 0).val < 1 := (j 0).isLt
  have e1 : (j 1).val < 1 := (j 1).isLt
  funext d
  apply Fin.ext
  match d with
  | ⟨0, _⟩ => show 0 + 1 * (j 0).val = 0; omega
  | ⟨1, _⟩ => show 0 + 1 * (j 1).val = 0; omega

/-- The arrays the windows read. -/
abbrev sArr (c : Dev nD) : Vec F S1 .f32 := V m c main_v0
abbrev dArr (c : Dev nD) : Vec F S3072x32768 .fp8e5m2 := V m c main_arg0
abbrev wArr (c : Dev nD) : Vec F S8192x32768 .fp8e4m3 := V m c main_arg2
abbrev tArr (c : Dev nD) : Vec F S8x128 .f32 := V m c main_arg1

/-- The host's reshape. -/
theorem sArr_eq (c : Dev nD) : sArr m c = shapeCast S1 (m ((c : Thread nD τ).loc main_arg3)) shapeCasts_S_S1 := rfl

/-- Each input's one block is its array. -/
theorem blk0 (c : Dev nD) : (iblk m c 0 t₀ : Vec F S3072x32768 .fp8e5m2) = dArr m c := by
  have hz : (fun a => (win0_0.index t₀) a * main_arg0.ty.shape.size a) = fun _ => 0 := funext fun a => by fin_cases a <;> decide
  exact Memref.read_access_unit_zero (Elt F) main_arg0 hz (fun a => by fin_cases a <;> decide) _
theorem blk1 (c : Dev nD) : (iblk m c 1 t₀ : Vec F S8x128 .f32) = tArr m c := by
  have hz : (fun a => (win0_1.index t₀) a * main_arg1.ty.shape.size a) = fun _ => 0 := funext fun a => by fin_cases a <;> decide
  exact Memref.read_access_unit_zero (Elt F) main_arg1 hz (fun a => by fin_cases a <;> decide) _
theorem blk2 (c : Dev nD) : (iblk m c 2 t₀ : Vec F S8192x32768 .fp8e4m3) = wArr m c := by
  have hz : (fun a => (win0_2.index t₀) a * main_arg2.ty.shape.size a) = fun _ => 0 := funext fun a => by fin_cases a <;> decide
  exact Memref.read_access_unit_zero (Elt F) main_arg2 hz (fun a => by fin_cases a <;> decide) _
theorem blk3 (c : Dev nD) : (iblk m c 3 t₀ : Vec F S1 .f32) = sArr m c := by
  have hz : (fun a => (win0_3.index t₀) a * main_v0.ty.shape.size a) = fun _ => 0 := funext fun a => by fin_cases a <;> decide
  exact Memref.read_access_unit_zero (Elt F) main_v0 hz (fun a => by fin_cases a <;> decide) _

/-- The result array is the payload of the arrays. -/
theorem final_value (c : Dev nD) :
    (dats m 0 c).arrAt 4 cfg0.N = k0_pay1 (dArr m c) (wArr m c) (fun _ => tArr m c (ix2 0 0)) (sArr m c (ix1 0)) := by
  have ho := Value.blocks4 m c t₀ (by decide +kernel)
  have hz : (fun a => (win0_4.index t₀) a * main_v1.ty.shape.size a) = fun _ => 0 := funext fun a => by fin_cases a <;> decide
  have hr := fun f => Memref.read_access_unit_zero (Elt F) main_v1 hz (fun a => by fin_cases a <;> decide) f
  rw [hr] at ho
  rw [ho, Value.flushed4_A]
  simp only [out_A, blk0, blk1, blk2, blk3]
  rfl

end AnyF

/-- The payload at an index. -/
theorem pay1_apply (d : Vec Ideal S3072x32768 .fp8e5m2) (w : Vec Ideal S8192x32768 .fp8e4m3) (v : Vec Ideal S1x1 .f32) (s : Elt Ideal .f32)
    (p : Fin 3072) (q : Fin 8192) :
    k0_pay1 (F := Ideal) d w v s (ix2 p q)
      = ((∑ k : Fin 32768, (d (ix2 p k) : EReal) * w (ix2 q k)) * ((v (ix2 0 0) : EReal) * s) : EReal) := by
  unfold k0_pay1
  show (FloatOps.matmul (F := Ideal) (DotDims.transposedRhs 3072 32768 8192) none d w (constant S3072x8192 .f32 0x00000000#32) (ix2 p q) : EReal)
    * ((v _ : EReal) * s) = _
  rw [Ideal.matmul_transposedRhs_apply]
  show (Ideal.ofBits .f32 0x00000000#32 + _) * _ = _
  rw [ofBits_zero, zero_add]
  refine congrArg (_ * ·) (congrArg (· * s) (congrArg v ?_))
  funext a
  match a with
  | ⟨0, _⟩ => rfl
  | ⟨1, _⟩ => rfl

/-- The result array at an index. -/
theorem final_apply (m : (ℓ : Loc nD τ sig) → Buf (Elt Ideal) ℓ) (c : Dev nD) (p : Fin 3072) (q : Fin 8192) :
    ((dats m 0 c).arrAt 4 cfg0.N : Vec Ideal S3072x8192 .bf16) (ix2 p q)
      = ((∑ k : Fin 32768, (dArr m c (ix2 p k) : EReal) * wArr m c (ix2 q k)) * ((tArr m c (ix2 0 0) : EReal) * sArr m c (ix1 0)) : EReal) := by
  rw [final_value]
  exact pay1_apply _ _ _ _ p q

end Cert.Proof.DxRef

end
-- ==== Proof.DxAlg.lean ====
/-
  The dX kernel and its reference end with the same result array, for every argument.
-/
module

public import proofs.«01_k».proof.Defs
public import proofs.«01_k».proof.Proof.DxValue
public import proofs.«01_k».proof.Proof.DxRef

@[expose] public section

noncomputable section

namespace Cert.Proof.DxAlg

open Idealize.ShloMosaic Idealize.SL.Sem Idealize.ShloMosaic.ValueIdx

theorem algebraic : Cert.algebraic_DxIdeal_DxRefIdeal (hDxIdeal := Cert.DxIdeal.Gen.facts)
    (hDxRefIdeal := Cert.DxRefIdeal.Gen.facts) := by
  intro m g m' g' _ hargs
  refine ⟨fun c => Cert.DxIdeal.Value.G4 (F := Ideal) m c, Cert.DxIdeal.Value.run (F := Ideal) m g, ?_⟩
  refine (θ_run (Cert.DxRefIdeal.defs (F := Ideal)) _ _).mono (fun r h c => ?_) (Cert.DxRefIdeal.Value.run_blocks (F := Ideal) m' g')
  obtain ⟨hv, h0, h1, h2, h3⟩ := h c
  refine ⟨hv.trans ?_, h0, h1, h2, h3⟩
  obtain ⟨a0, a1, a2, a3⟩ := hargs c
  have es : DxRef.sArr m' c = Dx.sArr m c := by rw [DxRef.sArr_eq, Dx.sArr_eq, a3]
  have ed : DxRef.dArr m' c = Dx.dArr m c := (Cert.DxRefIdeal.Gen.V_main_arg0 m' c).trans (a0.trans (Cert.DxIdeal.Gen.V_main_arg0 m c).symm)
  have ew : DxRef.wArr m' c = Dx.wArr m c := (Cert.DxRefIdeal.Gen.V_main_arg2 m' c).trans (a2.trans (Cert.DxIdeal.Gen.V_main_arg2 m c).symm)
  have et : DxRef.tArr m' c = Dx.tArr m c := (Cert.DxRefIdeal.Gen.V_main_arg1 m' c).trans (a1.trans (Cert.DxIdeal.Gen.V_main_arg1 m c).symm)
  funext j
  obtain ⟨p, q, rfl⟩ : ∃ (p : Fin 3072) (q : Fin 8192), j = ix2 p q := ⟨j 0, j 1, eq_ix2 j⟩
  refine (DxRef.final_apply m' c p q).trans (Eq.trans ?_ (Dx.G_apply m c p q).symm)
  rw [es, ed, ew, et]

end Cert.Proof.DxAlg

end
-- ==== Proof.Dw2Out.lean ====
/-
  What each point of the dW2 kernel leaves, as its body's payloads: the block of a transposed at the first point of a row
  of blocks, the product block, and the block of quantised codes (of dg in the first half of the points, of du after).
-/
module

public import proofs.«01_k».proof.Proof.Gen.Dw2Ideal.Frame
public import proofs.«01_k».proof.Proof.Common
public import Idealize.ShloMosaic.Lib.Pipeline.Value

@[expose] public section

noncomputable section

namespace Cert.Proof.Dw2

open Cert.Dw2Ideal Cert.Dw2Ideal.Gen Idealize.ShloMosaic Idealize.ShloMosaic.TcCoe Idealize.SL.Sem
open Idealize.ShloMosaic.ValueIdx
open Cert.Proof.Common
open scoped BigOperators

variable {F : FTy → Type} [FloatOps F]

/-- The first element of a tile, loaded as a one-element block. -/
theorem corner (x : Vec F S8x128 .f32) (i : S1x1.Idx) (k : S8x128.Idx) (hk : ∀ d, (k d).val = 0 + 1 * (i d).val) : x k = x (ix2 0 0) := by
  have e0 : (i 0).val < 1 := (i 0).isLt
  have e1 : (i 1).val < 1 := (i 1).isLt
  refine congrArg x (funext fun d => Fin.ext ?_)
  rw [hk d]
  match d with
  | ⟨0, _⟩ => show 0 + 1 * (i 0).val = 0; omega
  | ⟨1, _⟩ => show 0 + 1 * (i 1).val = 0; omega

/-- Scratch, case A: the transposed block. -/
theorem sout_A (c : Dev nD) (i : grid0.Coords) (a0 h0 a1 h1 a2 h2 a3 h3 a4 h4 a5 h5 a6 h6 a7 h7 a8 h8 a9 h9) (hc hd he)
    (x0 : Vec F S1 .f32) (x1 : Vec F S3072x2048 .fp8e4m3) (x2 : Vec F S3072x1024 .fp8e5m2) (x3 : Vec F S3072x512 .bf16)
    (x4 : Vec F S3072x512 .bf16) (x5 : Vec F S8x128 .f32) (x6 : Vec F S8x128 .f32) :
    sout0_A_0 c i a0 h0 a1 h1 a2 h2 a3 h3 a4 h4 a5 h5 a6 h6 a7 h7 a8 h8 a9 h9 hc hd he x0 x1 x2 x3 x4 x5 x6 = k0_pay1 x1 := by
  unfold sout0_A_0
  rw [View.read_writes_eq_canon _ _ _ (scover0_A_0 c i a0 h0 a1 h1 a2 h2 a3 h3 a4 h4 a5 h5 a6 h6 a7 h7 a8 h8 a9 h9 hc hd he x0 x1 x2 x3 x4 x5 x6)]
  unfold kernelRun0_A
  dsimp only
  sl_unfold_words
  rw [View.canon_unit_zero hz2]
  simp only [View.readAt_eq_ld, h1.read_unread, View.ld_unit_zero (S := S3072x2048) hz2]

/-- Scratch, case C: the transposed block. -/
theorem sout_C (c : Dev nD) (i : grid0.Coords) (a0 h0 a1 h1 a2 h2 a3 h3 a4 h4 a5 h5 a6 h6 a7 h7 a8 h8 a9 h9) (hc hd he)
    (x0 : Vec F S1 .f32) (x1 : Vec F S3072x2048 .fp8e4m3) (x2 : Vec F S3072x1024 .fp8e5m2) (x3 : Vec F S3072x512 .bf16)
    (x4 : Vec F S3072x512 .bf16) (x5 : Vec F S8x128 .f32) (x6 : Vec F S8x128 .f32) :
    sout0_C_0 c i a0 h0 a1 h1 a2 h2 a3 h3 a4 h4 a5 h5 a6 h6 a7 h7 a8 h8 a9 h9 hc hd he x0 x1 x2 x3 x4 x5 x6 = k0_pay1 x1 := by
  unfold sout0_C_0
  rw [View.read_writes_eq_canon _ _ _ (scover0_C_0 c i a0 h0 a1 h1 a2 h2 a3 h3 a4 h4 a5 h5 a6 h6 a7 h7 a8 h8 a9 h9 hc hd he x0 x1 x2 x3 x4 x5 x6)]
  unfold kernelRun0_C
  dsimp only
  sl_unfold_words
  rw [View.canon_unit_zero hz2]
  simp only [View.readAt_eq_ld, h1.read_unread, View.ld_unit_zero (S := S3072x2048) hz2]

/-- Product block, case A. -/
theorem out7_A (c : Dev nD) (i : grid0.Coords) (a0 h0 a1 h1 a2 h2 a3 h3 a4 h4 a5 h5 a6 h6 a7 h7 a8 h8 a9 h9) (hc hd he)
    (x0 : Vec F S1 .f32) (x1 : Vec F S3072x2048 .fp8e4m3) (x2 : Vec F S3072x1024 .fp8e5m2) (x3 : Vec F S3072x512 .bf16)
    (x4 : Vec F S3072x512 .bf16) (x5 : Vec F S8x128 .f32) (x6 : Vec F S8x128 .f32) :
    out0_A_7 c i a0 h0 a1 h1 a2 h2 a3 h3 a4 h4 a5 h5 a6 h6 a7 h7 a8 h8 a9 h9 hc hd he x0 x1 x2 x3 x4 x5 x6 = k0_pay4 (x0 (ix1 0)) x5 (k0_pay1 x1) x2 := by
  unfold out0_A_7
  rw [View.read_writes_eq_canon _ _ _ (cover0_A_7 c i a0 h0 a1 h1 a2 h2 a3 h3 a4 h4 a5 h5 a6 h6 a7 h7 a8 h8 a9 h9 hc hd he x0 x1 x2 x3 x4 x5 x6)]
  unfold kernelRun0_A
  dsimp only
  sl_unfold_words
  rw [View.canon_unit_zero hz2, View.readCov_unit_zero (S := S2048x3072) _ hz2]
  simp only [View.readAt_eq_ld, h0.read_unread, h1.read_unread, h2.read_unread, h5.read_unread, h9.read_unread,
    View.ld_unit_zero (S := S3072x2048) hz2, View.ld_unit_zero (S := S3072x1024) hz2, View.ld_unit_zero (S := S8x128) hz2, View.ld_unit_zero (S := S2048x3072) hz2]
  exact congrArg (k0_pay4 · x5 _ x2) (congrArg x0 (idx1_eq _ _))

/-- Code block, case A. -/
theorem out8_A (c : Dev nD) (i : grid0.Coords) (a0 h0 a1 h1 a2 h2 a3 h3 a4 h4 a5 h5 a6 h6 a7 h7 a8 h8 a9 h9) (hc hd he)
    (x0 : Vec F S1 .f32) (x1 : Vec F S3072x2048 .fp8e4m3) (x2 : Vec F S3072x1024 .fp8e5m2) (x3 : Vec F S3072x512 .bf16)
    (x4 : Vec F S3072x512 .bf16) (x5 : Vec F S8x128 .f32) (x6 : Vec F S8x128 .f32) :
    out0_A_8 c i a0 h0 a1 h1 a2 h2 a3 h3 a4 h4 a5 h5 a6 h6 a7 h7 a8 h8 a9 h9 hc hd he x0 x1 x2 x3 x4 x5 x6 = k0_pay2 x3 (fun _ => x6 (ix2 0 0)) := by
  unfold out0_A_8
  rw [View.read_writes_eq_canon _ _ _ (cover0_A_8 c i a0 h0 a1 h1 a2 h2 a3 h3 a4 h4 a5 h5 a6 h6 a7 h7 a8 h8 a9 h9 hc hd he x0 x1 x2 x3 x4 x5 x6)]
  unfold kernelRun0_A
  dsimp only
  sl_unfold_words
  rw [View.canon_unit_zero hz2]
  simp only [View.readAt_eq_ld, h3.read_unread, h6.read_unread, View.ld_unit_zero (S := S3072x512) hz2]
  exact congrArg (k0_pay2 x3) (funext fun j => corner x6 j _ (fun d => by match d with
    | ⟨0, _⟩ => rfl
    | ⟨1, _⟩ => rfl))

/-- Product block, case B. -/
theorem out7_B (c : Dev nD) (i : grid0.Coords) (a0 h0 a1 h1 a2 h2 a3 h3 a4 h4 a5 h5 a6 h6 a7 h7 a8 h8 a9 h9) (hc hd he)
    (x0 : Vec F S1 .f32) (x1 : Vec F S3072x2048 .fp8e4m3) (x2 : Vec F S3072x1024 .fp8e5m2) (x3 : Vec F S3072x512 .bf16)
    (x4 : Vec F S3072x512 .bf16) (x5 : Vec F S8x128 .f32) (x6 : Vec F S8x128 .f32) (xs : Vec F S2048x3072 .fp8e4m3) :
    out0_B_7 c i a0 h0 a1 h1 a2 h2 a3 h3 a4 h4 a5 h5 a6 h6 a7 h7 a8 h8 a9 h9 hc hd he x0 x1 x2 x3 x4 x5 x6 xs = k0_pay4 (x0 (ix1 0)) x5 xs x2 := by
  unfold out0_B_7
  rw [View.read_writes_eq_canon _ _ _ (cover0_B_7 c i a0 h0 a1 h1 a2 h2 a3 h3 a4 h4 a5 h5 a6 h6 a7 h7 a8 h8 a9 h9 hc hd he x0 x1 x2 x3 x4 x5 x6 xs)]
  unfold kernelRun0_B
  dsimp only
  sl_unfold_words
  rw [View.canon_unit_zero hz2]
  simp only [View.readAt_eq_ld, h0.read_unread, h1.read_unread, h2.read_unread, h5.read_unread, h9.read_unread,
    View.ld_unit_zero (S := S3072x2048) hz2, View.ld_unit_zero (S := S3072x1024) hz2, View.ld_unit_zero (S := S8x128) hz2, View.ld_unit_zero (S := S2048x3072) hz2]
  exact congrArg (k0_pay4 · x5 _ x2) (congrArg x0 (idx1_eq _ _))

/-- Code block, case B. -/
theorem out8_B (c : Dev nD) (i : grid0.Coords) (a0 h0 a1 h1 a2 h2 a3 h3 a4 h4 a5 h5 a6 h6 a7 h7 a8 h8 a9 h9) (hc hd he)
    (x0 : Vec F S1 .f32) (x1 : Vec F S3072x2048 .fp8e4m3) (x2 : Vec F S3072x1024 .fp8e5m2) (x3 : Vec F S3072x512 .bf16)
    (x4 : Vec F S3072x512 .bf16) (x5 : Vec F S8x128 .f32) (x6 : Vec F S8x128 .f32) (xs : Vec F S2048x3072 .fp8e4m3) :
    out0_B_8 c i a0 h0 a1 h1 a2 h2 a3 h3 a4 h4 a5 h5 a6 h6 a7 h7 a8 h8 a9 h9 hc hd he x0 x1 x2 x3 x4 x5 x6 xs = k0_pay2 x3 (fun _ => x6 (ix2 0 0)) := by
  unfold out0_B_8
  rw [View.read_writes_eq_canon _ _ _ (cover0_B_8 c i a0 h0 a1 h1 a2 h2 a3 h3 a4 h4 a5 h5 a6 h6 a7 h7 a8 h8 a9 h9 hc hd he x0 x1 x2 x3 x4 x5 x6 xs)]
  unfold kernelRun0_B
  dsimp only
  sl_unfold_words
  rw [View.canon_unit_zero hz2]
  simp only [View.readAt_eq_ld, h3.read_unread, h6.read_unread, View.ld_unit_zero (S := S3072x512) hz2]
  exact congrArg (k0_pay2 x3) (funext fun j => corner x6 j _ (fun d => by match d with
    | ⟨0, _⟩ => rfl
    | ⟨1, _⟩ => rfl))

/-- Product block, case C. -/
theorem out7_C (c : Dev nD) (i : grid0.Coords) (a0 h0 a1 h1 a2 h2 a3 h3 a4 h4 a5 h5 a6 h6 a7 h7 a8 h8 a9 h9) (hc hd he)
    (x0 : Vec F S1 .f32) (x1 : Vec F S3072x2048 .fp8e4m3) (x2 : Vec F S3072x1024 .fp8e5m2) (x3 : Vec F S3072x512 .bf16)
    (x4 : Vec F S3072x512 .bf16) (x5 : Vec F S8x128 .f32) (x6 : Vec F S8x128 .f32) :
    out0_C_7 c i a0 h0 a1 h1 a2 h2 a3 h3 a4 h4 a5 h5 a6 h6 a7 h7 a8 h8 a9 h9 hc hd he x0 x1 x2 x3 x4 x5 x6 = k0_pay4 (x0 (ix1 0)) x5 (k0_pay1 x1) x2 := by
  unfold out0_C_7
  rw [View.read_writes_eq_canon _ _ _ (cover0_C_7 c i a0 h0 a1 h1 a2 h2 a3 h3 a4 h4 a5 h5 a6 h6 a7 h7 a8 h8 a9 h9 hc hd he x0 x1 x2 x3 x4 x5 x6)]
  unfold kernelRun0_C
  dsimp only
  sl_unfold_words
  rw [View.canon_unit_zero hz2, View.readCov_unit_zero (S := S2048x3072) _ hz2]
  simp only [View.readAt_eq_ld, h0.read_unread, h1.read_unread, h2.read_unread, h5.read_unread, h9.read_unread,
    View.ld_unit_zero (S := S3072x2048) hz2, View.ld_unit_zero (S := S3072x1024) hz2, View.ld_unit_zero (S := S8x128) hz2, View.ld_unit_zero (S := S2048x3072) hz2]
  exact congrArg (k0_pay4 · x5 _ x2) (congrArg x0 (idx1_eq _ _))

/-- Code block, case C. -/
theorem out8_C (c : Dev nD) (i : grid0.Coords) (a0 h0 a1 h1 a2 h2 a3 h3 a4 h4 a5 h5 a6 h6 a7 h7 a8 h8 a9 h9) (hc hd he)
    (x0 : Vec F S1 .f32) (x1 : Vec F S3072x2048 .fp8e4m3) (x2 : Vec F S3072x1024 .fp8e5m2) (x3 : Vec F S3072x512 .bf16)
    (x4 : Vec F S3072x512 .bf16) (x5 : Vec F S8x128 .f32) (x6 : Vec F S8x128 .f32) :
    out0_C_8 c i a0 h0 a1 h1 a2 h2 a3 h3 a4 h4 a5 h5 a6 h6 a7 h7 a8 h8 a9 h9 hc hd he x0 x1 x2 x3 x4 x5 x6 = k0_pay3 x4 (fun _ => x6 (ix2 0 0)) := by
  unfold out0_C_8
  rw [View.read_writes_eq_canon _ _ _ (cover0_C_8 c i a0 h0 a1 h1 a2 h2 a3 h3 a4 h4 a5 h5 a6 h6 a7 h7 a8 h8 a9 h9 hc hd he x0 x1 x2 x3 x4 x5 x6)]
  unfold kernelRun0_C
  dsimp only
  sl_unfold_words
  rw [View.canon_unit_zero hz2]
  simp only [View.readAt_eq_ld, h4.read_unread, h6.read_unread, View.ld_unit_zero (S := S3072x512) hz2]
  exact congrArg (k0_pay3 x4) (funext fun j => corner x6 j _ (fun d => by match d with
    | ⟨0, _⟩ => rfl
    | ⟨1, _⟩ => rfl))

/-- Product block, case D. -/
theorem out7_D (c : Dev nD) (i : grid0.Coords) (a0 h0 a1 h1 a2 h2 a3 h3 a4 h4 a5 h5 a6 h6 a7 h7 a8 h8 a9 h9) (hc hd he)
    (x0 : Vec F S1 .f32) (x1 : Vec F S3072x2048 .fp8e4m3) (x2 : Vec F S3072x1024 .fp8e5m2) (x3 : Vec F S3072x512 .bf16)
    (x4 : Vec F S3072x512 .bf16) (x5 : Vec F S8x128 .f32) (x6 : Vec F S8x128 .f32) (xs : Vec F S2048x3072 .fp8e4m3) :
    out0_D_7 c i a0 h0 a1 h1 a2 h2 a3 h3 a4 h4 a5 h5 a6 h6 a7 h7 a8 h8 a9 h9 hc hd he x0 x1 x2 x3 x4 x5 x6 xs = k0_pay4 (x0 (ix1 0)) x5 xs x2 := by
  unfold out0_D_7
  rw [View.read_writes_eq_canon _ _ _ (cover0_D_7 c i a0 h0 a1 h1 a2 h2 a3 h3 a4 h4 a5 h5 a6 h6 a7 h7 a8 h8 a9 h9 hc hd he x0 x1 x2 x3 x4 x5 x6 xs)]
  unfold kernelRun0_D
  dsimp only
  sl_unfold_words
  rw [View.canon_unit_zero hz2]
  simp only [View.readAt_eq_ld, h0.read_unread, h1.read_unread, h2.read_unread, h5.read_unread, h9.read_unread,
    View.ld_unit_zero (S := S3072x2048) hz2, View.ld_unit_zero (S := S3072x1024) hz2, View.ld_unit_zero (S := S8x128) hz2, View.ld_unit_zero (S := S2048x3072) hz2]
  exact congrArg (k0_pay4 · x5 _ x2) (congrArg x0 (idx1_eq _ _))

/-- Code block, case D. -/
theorem out8_D (c : Dev nD) (i : grid0.Coords) (a0 h0 a1 h1 a2 h2 a3 h3 a4 h4 a5 h5 a6 h6 a7 h7 a8 h8 a9 h9) (hc hd he)
    (x0 : Vec F S1 .f32) (x1 : Vec F S3072x2048 .fp8e4m3) (x2 : Vec F S3072x1024 .fp8e5m2) (x3 : Vec F S3072x512 .bf16)
    (x4 : Vec F S3072x512 .bf16) (x5 : Vec F S8x128 .f32) (x6 : Vec F S8x128 .f32) (xs : Vec F S2048x3072 .fp8e4m3) :
    out0_D_8 c i a0 h0 a1 h1 a2 h2 a3 h3 a4 h4 a5 h5 a6 h6 a7 h7 a8 h8 a9 h9 hc hd he x0 x1 x2 x3 x4 x5 x6 xs = k0_pay3 x4 (fun _ => x6 (ix2 0 0)) := by
  unfold out0_D_8
  rw [View.read_writes_eq_canon _ _ _ (cover0_D_8 c i a0 h0 a1 h1 a2 h2 a3 h3 a4 h4 a5 h5 a6 h6 a7 h7 a8 h8 a9 h9 hc hd he x0 x1 x2 x3 x4 x5 x6 xs)]
  unfold kernelRun0_D
  dsimp only
  sl_unfold_words
  rw [View.canon_unit_zero hz2]
  simp only [View.readAt_eq_ld, h4.read_unread, h6.read_unread, View.ld_unit_zero (S := S3072x512) hz2]
  exact congrArg (k0_pay3 x4) (funext fun j => corner x6 j _ (fun d => by match d with
    | ⟨0, _⟩ => rfl
    | ⟨1, _⟩ => rfl))

end Cert.Proof.Dw2

end
-- ==== Proof.Dw2Blocks.lean ====
/-
  The blocks the dW2 kernel's points read, as entries of the arrays the windows stage.
-/
module

public import proofs.«01_k».proof.Proof.Dw2Out

@[expose] public section

noncomputable section

namespace Cert.Proof.Dw2

open Cert.Dw2Ideal Cert.Dw2Ideal.Gen Idealize.ShloMosaic Idealize.ShloMosaic.TcCoe Idealize.SL.Sem
open Idealize.ShloMosaic.ValueIdx
open Cert.Proof.Common
open scoped BigOperators

variable {F : FTy → Type} [FloatOps F]
variable (m : (ℓ : Loc nD τ sig) → Buf (Elt F) ℓ)

/-- The printed index maps of the windows, decided over the grid. -/
theorem idx1 : ∀ t : Fin cfg0.N, win0_1.index t (0 : Fin 2) = 0 ∧ win0_1.index t (1 : Fin 2) = t.val / 8 :=
  (by decide +kernel : ∀ t : Fin grid0.N, _)
theorem idx2 : ∀ t : Fin cfg0.N, win0_2.index t (0 : Fin 2) = 0 ∧ win0_2.index t (1 : Fin 2) = t.val % 8 :=
  (by decide +kernel : ∀ t : Fin grid0.N, _)
theorem idx3 : ∀ t : Fin cfg0.N, win0_3.index t (0 : Fin 2) = 0 ∧ win0_3.index t (1 : Fin 2) = min t.val 31 :=
  (by decide +kernel : ∀ t : Fin grid0.N, _)
theorem idx4 : ∀ t : Fin cfg0.N, win0_4.index t (0 : Fin 2) = 0 ∧ win0_4.index t (1 : Fin 2) = t.val - 32 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val / 8 ∧ win0_7.index t (1 : Fin 2) = t.val % 8 :=
  (by decide +kernel : ∀ t : Fin grid0.N, _)
theorem idx8 : ∀ t : Fin cfg0.N, win0_8.index t (0 : Fin 2) = 0 ∧ win0_8.index t (1 : Fin 2) = t.val :=
  (by decide +kernel : ∀ t : Fin grid0.N, _)

/-- The arrays the windows read: the codes of a reshaped to two axes, their scale as a one-element array, the codes of dy,
    the two halves of dH, the tile of the scale of dy and the tile of the inverse scale of dH. -/
abbrev xArr (c : Dev nD) : Vec F S3072x16384 .fp8e4m3 := V m c main_v0
abbrev sArr (c : Dev nD) : Vec F S1 .f32 := V m c main_v1
abbrev yArr (c : Dev nD) : Vec F S3072x8192 .fp8e5m2 := V m c main_arg2
abbrev gArr (c : Dev nD) : Vec F S3072x16384 .bf16 := V m c main_arg4
abbrev uArr (c : Dev nD) : Vec F S3072x16384 .bf16 := V m c main_arg5
abbrev tArr (c : Dev nD) : Vec F S8x128 .f32 := V m c main_arg3
abbrev iArr (c : Dev nD) : Vec F S8x128 .f32 := V m c main_arg6

/-- The host's two reshapes. -/
theorem xArr_eq (c : Dev nD) : xArr m c = shapeCast S3072x16384 (m ((c : Thread nD τ).loc main_arg0)) shapeCasts_S1x3072x16384_S3072x16384 := rfl
theorem sArr_eq (c : Dev nD) : sArr m c = shapeCast S1 (m ((c : Thread nD τ).loc main_arg1)) shapeCasts_S_S1 := rfl

/-- Every point's scale is the one scale. -/
theorem blk0 (c : Dev nD) (t : Fin cfg0.N) : (iblk m c 0 t : Vec F S1 .f32) (ix1 0) = sArr m c (ix1 0) := by
  unfold iblk
  rw [View.read_apply]
  show V m c main_v1 _ = V m c main_v1 _
  exact congrArg _ (idx1_eq _ _)

/-- Point `t`'s block of a: all tokens, columns from `2048 · (t / 8)`. -/
theorem blk1 (c : Dev nD) (t : Fin cfg0.N) (a : Fin 3072) (b : Fin 2048) (q : Fin 16384) (hq : q.val = 2048 * (t.val / 8) + b.val) :
    (iblk m c 1 t : Vec F S3072x2048 .fp8e4m3) (ix2 a b) = xArr m c (ix2 a q) := by
  unfold iblk
  rw [View.read_apply]
  show V m c main_v0 _ = V m c main_v0 _
  congr 1
  funext d
  apply Fin.ext
  match d with
  | ⟨0, _⟩ => show win0_1.index t 0 * 3072 + 1 * a.val = a.val; rw [(idx1 t).1]; omega
  | ⟨1, _⟩ => show win0_1.index t 1 * 2048 + 1 * b.val = q.val; rw [(idx1 t).2]; omega

/-- Point `t`'s block of dy: all tokens, columns from `1024 · (t % 8)`. -/
theorem blk2 (c : Dev nD) (t : Fin cfg0.N) (a : Fin 3072) (b : Fin 1024) (q : Fin 8192) (hq : q.val = 1024 * (t.val % 8) + b.val) :
    (iblk m c 2 t : Vec F S3072x1024 .fp8e5m2) (ix2 a b) = yArr m c (ix2 a q) := by
  unfold iblk
  rw [View.read_apply]
  show V m c main_arg2 _ = V m c main_arg2 _
  congr 1
  funext d
  apply Fin.ext
  match d with
  | ⟨0, _⟩ => show win0_2.index t 0 * 3072 + 1 * a.val = a.val; rw [(idx2 t).1]; omega
  | ⟨1, _⟩ => show win0_2.index t 1 * 1024 + 1 * b.val = q.val; rw [(idx2 t).2]; omega

/-- In the first half of the points, point `t`'s block of dg: all tokens, columns from `512 · t`. -/
theorem blk3 (c : Dev nD) (t : Fin cfg0.N) (ht : t.val < 32) (a : Fin 3072) (b : Fin 512) (q : Fin 16384) (hq : q.val = 512 * t.val + b.val) :
    (iblk m c 3 t : Vec F S3072x512 .bf16) (ix2 a b) = gArr m c (ix2 a q) := by
  unfold iblk
  rw [View.read_apply]
  show V m c main_arg4 _ = V m c main_arg4 _
  congr 1
  funext d
  apply Fin.ext
  match d with
  | ⟨0, _⟩ => show win0_3.index t 0 * 3072 + 1 * a.val = a.val; rw [(idx3 t).1]; omega
  | ⟨1, _⟩ => show win0_3.index t 1 * 512 + 1 * b.val = q.val; rw [(idx3 t).2]; omega

/-- In the second half, point `t`'s block of du: all tokens, columns from `512 · (t - 32)`. -/
theorem blk4 (c : Dev nD) (t : Fin cfg0.N) (a : Fin 3072) (b : Fin 512) (q : Fin 16384) (hq : q.val = 512 * (t.val - 32) + b.val) :
    (iblk m c 4 t : Vec F S3072x512 .bf16) (ix2 a b) = uArr m c (ix2 a q) := by
  unfold iblk
  rw [View.read_apply]
  show V m c main_arg5 _ = V m c main_arg5 _
  congr 1
  funext d
  apply Fin.ext
  match d with
  | ⟨0, _⟩ => show win0_4.index t 0 * 3072 + 1 * a.val = a.val; rw [(idx4 t).1]; omega
  | ⟨1, _⟩ => show win0_4.index t 1 * 512 + 1 * b.val = q.val; rw [(idx4 t).2]; omega

/-- Every point's tile is the whole tile. -/
theorem blk5 (c : Dev nD) (t : Fin cfg0.N) (a : Fin 8) (b : Fin 128) :
    (iblk m c 5 t : Vec F S8x128 .f32) (ix2 a b) = tArr m c (ix2 a b) := by
  unfold iblk
  rw [View.read_apply]
  show V m c main_arg3 _ = V m c main_arg3 _
  congr 1
  funext d
  apply Fin.ext
  match d with
  | ⟨0, _⟩ => show win0_5.index t 0 * 8 + 1 * a.val = a.val; rw [(idx5 t).1]; omega
  | ⟨1, _⟩ => show win0_5.index t 1 * 128 + 1 * b.val = b.val; rw [(idx5 t).2]; omega

/-- Every point's tile is the whole tile. -/
theorem blk6 (c : Dev nD) (t : Fin cfg0.N) (a : Fin 8) (b : Fin 128) :
    (iblk m c 6 t : Vec F S8x128 .f32) (ix2 a b) = iArr m c (ix2 a b) := by
  unfold iblk
  rw [View.read_apply]
  show V m c main_arg6 _ = V m c main_arg6 _
  congr 1
  funext d
  apply Fin.ext
  match d with
  | ⟨0, _⟩ => show win0_6.index t 0 * 8 + 1 * a.val = a.val; rw [(idx6 t).1]; omega
  | ⟨1, _⟩ => show win0_6.index t 1 * 128 + 1 * b.val = b.val; rw [(idx6 t).2]; omega

end Cert.Proof.Dw2

end
-- ==== Proof.Dw2Run.lean ====
/-
  The dW2 kernel's run with each result array named, and each block of a result array as what its point wrote back.
-/
module

public import proofs.«01_k».proof.Proof.Gen.Dw2Ideal.Frame
public import Idealize.ShloMosaic.Lib.Pipeline.Value

@[expose] public section

noncomputable section

namespace Cert.Proof.Dw2Run

open Cert.Dw2Ideal Cert.Dw2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`Gen.outsAt0`: its component 0), read through the window's block. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- The index map sends distinct grid points to distinct block indices (decided over the 64 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- WHAT POINT `t` WRITES BACK to output window 8's array: the run's contents for that window after the body (`Gen.outsAt0`: its component 1), read through the window's block. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

/-- The index map sends distinct grid points to distinct block indices (decided over the 64 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v2_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v2_1) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- After the frame run, argument `main_arg4` is as launched: input window 3 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

/-- After the frame run, argument `main_arg5` is as launched: input window 4 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 4).trans (((dats m 0 c).arrAt_in 4 rfl _).trans ((A_eq m c 4).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 7 cfg0.N
      ∧ r.2.mem ((c : Thread nD τ).loc main_v2_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.Proof.Dw2Run

end
-- ==== Proof.Dw2Value.lean ====
/-
  The dW2 kernel's two result arrays over the extended reals, at an index: the contraction over tokens of a column of a
  with a column of dy, times the product of the two scales; and dH = [dg, du] times the inverse scale, clipped.
-/
module

public import proofs.«01_k».proof.Proof.Dw2Blocks
public import proofs.«01_k».proof.Proof.Dw2Run

@[expose] public section

noncomputable section

namespace Cert.Proof.Dw2

open Cert.Dw2Ideal Cert.Dw2Ideal.Gen Idealize.ShloMosaic Idealize.ShloMosaic.TcCoe Idealize.SL.Sem
open Idealize.ShloMosaic.ValueIdx
open Cert.Proof.Common
open scoped BigOperators

section AnyF

variable {F : FTy → Type} [FloatOps F]
variable (m : (ℓ : Loc nD τ sig) → Buf (Elt F) ℓ)

/-- Two points of one row of blocks read the same block of a. -/
theorem blk1_congr (c : Dev nD) (t t' : Fin cfg0.N) (h : t.val / 8 = t'.val / 8) :
    (iblk m c 1 t : Vec F S3072x2048 .fp8e4m3) = iblk m c 1 t' := by
  funext j
  obtain ⟨a, b, rfl⟩ : ∃ (a : Fin 3072) (b : Fin 2048), j = ix2 a b := ⟨j 0, j 1, eq_ix2 j⟩
  have hN : t.val < 64 := lt_of_lt_of_eq t.isLt N_0
  have hb := b.isLt
  exact (blk1 m c t a b ⟨2048 * (t.val / 8) + b.val, by omega⟩ rfl).trans
    (blk1 m c t' a b ⟨2048 * (t.val / 8) + b.val, by omega⟩ (by show 2048 * (t.val / 8) + b.val = 2048 * (t'.val / 8) + b.val; rw [h])).symm

/-- After the first point of a row of blocks the scratch holds the transposed block of a. -/
theorem scratch_first (c : Dev nD) (t : Fin cfg0.N) (h0 : t.val % 8 = 0) :
    (outsAt0 m c t.val t.isLt).2.2 = k0_pay1 (iblk m c 1 t) := by
  by_cases h1 : t.val < 32
  · have h2 : ¬32 ≤ t.val := by omega
    simp only [outsAt0_A m c t h0 h1 h2, sout_A]
  · have h2 : 32 ≤ t.val := by omega
    simp only [outsAt0_C m c t h0 h1 h2, sout_C]

/-- Every other point keeps the scratch. -/
theorem scratch_keep (c : Dev nD) (t : Fin cfg0.N) (h0 : ¬t.val % 8 = 0) :
    (outsAt0 m c t.val t.isLt).2.2 = (outsAt0 m c (t.val - 1) (Nat.lt_of_le_of_lt (Nat.sub_le _ _) t.isLt)).2.2 := by
  by_cases h1 : t.val < 32
  · have h2 : ¬32 ≤ t.val := by omega
    simp only [outsAt0_B m c t h0 h1 h2, sout0_B_0]
  · have h2 : 32 ≤ t.val := by omega
    simp only [outsAt0_D m c t h0 h1 h2, sout0_D_0]

/-- After every point the scratch holds the transposed block of a of the point's row of blocks. -/
theorem scratch_eq (c : Dev nD) : ∀ (n : ℕ) (h : n < cfg0.N), (outsAt0 m c n h).2.2 = k0_pay1 (iblk m c 1 ⟨n, h⟩)
  | 0, h => scratch_first m c ⟨0, h⟩ rfl
  | n + 1, h => by
    by_cases h0 : (n + 1) % 8 = 0
    · exact scratch_first m c ⟨n + 1, h⟩ h0
    · refine (scratch_keep m c ⟨n + 1, h⟩ h0).trans ((scratch_eq c n (Nat.lt_of_succ_lt h)).trans ?_)
      exact congrArg k0_pay1 (blk1_congr m c ⟨n, Nat.lt_of_succ_lt h⟩ ⟨n + 1, h⟩ (by show n / 8 = (n + 1) / 8; omega))

/-- After every point the product block is the product payload of the point's own blocks. -/
theorem out7_eq (c : Dev nD) (t : Fin cfg0.N) :
    (outsAt0 m c t.val t.isLt).1
      = k0_pay4 ((iblk m c 0 t : Vec F S1 .f32) (ix1 0)) (iblk m c 5 t) (k0_pay1 (iblk m c 1 t)) (iblk m c 2 t) := by
  have hN : t.val < 64 := lt_of_lt_of_eq t.isLt N_0
  by_cases h1 : t.val < 32
  · have h2 : ¬32 ≤ t.val := by omega
    by_cases h0 : t.val % 8 = 0
    · simp only [outsAt0_A m c t h0 h1 h2, out7_A]
    · simp only [outsAt0_B m c t h0 h1 h2, out7_B]
      rw [scratch_eq m c (t.val - 1), blk1_congr m c ⟨t.val - 1, _⟩ t (by show (t.val - 1) / 8 = t.val / 8; omega)]
  · have h2 : 32 ≤ t.val := by omega
    by_cases h0 : t.val % 8 = 0
    · simp only [outsAt0_C m c t h0 h1 h2, out7_C]
    · simp only [outsAt0_D m c t h0 h1 h2, out7_D]
      rw [scratch_eq m c (t.val - 1), blk1_congr m c ⟨t.val - 1, _⟩ t (by show (t.val - 1) / 8 = t.val / 8; omega)]

/-- In the first half of the points the code block is the quantised block of dg, -/
theorem out8_lo (c : Dev nD) (t : Fin cfg0.N) (h1 : t.val < 32) :
    (outsAt0 m c t.val t.isLt).2.1 = k0_pay2 (iblk m c 3 t) (fun _ => (iblk m c 6 t : Vec F S8x128 .f32) (ix2 0 0)) := by
  have h2 : ¬32 ≤ t.val := by omega
  by_cases h0 : t.val % 8 = 0
  · simp only [outsAt0_A m c t h0 h1 h2, out8_A]
  · simp only [outsAt0_B m c t h0 h1 h2, out8_B]

/-- and in the second half that of du. -/
theorem out8_hi (c : Dev nD) (t : Fin cfg0.N) (h1 : ¬t.val < 32) :
    (outsAt0 m c t.val t.isLt).2.1 = k0_pay3 (iblk m c 4 t) (fun _ => (iblk m c 6 t : Vec F S8x128 .f32) (ix2 0 0)) := by
  have h2 : 32 ≤ t.val := by omega
  by_cases h0 : t.val % 8 = 0
  · simp only [outsAt0_C m c t h0 h1 h2, out8_C]
  · simp only [outsAt0_D m c t h0 h1 h2, out8_D]

/-- The final dW2 array at an index of point `t`'s block is what the point left there. -/
theorem at7 (c : Dev nD) (t : Fin cfg0.N) (a : Fin 2048) (b : Fin 1024) (r : Fin 16384) (q : Fin 8192)
    (hr : r.val = 2048 * (t.val / 8) + a.val) (hq : q.val = 1024 * (t.val % 8) + b.val) :
    ((dats m 0 c).arrAt 7 cfg0.N : Vec F S16384x8192 .bf16) (ix2 r q) = (outsAt0 m c t.val t.isLt).1 (ix2 a b) := by
  have h := Dw2Run.blocks7 m c t (flush0_7 t)
  rw [Dw2Run.flushed7] at h
  have h' := congrFun h (ix2 a b)
  rw [View.read_apply] at h'
  refine Eq.trans (congrArg ((dats m 0 c).arrAt 7 cfg0.N) ?_) h'
  funext d
  apply Fin.ext
  match d with
  | ⟨0, _⟩ => show r.val = win0_7.index t 0 * 2048 + 1 * a.val; rw [(idx7 t).1]; omega
  | ⟨1, _⟩ => show q.val = win0_7.index t 1 * 1024 + 1 * b.val; rw [(idx7 t).2]; omega

/-- The final code array at an index of point `t`'s block is what the point left there. -/
theorem at8 (c : Dev nD) (t : Fin cfg0.N) (a : Fin 3072) (b : Fin 512) (q : Fin 32768) (hq : q.val = 512 * t.val + b.val) :
    ((dats m 0 c).arrAt 8 cfg0.N : Vec F S3072x32768 .fp8e5m2) (ix2 a q) = (outsAt0 m c t.val t.isLt).2.1 (ix2 a b) := by
  have h := Dw2Run.blocks8 m c t (flush0_8 t)
  rw [Dw2Run.flushed8] at h
  have h' := congrFun h (ix2 a b)
  rw [View.read_apply] at h'
  refine Eq.trans (congrArg ((dats m 0 c).arrAt 8 cfg0.N) ?_) h'
  funext d
  apply Fin.ext
  match d with
  | ⟨0, _⟩ => show a.val = win0_8.index t 0 * 3072 + 1 * a.val; rw [(idx8 t).1]; omega
  | ⟨1, _⟩ => show q.val = win0_8.index t 1 * 512 + 1 * b.val; rw [(idx8 t).2]; omega

end AnyF

/-- The transposed block at an index. -/
theorem pay1_apply (x : Vec Ideal S3072x2048 .fp8e4m3) (r : Fin 2048) (k : Fin 3072) :
    k0_pay1 (F := Ideal) x (ix2 r k) = x (ix2 k r) := by
  unfold k0_pay1
  simp only [shapeCast_self]
  show x _ = x _
  congr 1
  funext d
  match d with
  | ⟨0, _⟩ => rfl
  | ⟨1, _⟩ => rfl

/-- The product payload at an index. -/
theorem pay4_apply (s : Elt Ideal .f32) (v12 : Vec Ideal S8x128 .f32) (v16 : Vec Ideal S2048x3072 .fp8e4m3)
    (v17 : Vec Ideal S3072x1024 .fp8e5m2) (r : Fin 2048) (q : Fin 1024) :
    k0_pay4 (F := Ideal) s v12 v16 v17 (ix2 r q)
      = ((∑ k : Fin 3072, (v16 (ix2 r k) : EReal) * v17 (ix2 k q)) * ((s : EReal) * v12 (ix2 0 0)) : EReal) := by
  unfold k0_pay4
  show (FloatOps.matmul (F := Ideal) (DotDims.plain 2048 3072 1024) none v16 v17 (constant S2048x1024 .f32 0x00000000#32) (ix2 r q) : EReal)
    * ((s : EReal) * v12 _) = _
  rw [Ideal.matmul_plain_apply]
  show (Ideal.ofBits .f32 0x00000000#32 + _) * _ = _
  rw [ofBits_zero, zero_add]
  refine congrArg (_ * ·) (congrArg (s * ·) (congrArg v12 ?_))
  funext d
  match d with
  | ⟨0, _⟩ => rfl
  | ⟨1, _⟩ => rfl

/-- The two quantising payloads at an index. -/
theorem pay2_apply (x : Vec Ideal S3072x512 .bf16) (v : Vec Ideal S1x1 .f32) (j : S3072x512.Idx) :
    k0_pay2 (F := Ideal) x v j = clipped (x j) (v (ix2 0 0)) := by
  unfold k0_pay2
  show clipped (x j) (v _) = _
  refine congrArg (clipped (x j)) (congrArg v ?_)
  funext d
  match d with
  | ⟨0, _⟩ => rfl
  | ⟨1, _⟩ => rfl
theorem pay3_apply (x : Vec Ideal S3072x512 .bf16) (v : Vec Ideal S1x1 .f32) (j : S3072x512.Idx) :
    k0_pay3 (F := Ideal) x v j = clipped (x j) (v (ix2 0 0)) := pay2_apply x v j

variable (m : (ℓ : Loc nD τ sig) → Buf (Elt Ideal) ℓ)

/-- The dW2 array at an index. -/
theorem final7_apply (c : Dev nD) (r : Fin 16384) (q : Fin 8192) :
    ((dats m 0 c).arrAt 7 cfg0.N : Vec Ideal S16384x8192 .bf16) (ix2 r q)
      = ((∑ k : Fin 3072, (xArr m c (ix2 k r) : EReal) * yArr m c (ix2 k q)) * ((sArr m c (ix1 0) : EReal) * tArr m c (ix2 0 0)) : EReal) := by
  have hr := r.isLt
  have hq := q.isLt
  have hp : 8 * (r.val / 2048) + q.val / 1024 < cfg0.N := by
    rw [show cfg0.N = 64 from N_0]
    omega
  have hra : r.val = 2048 * ((8 * (r.val / 2048) + q.val / 1024) / 8) + r.val % 2048 := by omega
  have hqa : q.val = 1024 * ((8 * (r.val / 2048) + q.val / 1024) % 8) + q.val % 1024 := by omega
  refine (at7 m c ⟨_, hp⟩ ⟨r.val % 2048, Nat.mod_lt _ (by decide)⟩ ⟨q.val % 1024, Nat.mod_lt _ (by decide)⟩ r q hra hqa).trans ?_
  refine (congrFun (out7_eq m c ⟨_, hp⟩) _).trans ?_
  rw [pay4_apply, blk0, blk5]
  refine congrArg (· * _) ?_
  refine Finset.sum_congr rfl fun k _ => ?_
  rw [pay1_apply, blk1 m c ⟨_, hp⟩ k _ r hra, blk2 m c ⟨_, hp⟩ k _ q hqa]

/-- The code array at an index. -/
theorem final8_apply (c : Dev nD) (a : Fin 3072) (q : Fin 32768) :
    ((dats m 0 c).arrAt 8 cfg0.N : Vec Ideal S3072x32768 .fp8e5m2) (ix2 a q)
      = clipped (if h : q.val < 16384 then gArr m c (ix2 a ⟨q.val, h⟩) else uArr m c (ix2 a ⟨q.val - 16384, by have := q.isLt; omega⟩))
          (iArr m c (ix2 0 0)) := by
  have hq := q.isLt
  have hp : q.val / 512 < cfg0.N := by
    rw [show cfg0.N = 64 from N_0]
    omega
  refine (at8 m c ⟨_, hp⟩ a ⟨q.val % 512, Nat.mod_lt _ (by decide)⟩ q (by show q.val = 512 * (q.val / 512) + q.val % 512; omega)).trans ?_
  by_cases h : q.val < 16384
  · have h1 : q.val / 512 < 32 := by omega
    rw [dif_pos h]
    refine (congrFun (out8_lo m c ⟨_, hp⟩ h1) _).trans ?_
    rw [pay2_apply, blk6, blk3 m c ⟨_, hp⟩ h1 a _ ⟨q.val, h⟩ (by show q.val = 512 * (q.val / 512) + q.val % 512; omega)]
  · have h1 : ¬q.val / 512 < 32 := by omega
    rw [dif_neg h]
    refine (congrFun (out8_hi m c ⟨_, hp⟩ h1) _).trans ?_
    rw [pay3_apply, blk6, blk4 m c ⟨_, hp⟩ a _ ⟨q.val - 16384, by omega⟩ (by show q.val - 16384 = 512 * (q.val / 512 - 32) + q.val % 512; omega)]

end Cert.Proof.Dw2

end
-- ==== Proof.Dw2Ref.lean ====
/-
  The dW2 reference's two result arrays over the extended reals, at an index.
-/
module

public import proofs.«01_k».proof.Proof.Gen.Dw2RefIdeal.Value
public import proofs.«01_k».proof.Proof.Common

@[expose] public section

noncomputable section

namespace Cert.Proof.Dw2Ref

open Cert.Dw2RefIdeal Cert.Dw2RefIdeal.Gen Idealize.ShloMosaic Idealize.ShloMosaic.TcCoe Idealize.SL.Sem
open Idealize.ShloMosaic.ValueIdx
open Cert.Proof.Common
open scoped BigOperators

section AnyF

variable {F : FTy → Type} [FloatOps F]
variable (m : (ℓ : Loc nD τ sig) → Buf (Elt F) ℓ)

/-- The one point. -/
def t₀ : Fin cfg0.N := ⟨0, by decide⟩

/-- The first element of a tile, loaded as a one-element block. -/
theorem corner (x : Vec F S8x128 .f32) (i : S1x1.Idx) (k : S8x128.Idx) (hk : ∀ d, (k d).val = 0 + 1 * (i d).val) : x k = x (ix2 0 0) := by
  have e0 : (i 0).val < 1 := (i 0).isLt
  have e1 : (i 1).val < 1 := (i 1).isLt
  refine congrArg x (funext fun d => Fin.ext ?_)
  rw [hk d]
  match d with
  | ⟨0, _⟩ => show 0 + 1 * (i 0).val = 0; omega
  | ⟨1, _⟩ => show 0 + 1 * (i 1).val = 0; omega

/-- The body leaves the payload of its inputs in output 7. -/
theorem out7_A (c : Dev nD) (a0 h0 a1 h1 a2 h2 a3 h3 a4 h4 a5 h5 a6 h6 a7 h7 a8 h8)
    (x0 : Vec F S3072x16384 .fp8e4m3) (x1 : Vec F S1 .f32) (x2 : Vec F S3072x8192 .fp8e5m2) (x3 : Vec F S8x128 .f32)
    (x4 : Vec F S3072x16384 .bf16) (x5 : Vec F S3072x16384 .bf16) (x6 : Vec F S8x128 .f32) :
    out0_A_7 c a0 h0 a1 h1 a2 h2 a3 h3 a4 h4 a5 h5 a6 h6 a7 h7 a8 h8 x0 x1 x2 x3 x4 x5 x6 = k0_pay1 x0 x2 (x1 (ix1 0)) (fun _ => x3 (ix2 0 0)) := by
  unfold out0_A_7
  rw [View.read_writes_eq_canon _ _ _ (cover0_A_7 c a0 h0 a1 h1 a2 h2 a3 h3 a4 h4 a5 h5 a6 h6 a7 h7 a8 h8 x0 x1 x2 x3 x4 x5 x6)]
  unfold kernelRun0_A
  dsimp only
  sl_unfold_words
  rw [View.canon_unit_zero hz2]
  simp only [View.readAt_eq_ld, h0.read_unread, h1.read_unread, h2.read_unread, h3.read_unread,
    View.ld_unit_zero (S := S3072x16384) hz2, View.ld_unit_zero (S := S3072x8192) hz2]
  exact congrArg₂ (k0_pay1 x0 x2) (congrArg x1 (idx1_eq _ _)) (funext fun j => corner x3 j _ (fun d => by match d with
    | ⟨0, _⟩ => rfl
    | ⟨1, _⟩ => rfl))

/-- The body leaves the payload of its inputs in output 8. -/
theorem out8_A (c : Dev nD) (a0 h0 a1 h1 a2 h2 a3 h3 a4 h4 a5 h5 a6 h6 a7 h7 a8 h8)
    (x0 : Vec F S3072x16384 .fp8e4m3) (x1 : Vec F S1 .f32) (x2 : Vec F S3072x8192 .fp8e5m2) (x3 : Vec F S8x128 .f32)
    (x4 : Vec F S3072x16384 .bf16) (x5 : Vec F S3072x16384 .bf16) (x6 : Vec F S8x128 .f32) :
    out0_A_8 c a0 h0 a1 h1 a2 h2 a3 h3 a4 h4 a5 h5 a6 h6 a7 h7 a8 h8 x0 x1 x2 x3 x4 x5 x6 = k0_pay2 x4 x5 (fun _ => x6 (ix2 0 0)) := by
  unfold out0_A_8
  rw [View.read_writes_eq_canon _ _ _ (cover0_A_8 c a0 h0 a1 h1 a2 h2 a3 h3 a4 h4 a5 h5 a6 h6 a7 h7 a8 h8 x0 x1 x2 x3 x4 x5 x6)]
  unfold kernelRun0_A
  dsimp only
  sl_unfold_words
  rw [View.canon_unit_zero hz2]
  simp only [View.readAt_eq_ld, h4.read_unread, h5.read_unread, h6.read_unread,
    View.ld_unit_zero (S := S3072x16384) hz2]
  exact congrArg (k0_pay2 x4 x5) (funext fun j => corner x6 j _ (fun d => by match d with
    | ⟨0, _⟩ => rfl
    | ⟨1, _⟩ => rfl))

/-- The arrays the windows read. -/
abbrev xArr (c : Dev nD) : Vec F S3072x16384 .fp8e4m3 := V m c main_v0
abbrev sArr (c : Dev nD) : Vec F S1 .f32 := V m c main_v1
abbrev yArr (c : Dev nD) : Vec F S3072x8192 .fp8e5m2 := V m c main_arg2
abbrev gArr (c : Dev nD) : Vec F S3072x16384 .bf16 := V m c main_arg4
abbrev uArr (c : Dev nD) : Vec F S3072x16384 .bf16 := V m c main_arg5
abbrev tArr (c : Dev nD) : Vec F S8x128 .f32 := V m c main_arg3
abbrev iArr (c : Dev nD) : Vec F S8x128 .f32 := V m c main_arg6

/-- The host's two reshapes. -/
theorem xArr_eq (c : Dev nD) : xArr m c = shapeCast S3072x16384 (m ((c : Thread nD τ).loc main_arg0)) shapeCasts_S1x3072x16384_S3072x16384 := rfl
theorem sArr_eq (c : Dev nD) : sArr m c = shapeCast S1 (m ((c : Thread nD τ).loc main_arg1)) shapeCasts_S_S1 := rfl

/-- Each input's one block is its array. -/
theorem blk0 (c : Dev nD) : (iblk m c 0 t₀ : Vec F S3072x16384 .fp8e4m3) = xArr m c := by
  have hz : (fun a => (win0_0.index t₀) a * main_v0.ty.shape.size a) = fun _ => 0 := funext fun a => by fin_cases a <;> decide
  exact Memref.read_access_unit_zero (Elt F) main_v0 hz (fun a => by fin_cases a <;> decide) _
theorem blk1 (c : Dev nD) : (iblk m c 1 t₀ : Vec F S1 .f32) = sArr m c := by
  have hz : (fun a => (win0_1.index t₀) a * main_v1.ty.shape.size a) = fun _ => 0 := funext fun a => by fin_cases a <;> decide
  exact Memref.read_access_unit_zero (Elt F) main_v1 hz (fun a => by fin_cases a <;> decide) _
theorem blk2 (c : Dev nD) : (iblk m c 2 t₀ : Vec F S3072x8192 .fp8e5m2) = yArr m c := by
  have hz : (fun a => (win0_2.index t₀) a * main_arg2.ty.shape.size a) = fun _ => 0 := funext fun a => by fin_cases a <;> decide
  exact Memref.read_access_unit_zero (Elt F) main_arg2 hz (fun a => by fin_cases a <;> decide) _
theorem blk3 (c : Dev nD) : (iblk m c 3 t₀ : Vec F S8x128 .f32) = tArr m c := by
  have hz : (fun a => (win0_3.index t₀) a * main_arg3.ty.shape.size a) = fun _ => 0 := funext fun a => by fin_cases a <;> decide
  exact Memref.read_access_unit_zero (Elt F) main_arg3 hz (fun a => by fin_cases a <;> decide) _
theorem blk4 (c : Dev nD) : (iblk m c 4 t₀ : Vec F S3072x16384 .bf16) = gArr m c := by
  have hz : (fun a => (win0_4.index t₀) a * main_arg4.ty.shape.size a) = fun _ => 0 := funext fun a => by fin_cases a <;> decide
  exact Memref.read_access_unit_zero (Elt F) main_arg4 hz (fun a => by fin_cases a <;> decide) _
theorem blk5 (c : Dev nD) : (iblk m c 5 t₀ : Vec F S3072x16384 .bf16) = uArr m c := by
  have hz : (fun a => (win0_5.index t₀) a * main_arg5.ty.shape.size a) = fun _ => 0 := funext fun a => by fin_cases a <;> decide
  exact Memref.read_access_unit_zero (Elt F) main_arg5 hz (fun a => by fin_cases a <;> decide) _
theorem blk6 (c : Dev nD) : (iblk m c 6 t₀ : Vec F S8x128 .f32) = iArr m c := by
  have hz : (fun a => (win0_6.index t₀) a * main_arg6.ty.shape.size a) = fun _ => 0 := funext fun a => by fin_cases a <;> decide
  exact Memref.read_access_unit_zero (Elt F) main_arg6 hz (fun a => by fin_cases a <;> decide) _

/-- Result array 7 is the payload of the arrays. -/
theorem final7_value (c : Dev nD) :
    (dats m 0 c).arrAt 7 cfg0.N = k0_pay1 (xArr m c) (yArr m c) (sArr m c (ix1 0)) (fun _ => tArr m c (ix2 0 0)) := by
  have ho := Value.blocks7 m c t₀ (by decide +kernel)
  have hz : (fun a => (win0_7.index t₀) a * main_v2_0.ty.shape.size a) = fun _ => 0 := funext fun a => by fin_cases a <;> decide
  have hr := fun f => Memref.read_access_unit_zero (Elt F) main_v2_0 hz (fun a => by fin_cases a <;> decide) f
  rw [hr] at ho
  rw [ho, Value.flushed7_A]
  simp only [out7_A, blk0, blk1, blk2, blk3]
  rfl

/-- Result array 8 is the payload of the arrays. -/
theorem final8_value (c : Dev nD) :
    (dats m 0 c).arrAt 8 cfg0.N = k0_pay2 (gArr m c) (uArr m c) (fun _ => iArr m c (ix2 0 0)) := by
  have ho := Value.blocks8 m c t₀ (by decide +kernel)
  have hz : (fun a => (win0_8.index t₀) a * main_v2_1.ty.shape.size a) = fun _ => 0 := funext fun a => by fin_cases a <;> decide
  have hr := fun f => Memref.read_access_unit_zero (Elt F) main_v2_1 hz (fun a => by fin_cases a <;> decide) f
  rw [hr] at ho
  rw [ho, Value.flushed8_A]
  simp only [out8_A, blk4, blk5, blk6]
  rfl

end AnyF

/-- The product payload at an index. -/
theorem pay1_apply (x : Vec Ideal S3072x16384 .fp8e4m3) (y : Vec Ideal S3072x8192 .fp8e5m2) (s : Elt Ideal .f32) (v : Vec Ideal S1x1 .f32)
    (r : Fin 16384) (q : Fin 8192) :
    k0_pay1 (F := Ideal) x y s v (ix2 r q)
      = ((∑ k : Fin 3072, (x (ix2 k r) : EReal) * y (ix2 k q)) * ((s : EReal) * v (ix2 0 0)) : EReal) := by
  unfold k0_pay1
  simp only [shapeCast_self]
  show (FloatOps.matmul (F := Ideal) (rowsDot 16384 3072 8192 _) none x y (constant S16384x8192 .f32 0x00000000#32) (ix2 r q) : EReal)
    * ((s : EReal) * v _) = _
  rw [matmul_rowsDot_apply]
  show (Ideal.ofBits .f32 0x00000000#32 + _) * _ = _
  rw [ofBits_zero, zero_add]
  refine congrArg (_ * ·) (congrArg (s * ·) (congrArg v ?_))
  funext a
  match a with
  | ⟨0, _⟩ => rfl
  | ⟨1, _⟩ => rfl

/-- The quantising payload at an index. -/
theorem pay2_apply (g u : Vec Ideal S3072x16384 .bf16) (v : Vec Ideal S1x1 .f32) (a : Fin 3072) (q : Fin 32768) :
    k0_pay2 (F := Ideal) g u v (ix2 a q)
      = clipped (if h : q.val < 16384 then g (ix2 a ⟨q.val, h⟩) else u (ix2 a ⟨q.val - 16384, by have := q.isLt; omega⟩)) (v (ix2 0 0)) := by
  unfold k0_pay2
  show clipped (concatenate S3072x32768 1 [⟨S3072x16384, g⟩, ⟨S3072x16384, u⟩] concatenates_S3072x16384_S3072x16384_S3072x32768_d1 (ix2 a q)) (v _) = _
  refine congrArg₂ clipped ?_ (congrArg v ?_)
  · by_cases h : q.val < 16384
    · rw [dif_pos h]
      exact concatenate_pair_apply_left 1 g u _ (ix2 a q) rfl (ix2 a ⟨q.val, h⟩) (fun b => by match b with
        | ⟨0, _⟩ => rfl
        | ⟨1, _⟩ => rfl)
    · rw [dif_neg h]
      refine concatenate_pair_apply_right 1 g u _ (ix2 a q) rfl rfl (ix2 a ⟨q.val - 16384, by have := q.isLt; omega⟩) (fun b hb => by match b with
        | ⟨0, _⟩ => rfl
        | ⟨1, _⟩ => exact absurd rfl hb) ?_
      show q.val - 16384 + 16384 = q.val
      omega
  · funext d
    match d with
    | ⟨0, _⟩ => rfl
    | ⟨1, _⟩ => rfl

/-- The dW2 array at an index. -/
theorem final7_apply (m : (ℓ : Loc nD τ sig) → Buf (Elt Ideal) ℓ) (c : Dev nD) (r : Fin 16384) (q : Fin 8192) :
    ((dats m 0 c).arrAt 7 cfg0.N : Vec Ideal S16384x8192 .bf16) (ix2 r q)
      = ((∑ k : Fin 3072, (xArr m c (ix2 k r) : EReal) * yArr m c (ix2 k q)) * ((sArr m c (ix1 0) : EReal) * tArr m c (ix2 0 0)) : EReal) := by
  rw [final7_value]
  exact pay1_apply _ _ _ _ r q

/-- The code array at an index. -/
theorem final8_apply (m : (ℓ : Loc nD τ sig) → Buf (Elt Ideal) ℓ) (c : Dev nD) (a : Fin 3072) (q : Fin 32768) :
    ((dats m 0 c).arrAt 8 cfg0.N : Vec Ideal S3072x32768 .fp8e5m2) (ix2 a q)
      = clipped (if h : q.val < 16384 then gArr m c (ix2 a ⟨q.val, h⟩) else uArr m c (ix2 a ⟨q.val - 16384, by have := q.isLt; omega⟩))
          (iArr m c (ix2 0 0)) := by
  rw [final8_value]
  exact pay2_apply _ _ _ a q

end Cert.Proof.Dw2Ref

end
-- ==== Proof.Dw2Alg.lean ====
/-
  The dW2 kernel and its reference end with the same two result arrays, for every argument.
-/
module

public import proofs.«01_k».proof.Defs
public import proofs.«01_k».proof.Proof.Dw2Value
public import proofs.«01_k».proof.Proof.Dw2Ref

@[expose] public section

noncomputable section

namespace Cert.Proof.Dw2Alg

open Idealize.ShloMosaic Idealize.SL.Sem Idealize.ShloMosaic.ValueIdx

theorem algebraic : Cert.algebraic_Dw2Ideal_Dw2RefIdeal (hDw2Ideal := Cert.Dw2Ideal.Gen.facts)
    (hDw2RefIdeal := Cert.Dw2RefIdeal.Gen.facts) := by
  intro m g m' g' _ hargs
  refine ⟨fun c => (Cert.Dw2Ideal.Gen.dats (F := Ideal) m 0 c).arrAt 7 Cert.Dw2Ideal.cfg0.N,
    fun c => (Cert.Dw2Ideal.Gen.dats (F := Ideal) m 0 c).arrAt 8 Cert.Dw2Ideal.cfg0.N, Dw2Run.run_blocks (F := Ideal) m g, ?_⟩
  refine (θ_run (Cert.Dw2RefIdeal.defs (F := Ideal)) _ _).mono (fun r h c => ?_) (Cert.Dw2RefIdeal.Value.run_blocks (F := Ideal) m' g')
  obtain ⟨hv, hw, h0, h1, h2, h3, h4, h5, h6⟩ := h c
  obtain ⟨a0, a1, a2, a3, a4, a5, a6⟩ := hargs c
  have ex : Dw2Ref.xArr m' c = Dw2.xArr m c := by rw [Dw2Ref.xArr_eq, Dw2.xArr_eq, a0]
  have es : Dw2Ref.sArr m' c = Dw2.sArr m c := by rw [Dw2Ref.sArr_eq, Dw2.sArr_eq, a1]
  have ey : Dw2Ref.yArr m' c = Dw2.yArr m c := (Cert.Dw2RefIdeal.Gen.V_main_arg2 m' c).trans (a2.trans (Cert.Dw2Ideal.Gen.V_main_arg2 m c).symm)
  have et : Dw2Ref.tArr m' c = Dw2.tArr m c := (Cert.Dw2RefIdeal.Gen.V_main_arg3 m' c).trans (a3.trans (Cert.Dw2Ideal.Gen.V_main_arg3 m c).symm)
  have eg : Dw2Ref.gArr m' c = Dw2.gArr m c := (Cert.Dw2RefIdeal.Gen.V_main_arg4 m' c).trans (a4.trans (Cert.Dw2Ideal.Gen.V_main_arg4 m c).symm)
  have eu : Dw2Ref.uArr m' c = Dw2.uArr m c := (Cert.Dw2RefIdeal.Gen.V_main_arg5 m' c).trans (a5.trans (Cert.Dw2Ideal.Gen.V_main_arg5 m c).symm)
  have ei : Dw2Ref.iArr m' c = Dw2.iArr m c := (Cert.Dw2RefIdeal.Gen.V_main_arg6 m' c).trans (a6.trans (Cert.Dw2Ideal.Gen.V_main_arg6 m c).symm)
  refine ⟨hv.trans ?_, hw.trans ?_, h0, h1, h2, h3, h4, h5, h6⟩
  · funext j
    obtain ⟨p, q, rfl⟩ : ∃ (p : Fin 16384) (q : Fin 8192), j = ix2 p q := ⟨j 0, j 1, eq_ix2 j⟩
    refine (Dw2Ref.final7_apply m' c p q).trans (Eq.trans ?_ (Dw2.final7_apply m c p q).symm)
    rw [ex, es, ey, et]
  · funext j
    obtain ⟨p, q, rfl⟩ : ∃ (p : Fin 3072) (q : Fin 32768), j = ix2 p q := ⟨j 0, j 1, eq_ix2 j⟩
    refine (Dw2Ref.final8_apply m' c p q).trans (Eq.trans ?_ (Dw2.final8_apply m c p q).symm)
    rw [eg, eu, ei]

end Cert.Proof.Dw2Alg

end
-- ==== Proof.QuantValue.lean ====
/-
  The codes of dy over the extended reals, at an index: dy times the inverse of its scale, clipped.
-/
module

public import proofs.«01_k».proof.Proof.Gen.QuantIdeal.Value
public import proofs.«01_k».proof.Proof.Common
public import Idealize.ShloMosaic.Lib.Pipeline.Value

@[expose] public section

noncomputable section

namespace Cert.Proof.Quant

open Cert.QuantIdeal Cert.QuantIdeal.Gen Idealize.ShloMosaic Idealize.ShloMosaic.TcCoe Idealize.SL.Sem
open Idealize.ShloMosaic.ValueIdx
open Cert.Proof.Common

section AnyF

variable {F : FTy → Type} [FloatOps F]
variable (m : (ℓ : Loc nD τ sig) → Buf (Elt F) ℓ)

/-- The body leaves the payload of its blocks. -/
theorem out_eq (x0 : Vec F S256x8192 .bf16) (x1 : Vec F S8x128 .f32) :
    out0_2 x0 x1 = k0_pay1 x0 (View.ld x1 r0_1) := by
  unfold out0_2 r0_0
  rw [View.canon_unit_zero hz2, View.ld_unit_zero (S := S256x8192) hz2]

/-- The first element of the tile. -/
theorem corner (x : Vec F S8x128 .f32) : (View.ld x r0_1 : Vec F S1x1 .f32) (ix2 0 0) = x (ix2 0 0) := by
  show x _ = x _
  congr 1
  funext d
  apply Fin.ext
  match d with
  | ⟨0, _⟩ => rfl
  | ⟨1, _⟩ => rfl

/-- The printed index maps of the windows, decided over the grid. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem flush0_2 : ∀ t : Fin cfg0.N, (cfg0.win 2).flush t = true :=
  (by decide +kernel : ∀ t : Fin grid0.N, _)

/-- The arrays the windows read: dy reshaped to two axes and the tile of the inverse of its scale. -/
abbrev yArr (c : Dev nD) : Vec F S3072x8192 .bf16 := V m c main_v0
abbrev iArr (c : Dev nD) : Vec F S8x128 .f32 := V m c main_arg1

/-- The host's reshape. -/
theorem yArr_eq (c : Dev nD) : yArr m c = shapeCast S3072x8192 (m ((c : Thread nD τ).loc main_arg0)) shapeCasts_S1x3072x8192_S3072x8192 := rfl

/-- Point `t`'s block of dy: rows from `256 t`. -/
theorem blk0 (c : Dev nD) (t : Fin cfg0.N) (a : Fin 256) (q : Fin 8192) (p : Fin 3072) (hp : p.val = 256 * t.val + a.val) :
    (iblk m c 0 t : Vec F S256x8192 .bf16) (ix2 a q) = yArr m c (ix2 p q) := by
  unfold iblk
  rw [View.read_apply]
  show V m c main_v0 _ = V m c main_v0 _
  congr 1
  funext d
  apply Fin.ext
  match d with
  | ⟨0, _⟩ => show win0_0.index t 0 * 256 + 1 * a.val = p.val; rw [(idx0 t).1]; omega
  | ⟨1, _⟩ => show win0_0.index t 1 * 8192 + 1 * q.val = q.val; rw [(idx0 t).2]; omega

/-- Every point's tile is the one tile. -/
theorem blk1 (c : Dev nD) (t : Fin cfg0.N) : (iblk m c 1 t : Vec F S8x128 .f32) (ix2 0 0) = iArr m c (ix2 0 0) := by
  unfold iblk
  rw [View.read_apply]
  show V m c main_arg1 _ = V m c main_arg1 _
  congr 1
  funext d
  apply Fin.ext
  match d with
  | ⟨0, _⟩ => show win0_1.index t 0 * 8 + 1 * 0 = 0; rw [(idx1 t).1]
  | ⟨1, _⟩ => show win0_1.index t 1 * 128 + 1 * 0 = 0; rw [(idx1 t).2]

set_option maxRecDepth 65536 in
/-- The final array at an index of point `t`'s block is the payload of the point's blocks. -/
theorem at2 (c : Dev nD) (t : Fin cfg0.N) (a : Fin 256) (q : Fin 8192) (p : Fin 3072) (hp : p.val = 256 * t.val + a.val) :
    ((dats m 0 c).arrAt 2 cfg0.N : Vec F S3072x8192 .fp8e5m2) (ix2 p q)
      = k0_pay1 (iblk m c 0 t) (View.ld (iblk m c 1 t : Vec F S8x128 .f32) r0_1) (ix2 a q) := by
  have h := Value.blocks2 m c t (flush0_2 t)
  rw [Value.flushed2, out_eq] at h
  generalize k0_pay1 (iblk m c 0 t) (View.ld (iblk m c 1 t : Vec F S8x128 .f32) r0_1) = X at h ⊢
  have h' := congrFun h (ix2 a q)
  rw [View.read_apply] at h'
  refine Eq.trans (congrArg ((dats m 0 c).arrAt 2 cfg0.N) ?_) h'
  funext d
  apply Fin.ext
  match d with
  | ⟨0, _⟩ => show p.val = win0_2.index t 0 * 256 + 1 * a.val; rw [(idx2 t).1]; omega
  | ⟨1, _⟩ => show q.val = win0_2.index t 1 * 8192 + 1 * q.val; rw [(idx2 t).2]; omega

end AnyF

/-- The quantising payload at an index. -/
theorem pay1_apply (x : Vec Ideal S256x8192 .bf16) (v : Vec Ideal S1x1 .f32) (j : S256x8192.Idx) :
    k0_pay1 (F := Ideal) x v j = clipped (x j) (v (ix2 0 0)) := by
  unfold k0_pay1
  simp only [shapeCast_self]
  show clipped (x j) (v _) = _
  refine congrArg (clipped (x j)) (congrArg v ?_)
  funext d
  match d with
  | ⟨0, _⟩ => rfl
  | ⟨1, _⟩ => rfl

/-- The array of codes at an index. -/
theorem final_apply (m : (ℓ : Loc nD τ sig) → Buf (Elt Ideal) ℓ) (c : Dev nD) (p : Fin 3072) (q : Fin 8192) :
    ((dats m 0 c).arrAt 2 cfg0.N : Vec Ideal S3072x8192 .fp8e5m2) (ix2 p q) = clipped (yArr m c (ix2 p q)) (iArr m c (ix2 0 0)) := by
  have hp := p.isLt
  have ht : p.val / 256 < cfg0.N := by
    rw [show cfg0.N = 12 from N_0]
    omega
  have ha : p.val = 256 * (p.val / 256) + p.val % 256 := by omega
  refine (at2 m c ⟨_, ht⟩ ⟨p.val % 256, Nat.mod_lt _ (by decide)⟩ q p ha).trans ?_
  rw [pay1_apply, corner, blk0 m c ⟨_, ht⟩ _ q p ha, blk1]

end Cert.Proof.Quant

end
-- ==== Proof.QuantRef.lean ====
/-
  The reference's codes of dy over the extended reals, at an index: dy times the inverse of its scale, clipped.
-/
module

public import proofs.«01_k».proof.Proof.Gen.QuantRefIdeal.Value
public import proofs.«01_k».proof.Proof.Common
public import Idealize.ShloMosaic.Lib.Pipeline.Value

@[expose] public section

noncomputable section

namespace Cert.Proof.QuantRef

open Cert.QuantRefIdeal Cert.QuantRefIdeal.Gen Idealize.ShloMosaic Idealize.ShloMosaic.TcCoe Idealize.SL.Sem
open Idealize.ShloMosaic.ValueIdx
open Cert.Proof.Common

section AnyF

variable {F : FTy → Type} [FloatOps F]
variable (m : (ℓ : Loc nD τ sig) → Buf (Elt F) ℓ)

/-- The one point. -/
def t₀ : Fin cfg0.N := ⟨0, by decide⟩

/-- The body leaves the payload of its inputs. -/
theorem out_eq (x0 : Vec F S3072x8192 .bf16) (x1 : Vec F S8x128 .f32) :
    out0_2 x0 x1 = k0_pay1 x0 (View.ld x1 r0_1) := by
  unfold out0_2 r0_0
  rw [View.canon_unit_zero hz2, View.ld_unit_zero (S := S3072x8192) hz2]

/-- The first element of the tile. -/
theorem corner (x : Vec F S8x128 .f32) : (View.ld x r0_1 : Vec F S1x1 .f32) (ix2 0 0) = x (ix2 0 0) := by
  show x _ = x _
  congr 1
  funext d
  apply Fin.ext
  match d with
  | ⟨0, _⟩ => rfl
  | ⟨1, _⟩ => rfl

/-- The arrays the windows read. -/
abbrev yArr (c : Dev nD) : Vec F S3072x8192 .bf16 := V m c main_v0
abbrev iArr (c : Dev nD) : Vec F S8x128 .f32 := V m c main_arg1

/-- The host's reshape. -/
theorem yArr_eq (c : Dev nD) : yArr m c = shapeCast S3072x8192 (m ((c : Thread nD τ).loc main_arg0)) shapeCasts_S1x3072x8192_S3072x8192 := rfl

/-- Each input's one block is its array. -/
theorem blk0 (c : Dev nD) : (iblk m c 0 t₀ : Vec F S3072x8192 .bf16) = yArr m c := by
  have hz : (fun a => (win0_0.index t₀) a * main_v0.ty.shape.size a) = fun _ => 0 := funext fun a => by fin_cases a <;> decide
  exact Memref.read_access_unit_zero (Elt F) main_v0 hz (fun a => by fin_cases a <;> decide) _
theorem blk1 (c : Dev nD) : (iblk m c 1 t₀ : Vec F S8x128 .f32) = iArr m c := by
  have hz : (fun a => (win0_1.index t₀) a * main_arg1.ty.shape.size a) = fun _ => 0 := funext fun a => by fin_cases a <;> decide
  exact Memref.read_access_unit_zero (Elt F) main_arg1 hz (fun a => by fin_cases a <;> decide) _

/-- The result array is the payload of the arrays. -/
theorem final_value (c : Dev nD) :
    (dats m 0 c).arrAt 2 cfg0.N = k0_pay1 (yArr m c) (View.ld (iArr m c) r0_1) := by
  have ho := Value.blocks2 m c t₀ (by decide +kernel)
  have hz : (fun a => (win0_2.index t₀) a * main_v1.ty.shape.size a) = fun _ => 0 := funext fun a => by fin_cases a <;> decide
  have hr := fun f => Memref.read_access_unit_zero (Elt F) main_v1 hz (fun a => by fin_cases a <;> decide) f
  rw [hr] at ho
  rw [ho, Value.flushed2, out_eq, blk0, blk1]
  rfl

end AnyF

/-- The quantising payload at an index. -/
theorem pay1_apply (x : Vec Ideal S3072x8192 .bf16) (v : Vec Ideal S1x1 .f32) (j : S3072x8192.Idx) :
    k0_pay1 (F := Ideal) x v j = clipped (x j) (v (ix2 0 0)) := by
  unfold k0_pay1
  simp only [shapeCast_self]
  show clipped (x j) (v _) = _
  refine congrArg (clipped (x j)) (congrArg v ?_)
  funext d
  match d with
  | ⟨0, _⟩ => rfl
  | ⟨1, _⟩ => rfl

/-- The array of codes at an index. -/
theorem final_apply (m : (ℓ : Loc nD τ sig) → Buf (Elt Ideal) ℓ) (c : Dev nD) (j : S3072x8192.Idx) :
    ((dats m 0 c).arrAt 2 cfg0.N : Vec Ideal S3072x8192 .fp8e5m2) j = clipped (yArr m c j) (iArr m c (ix2 0 0)) := by
  rw [final_value]
  exact (pay1_apply _ _ j).trans (congrArg _ (corner _))

end Cert.Proof.QuantRef

end
-- ==== Proof.QuantAlg.lean ====
/-
  The kernel that quantises dy and its reference end with the same codes, for every argument.
-/
module

public import proofs.«01_k».proof.Defs
public import proofs.«01_k».proof.Proof.QuantValue
public import proofs.«01_k».proof.Proof.QuantRef

@[expose] public section

noncomputable section

namespace Cert.Proof.QuantAlg

open Idealize.ShloMosaic Idealize.SL.Sem Idealize.ShloMosaic.ValueIdx

theorem algebraic : Cert.algebraic_QuantIdeal_QuantRefIdeal (hQuantIdeal := Cert.QuantIdeal.Gen.facts)
    (hQuantRefIdeal := Cert.QuantRefIdeal.Gen.facts) := by
  intro m g m' g' _ hargs
  refine ⟨fun c => (Cert.QuantIdeal.Gen.dats (F := Ideal) m 0 c).arrAt 2 Cert.QuantIdeal.cfg0.N,
    Cert.QuantIdeal.Value.run_blocks (F := Ideal) m g, ?_⟩
  refine (θ_run (Cert.QuantRefIdeal.defs (F := Ideal)) _ _).mono (fun r h c => ?_) (Cert.QuantRefIdeal.Value.run_blocks (F := Ideal) m' g')
  obtain ⟨hv, h0, h1⟩ := h c
  obtain ⟨a0, a1⟩ := hargs c
  have ey : QuantRef.yArr m' c = Quant.yArr m c := by rw [QuantRef.yArr_eq, Quant.yArr_eq, a0]
  have ei : QuantRef.iArr m' c = Quant.iArr m c := (Cert.QuantRefIdeal.Gen.V_main_arg1 m' c).trans (a1.trans (Cert.QuantIdeal.Gen.V_main_arg1 m c).symm)
  refine ⟨hv.trans ?_, h0, h1⟩
  funext j
  obtain ⟨p, q, rfl⟩ : ∃ (p : Fin 3072) (q : Fin 8192), j = ix2 p q := ⟨j 0, j 1, eq_ix2 j⟩
  refine (QuantRef.final_apply m' c (ix2 p q)).trans (Eq.trans ?_ (Quant.final_apply m c p q).symm)
  rw [ey, ei]

end Cert.Proof.QuantAlg

end
-- ==== Proof.DhFormula.lean ====
/-
  The gradients at the gate and at the up projection as formulas over the extended reals, and the facts about
  constants and selections the two programs share.
-/
module

public import proofs.«01_k».proof.Proof.Common

@[expose] public section

noncomputable section

namespace Cert.Proof.Common

open Idealize.ShloMosaic Idealize.ShloMosaic.ValueIdx
open scoped BigOperators

/-- The word of a 32-bit one is the number one. -/
theorem ofBits_one : Ideal.ofBits .f32 0x3F800000#32 = 1 := by
  simp [Ideal.ofBits, Ideal.ieee]
  norm_num [← EReal.coe_mul]

/-- The logistic function of the gate. -/
def sig (g : EReal) : EReal := Ideal.div 1 (1 + Ideal.exp (-g))
/-- The gradient at the gate, from the gradient `d` of the activation, the gate `g` and the up projection `u`. -/
def dgOf (d g u : EReal) : EReal := d * u * sig g * (1 + g * (1 - sig g))
/-- The gradient at the up projection. -/
def duOf (d g : EReal) : EReal := d * g * sig g
/-- The magnitude of an extended real. -/
def mag (x : EReal) : EReal := max x (-x)

/-- A magnitude is not negative. -/
theorem mag_nonneg (x : EReal) : 0 ≤ mag x := by
  unfold mag
  rcases le_total 0 x with h | h
  · exact h.trans (le_max_left _ _)
  · exact (EReal.neg_nonneg.2 h).trans (le_max_right _ _)

/-- A rounding that leaves a value where the nearest one is already exact: the selection between the nearest value and
    another is the value itself when the nearest equals it. -/
theorem select_nearest (n v o : EReal) (h : n = v) :
    (if (BitVec.ofBool (decide (n < v)) ||| BitVec.ofBool (decide (n > v))) = 1#1 then o else n) = v := by
  subst h
  simp

/-- The gradient of the activation at an index: the product of a row of the codes of dy and a row of the weight codes,
    times the product of the two scales. -/
def daAt (y : (⟨2, ![3072, 8192]⟩ : Shape).Idx → EReal) (w : (⟨2, ![16384, 8192]⟩ : Shape).Idx → EReal)
    (t : (⟨2, ![8, 128]⟩ : Shape).Idx → EReal) (s : (⟨1, ![1]⟩ : Shape).Idx → EReal) (p : Fin 3072) (q : Fin 16384) : EReal :=
  (∑ k : Fin 8192, y (ix2 p k) * w (ix2 q k)) * (t (ix2 0 0) * s (ix1 0))

/-- The column of the gate and the column of the up projection, in the array that holds both. -/
def gateCol (q : Fin 16384) : Fin 32768 := ⟨q.val, by have := q.isLt; omega⟩
def upCol (q : Fin 16384) : Fin 32768 := ⟨16384 + q.val, by have := q.isLt; omega⟩

/-- The gradient at the gate, at an index. -/
def dgAt (y : (⟨2, ![3072, 8192]⟩ : Shape).Idx → EReal) (w : (⟨2, ![16384, 8192]⟩ : Shape).Idx → EReal)
    (t : (⟨2, ![8, 128]⟩ : Shape).Idx → EReal) (s : (⟨1, ![1]⟩ : Shape).Idx → EReal) (h : (⟨2, ![3072, 32768]⟩ : Shape).Idx → EReal)
    (p : Fin 3072) (q : Fin 16384) : EReal :=
  dgOf (daAt y w t s p q) (h (ix2 p (gateCol q))) (h (ix2 p (upCol q)))
/-- The gradient at the up projection, at an index. -/
def duAt (y : (⟨2, ![3072, 8192]⟩ : Shape).Idx → EReal) (w : (⟨2, ![16384, 8192]⟩ : Shape).Idx → EReal)
    (t : (⟨2, ![8, 128]⟩ : Shape).Idx → EReal) (s : (⟨1, ![1]⟩ : Shape).Idx → EReal) (h : (⟨2, ![3072, 32768]⟩ : Shape).Idx → EReal)
    (p : Fin 3072) (q : Fin 16384) : EReal :=
  duOf (daAt y w t s p q) (h (ix2 p (gateCol q)))

end Cert.Proof.Common

end
-- ==== Proof.Bounds.lean ====
/-
  Bounds of the largest and of the smallest element: a reduction by maximum is at most a bound exactly when every element
  is, and the reshapes and halves a kernel takes on the way keep that.
-/
module

public import Idealize.ShloMosaic.PureOps.Ideal
public import Idealize.ShloMosaic.PureOps.Ideal.Laws
public import Idealize.ShloMosaic.Lib.ValueIdx
public import proofs.«01_k».proof.Proof.DhFormula

@[expose] public section

noncomputable section

namespace Cert.Proof.Common

open Idealize.ShloMosaic Idealize.ShloMosaic.ValueIdx

/-- The word of negative infinity is the least value. -/
theorem ofBits_bot : Ideal.ofBits .f32 0xFF800000#32 = ⊥ := by simp [Ideal.ofBits, Ideal.ieee]
/-- The word of infinity is the greatest value. -/
theorem ofBits_top : Ideal.ofBits .f32 0x7F800000#32 = ⊤ := by simp [Ideal.ofBits, Ideal.ieee]

/-- The elements of an array are at most a bound. -/
def AllLe {s : Shape} (v : s.Idx → EReal) (M : EReal) : Prop := ∀ i, v i ≤ M

/-- The maximum over some axes is at most a bound when the elements are. -/
theorem maxReduce_le {s t : Shape} {axes : List (Fin s.rank)} (src : FVec Ideal s .f32) (h : s.Reduces axes t)
    (hφ : FKind.Formats .f32) (hacc : (0xFF800000#32 : BitVec 32) = FKind.maximumf.neutral .f32 hφ) (M : EReal) :
    AllLe (multiReduction .maximumf axes t src 0xFF800000#32 h hφ hacc) M ↔ AllLe src M := by
  have key : ∀ j, multiReduction .maximumf axes t src 0xFF800000#32 h hφ hacc j ≤ M ↔ ∀ i, h.drop i = j → src i ≤ M := by
    intro j
    rw [multiReduction_maximumf_eq_fold]
    refine (Finset.fold_max_le (b := Ideal.ofBits .f32 0xFF800000#32) (f := src) (s := Finset.univ.filter fun i => h.drop i = j) M).trans ?_
    rw [ofBits_bot]
    simp
  unfold AllLe
  simp only [key]
  exact ⟨fun H i => H _ i rfl, fun H _ i _ => H i⟩

/-- A bound is at most the minimum over some axes when it is at most the elements. -/
theorem le_minReduce {s t : Shape} {axes : List (Fin s.rank)} (src : FVec Ideal s .f32) (h : s.Reduces axes t)
    (hφ : FKind.Formats .f32) (hacc : (0x7F800000#32 : BitVec 32) = FKind.minimumf.neutral .f32 hφ) (M : EReal) :
    (∀ j, M ≤ multiReduction .minimumf axes t src 0x7F800000#32 h hφ hacc j) ↔ ∀ i, M ≤ src i := by
  have key : ∀ j, M ≤ multiReduction .minimumf axes t src 0x7F800000#32 h hφ hacc j ↔ ∀ i, h.drop i = j → M ≤ src i := by
    intro j
    rw [multiReduction_minimumf_eq_fold]
    refine (Finset.le_fold_min (b := Ideal.ofBits .f32 0x7F800000#32) (f := src) (s := Finset.univ.filter fun i => h.drop i = j) M).trans ?_
    rw [ofBits_top]
    simp
  simp only [key]
  exact ⟨fun H i => H _ i rfl, fun H _ i _ => H i⟩

/-- A reshape keeps the bounds. -/
theorem allLe_shapeCast {s t : Shape} (v : FVec Ideal s .f32) (h : s.ShapeCasts t) (M : EReal) :
    AllLe (shapeCast t v h) M ↔ AllLe v M :=
  Equiv.forall_congr (q := fun i => v i ≤ M) (Shape.reshapeEquiv h) fun _ => Iff.rfl

/-- The larger of two arrays. -/
theorem allLe_max {s : Shape} (v w : FVec Ideal s .f32) (M : EReal) :
    AllLe (maximumf v w) M ↔ AllLe v M ∧ AllLe w M :=
  ⟨fun H => ⟨fun i => (le_max_left _ _).trans (H i), fun i => (le_max_right _ _).trans (H i)⟩,
    fun H i => max_le (H.1 i) (H.2 i)⟩

/-- The one element of a shape of one element. -/
theorem extract_le (v : FVec Ideal ⟨3, ![1, 1, 1]⟩ .f32) (h) (M : EReal) :
    extractAt ![0, 0, 0] v h ≤ M ↔ AllLe v M := by
  refine ⟨fun H i => ?_, fun H => H _⟩
  have e : i = fun a => ⟨![0, 0, 0] a, h a⟩ := by
    funext a; apply Fin.ext
    match a with
    | ⟨0, _⟩ => have h1 : (i 0).val < 1 := (i 0).isLt
                show (i 0).val = 0; omega
    | ⟨1, _⟩ => have h1 : (i 1).val < 1 := (i 1).isLt
                show (i 1).val = 0; omega
    | ⟨2, _⟩ => have h1 : (i 2).val < 1 := (i 2).isLt
                show (i 2).val = 0; omega
  rw [e]; exact H

/-- The same from below. -/
theorem le_extract (v : FVec Ideal ⟨3, ![1, 1, 1]⟩ .f32) (h) (M : EReal) :
    M ≤ extractAt ![0, 0, 0] v h ↔ ∀ i, M ≤ v i := by
  refine ⟨fun H i => ?_, fun H => H _⟩
  have e : i = fun a => ⟨![0, 0, 0] a, h a⟩ := by
    funext a; apply Fin.ext
    match a with
    | ⟨0, _⟩ => have h1 : (i 0).val < 1 := (i 0).isLt
                show (i 0).val = 0; omega
    | ⟨1, _⟩ => have h1 : (i 1).val < 1 := (i 1).isLt
                show (i 1).val = 0; omega
    | ⟨2, _⟩ => have h1 : (i 2).val < 1 := (i 2).isLt
                show (i 2).val = 0; omega
  rw [e]; exact H

/-- The two halves of a row of 256 lanes. -/
theorem allLe_halves (v : FVec Ideal ⟨2, ![8, 256]⟩ .f32) (h0) (h1) (M : EReal) :
    AllLe (maximumf (extractStridedSlice ⟨2, ![8, 128]⟩ ![0, 0] v h0) (extractStridedSlice ⟨2, ![8, 128]⟩ ![0, 128] v h1)) M ↔ AllLe v M := by
  rw [allLe_max]
  refine ⟨fun H i => ?_, fun H => ⟨fun _ => H _, fun _ => H _⟩⟩
  have hr : (i 0).val < 8 := (i 0).isLt
  have hc : (i 1).val < 256 := (i 1).isLt
  by_cases hlt : (i 1).val < 128
  · refine le_of_eq_of_le (congrArg v ?_) (H.1 (ix2 ⟨(i 0).val, hr⟩ ⟨(i 1).val, hlt⟩))
    funext a; apply Fin.ext
    match a with
    | ⟨0, _⟩ => show (i 0).val = 0 + (i 0).val; omega
    | ⟨1, _⟩ => show (i 1).val = 0 + (i 1).val; omega
  · refine le_of_eq_of_le (congrArg v ?_) (H.2 (ix2 ⟨(i 0).val, hr⟩ ⟨(i 1).val - 128, by omega⟩))
    funext a; apply Fin.ext
    match a with
    | ⟨0, _⟩ => show (i 0).val = 0 + (i 0).val; omega
    | ⟨1, _⟩ => show (i 1).val = 128 + ((i 1).val - 128); omega

end Cert.Proof.Common
-- ==== Proof.Scale.lean ====
/-
  The power of two a quantiser scales by. The kernel finds the exponent field of a value by a search of its eight bits
  and writes it, plus one, as the field of the result; the reference takes the least power of two above the value out of a
  table. Over the extended reals the two are the same number, for every value.
-/
module

public import proofs.«01_k».proof.Proof.Bounds

@[expose] public section

noncomputable section

namespace Cert.Proof.Common

open Idealize.ShloMosaic Idealize.ShloMosaic.ValueIdx

/-- One bit of the search: the bit `h` is added to the field `b` if the value reaches the number of that field. -/
def bitStep (q : EReal) (h b : BitVec 32) : BitVec 32 :=
  Scalar.select (FloatOps.cmpf (F := Ideal) (φ := .f32) .oge q (FloatOps.ofBits (F := Ideal) .f32 (IntOp.shli .vector (IntOp.addi b h) 23#32))) (IntOp.addi b h) b

/-- The exponent field, bit by bit. -/
def fieldOf (q : EReal) : BitVec 32 :=
  bitStep q 1#32 (bitStep q 2#32 (bitStep q 4#32 (bitStep q 8#32 (bitStep q 16#32 (bitStep q 32#32 (bitStep q 64#32 (bitStep q 128#32 0#32)))))))

/-- The scale of a field. -/
def scaleOfField (b : BitVec 32) : EReal :=
  FloatOps.ofBits (F := Ideal) .f32 (IntOp.shli .vector (IntOp.addi (Scalar.select (IntOp.ori (IntOp.cmpi .eq b 0#32) (IntOp.cmpi .eq b 255#32)) 0#32 (IntOp.subi b 126#32)) 127#32) 23#32)

/-- The number whose exponent field is `n`. -/
def fieldNum (n : ℕ) : EReal := Ideal.ofBits .f32 (BitVec.ofNat 32 n <<< 23)

/-- The parts of a word made of a field alone. -/
theorem field_exp {n : ℕ} (h : n < 256) : ((BitVec.ofNat 32 n <<< 23).extractLsb' 23 8).toNat = n := by
  simp only [BitVec.extractLsb'_toNat, BitVec.toNat_shiftLeft, BitVec.toNat_ofNat, Nat.shiftLeft_eq, Nat.shiftRight_eq_div_pow]
  omega
theorem field_frac {n : ℕ} (h : n < 256) : ((BitVec.ofNat 32 n <<< 23).extractLsb' 0 23).toNat = 0 := by
  simp only [BitVec.extractLsb'_toNat, BitVec.toNat_shiftLeft, BitVec.toNat_ofNat, Nat.shiftLeft_eq, Nat.shiftRight_eq_div_pow]
  omega
theorem field_sign {n : ℕ} (h : n < 256) : (BitVec.ofNat 32 n <<< 23).extractLsb' 31 1 = 0#1 := by
  apply BitVec.eq_of_toNat_eq
  simp only [BitVec.extractLsb'_toNat, BitVec.toNat_shiftLeft, BitVec.toNat_ofNat, Nat.shiftLeft_eq, Nat.shiftRight_eq_div_pow]
  omega

/-- A word of a field alone is a power of two. -/
theorem ieee_power (w : BitVec 32) {n : ℕ} (ha : (w.extractLsb' 23 8).toNat = n) (hb : (w.extractLsb' 0 23).toNat = 0)
    (hc : w.extractLsb' 31 1 = 0#1) (h1 : 1 ≤ n) (h2 : n ≤ 254) :
    Ideal.ieee 8 23 w = (((2 : ℝ) ^ ((n : ℤ) - 127) : ℝ) : EReal) := by
  have e : ((n : ℤ) - 127) = ((n : ℤ) - (2 ^ (8 - 1) - 1) - ((23 : ℕ) : ℤ)) + 23 := by norm_num
  have hs : ((w.extractLsb' (8 + 23) 1 == 1#1) : Bool) = false := by rw [show 8 + 23 = 31 from rfl, hc]; decide
  have n255 : ¬ (n = 2 ^ 8 - 1) := by omega
  have n0 : ¬ (n = 0) := by omega
  unfold Ideal.ieee
  dsimp only
  rw [ha, hb, hs, if_neg n255, if_neg n0]
  refine congrArg _ ?_
  rw [e, zpow_add₀ (by norm_num)]
  norm_num
  ring

/-- It is the power of two the field stands for. -/
theorem fieldNum_eq {n : ℕ} (h1 : 1 ≤ n) (h2 : n ≤ 254) : fieldNum n = (((2 : ℝ) ^ ((n : ℤ) - 127) : ℝ) : EReal) := by
  have ha := field_exp (n := n) (by omega)
  have hb := field_frac (n := n) (by omega)
  have hc := field_sign (n := n) (by omega)
  unfold fieldNum
  generalize BitVec.ofNat 32 n <<< 23 = w at ha hb hc ⊢
  exact ieee_power w ha hb hc h1 h2

/-- The field of ones is infinity. -/
theorem fieldNum_top : fieldNum 255 = ⊤ := by
  unfold fieldNum; exact (congrArg (Ideal.ofBits .f32) (by decide)).trans ofBits_top

/-- The field is between its number and the next. -/
structure Between (q : EReal) (w b : ℕ) : Prop where
  lo : b = 0 ∨ fieldNum b ≤ q
  hi : b + w = 256 ∨ q < fieldNum (b + w)
  bd : b + w ≤ 256

theorem bitStep_spec {q : EReal} {h b : ℕ} (hb : Between q (2 * h) b) (hw : 1 ≤ h) :
    ∃ b', bitStep q (BitVec.ofNat 32 h) (BitVec.ofNat 32 b) = BitVec.ofNat 32 b' ∧ Between q h b' := by
  have hbd := hb.bd
  have hadd : IntOp.addi (BitVec.ofNat 32 b) (BitVec.ofNat 32 h) = BitVec.ofNat 32 (b + h) := by
    show BitVec.ofNat 32 b + BitVec.ofNat 32 h = _
    rw [BitVec.ofNat_add]
  have hT : (FloatOps.ofBits (F := Ideal) .f32 (IntOp.shli .vector (IntOp.addi (BitVec.ofNat 32 b) (BitVec.ofNat 32 h)) 23#32) : EReal) = fieldNum (b + h) := by
    rw [hadd]; rfl
  unfold bitStep
  rw [hT, hadd]
  by_cases hc : fieldNum (b + h) ≤ q
  · refine ⟨b + h, ?_, ⟨.inr hc, ?_, by omega⟩⟩
    · show Scalar.select (BitVec.ofBool (decide (fieldNum (b + h) ≤ q))) _ _ = _
      rw [decide_eq_true hc]; rfl
    · rcases hb.hi with h1 | h1
      · left; omega
      · right; rwa [show b + h + h = b + 2 * h by omega]
  · refine ⟨b, ?_, ⟨hb.lo, .inr (not_le.1 hc), by omega⟩⟩
    show Scalar.select (BitVec.ofBool (decide (fieldNum (b + h) ≤ q))) _ _ = _
    rw [decide_eq_false hc]; rfl

/-- The search ends at the field of the value. -/
theorem fieldOf_spec (q : EReal) : ∃ n, fieldOf q = BitVec.ofNat 32 n ∧ Between q 1 n := by
  have h0 : Between q (2 * 128) 0 := ⟨.inl rfl, .inl rfl, le_refl _⟩
  obtain ⟨b1, e1, h1⟩ := bitStep_spec h0 (by norm_num)
  obtain ⟨b2, e2, h2⟩ := bitStep_spec (h := 64) h1 (by norm_num)
  obtain ⟨b3, e3, h3⟩ := bitStep_spec (h := 32) h2 (by norm_num)
  obtain ⟨b4, e4, h4⟩ := bitStep_spec (h := 16) h3 (by norm_num)
  obtain ⟨b5, e5, h5⟩ := bitStep_spec (h := 8) h4 (by norm_num)
  obtain ⟨b6, e6, h6⟩ := bitStep_spec (h := 4) h5 (by norm_num)
  obtain ⟨b7, e7, h7⟩ := bitStep_spec (h := 2) h6 (by norm_num)
  obtain ⟨b8, e8, h8⟩ := bitStep_spec (h := 1) h7 (by norm_num)
  refine ⟨b8, ?_, h8⟩
  unfold fieldOf
  rw [e1, e2, e3, e4, e5, e6, e7, e8]

theorem scaleOfField_mid : ∀ n : Fin 255, 1 ≤ n.val →
    IntOp.shli .vector (IntOp.addi (Scalar.select (IntOp.ori (IntOp.cmpi .eq (BitVec.ofNat 32 n.val) 0#32) (IntOp.cmpi .eq (BitVec.ofNat 32 n.val) 255#32)) 0#32 (IntOp.subi (BitVec.ofNat 32 n.val) 126#32)) 127#32) 23#32
      = BitVec.ofNat 32 (n.val + 1) <<< 23 := by
  decide +kernel

/-- The shapes of the table. -/
abbrev S8x32 : Shape := ⟨2, ![8, 32]⟩
abbrev S1x8x32 : Shape := ⟨3, ![1, 8, 32]⟩

/-- The table of exponents, from -128 to 127. -/
def exponents (h0 : S8x32.Iotas .tc 32 [0]) (h1 : S8x32.Iotas .tc 32 [1]) : FVec Ideal S8x32 .f32 :=
  subf (addf (mulf (sitofp .f32 (iota .tc S8x32 32 [0] h0)) (broadcast S8x32 (Scalar.ofBits .f32 0x42000000#32))) (sitofp .f32 (iota .tc S8x32 32 [1] h1))) (broadcast S8x32 (Scalar.ofBits .f32 0x43000000#32))

/-- An entry of the table of powers, or infinity where it is not above the value. -/
def aboveOr (q : EReal) (x : FVec Ideal S8x32 .f32) : FVec Ideal S8x32 .f32 :=
  select (cmpf (F := Ideal) (φ := .f32) .olt (broadcast S8x32 q) (exp2 x)) (exp2 x) (broadcast S8x32 (Scalar.ofBits .f32 0x7F800000#32))

/-- The least power of two of the table above the value; infinity if there is none. -/
def leastAbove (q : EReal) (x : FVec Ideal S8x32 .f32) (hs : S8x32.ShapeCasts S1x8x32) (hr : S1x8x32.Reduces [1, 2] ⟨1, ![1]⟩)
    (ht : (⟨1, ![1]⟩ : Shape).ShapeCasts ⟨3, ![1, 1, 1]⟩) (hp : ∀ a, (![0, 0, 0] : Fin 3 → Nat) a < (⟨3, ![1, 1, 1]⟩ : Shape).size a) : EReal :=
  extractAt ![0, 0, 0] (shapeCast ⟨3, ![1, 1, 1]⟩ (multiReduction (F := Ideal) .minimumf [1, 2] ⟨1, ![1]⟩ (shapeCast S1x8x32 (aboveOr q x) hs) 0x7F800000#32 hr (.inl rfl) rfl) ht) hp

/-- The scale of the reference: one where the value is below the least normal number or infinite, else the power `r`. -/
def scaleAbove (q r : EReal) : EReal :=
  Scalar.select (Scalar.ori (Scalar.cmpf (F := Ideal) (φ := .f32) .olt q (Scalar.ofBits .f32 0x00800000#32)) (Scalar.cmpf (F := Ideal) (φ := .f32) .oeq q (Scalar.ofBits .f32 0x7F800000#32))) (Scalar.ofBits (F := Ideal) .f32 0x3F800000#32) r

theorem ofBits_32 : Ideal.ofBits .f32 0x42000000#32 = ((32 : ℝ) : EReal) :=
  (ieee_power 0x42000000#32 (n := 132) (by decide) (by decide) (by decide) (by norm_num) (by norm_num)).trans (by norm_num)
theorem ofBits_128 : Ideal.ofBits .f32 0x43000000#32 = ((128 : ℝ) : EReal) :=
  (ieee_power 0x43000000#32 (n := 134) (by decide) (by decide) (by decide) (by norm_num) (by norm_num)).trans (by norm_num)

theorem toInt_small {n : ℕ} (h : n < 1024) : (BitVec.ofNat 32 n).toInt = (n : ℤ) := by
  rw [BitVec.toInt_eq_toNat_of_lt (by rw [BitVec.toNat_ofNat]; omega), BitVec.toNat_ofNat]; omega

/-- An entry of the table of exponents. -/
theorem exponents_apply (h0) (h1) (i : Fin 8) (j : Fin 32) :
    exponents h0 h1 (ix2 i j) = ((((32 * i.val + j.val : ℕ) : ℤ) - 128 : ℤ) : ℝ) := by
  have hi := i.isLt
  have hj := j.isLt
  have e0 : (BitVec.ofNat 32 (0 * 8 + i.val)).toInt = (i.val : ℤ) := by rw [toInt_small (by omega)]; omega
  have e1 : (BitVec.ofNat 32 (0 * 32 + j.val)).toInt = (j.val : ℤ) := by rw [toInt_small (by omega)]; omega
  show (((BitVec.ofNat 32 (0 * 8 + i.val)).toInt : ℝ) : EReal) * Ideal.ofBits .f32 0x42000000#32 + (((BitVec.ofNat 32 (0 * 32 + j.val)).toInt : ℝ) : EReal) - Ideal.ofBits .f32 0x43000000#32 = _
  rw [e0, e1, ofBits_32, ofBits_128, ← EReal.coe_mul, ← EReal.coe_add, ← EReal.coe_sub]
  congr 1
  push_cast
  ring

/-- An entry of the table of powers. -/
theorem power_apply (h0) (h1) (i : Fin 8) (j : Fin 32) :
    exp2 (exponents h0 h1) (ix2 i j) = (((2 : ℝ) ^ (((32 * i.val + j.val : ℕ) : ℤ) - 128) : ℝ) : EReal) := by
  show Ideal.exp2 (exponents h0 h1 (ix2 i j)) = _
  rw [exponents_apply]
  show ((Real.rpow 2 _ : ℝ) : EReal) = _
  congr 1
  exact Real.rpow_intCast 2 _

theorem aboveOr_apply (q : EReal) (x) (i : S8x32.Idx) :
    aboveOr q x i = if q < exp2 x i then exp2 x i else ⊤ := by
  show Scalar.select (BitVec.ofBool (decide (q < exp2 x i))) (exp2 x i) (Ideal.ofBits .f32 0x7F800000#32) = _
  rw [ofBits_top]
  by_cases h : q < exp2 x i
  · rw [decide_eq_true h, if_pos h]; rfl
  · rw [decide_eq_false h, if_neg h]; rfl

theorem le_leastAbove (q : EReal) (x) (hs) (hr) (ht) (hp) (M : EReal) :
    M ≤ leastAbove q x hs hr ht hp ↔ ∀ i, M ≤ aboveOr q x i := by
  unfold leastAbove
  rw [le_extract]
  refine (Equiv.forall_congr (q := fun i => M ≤ multiReduction (F := Ideal) .minimumf [1, 2] ⟨1, ![1]⟩ (shapeCast S1x8x32 (aboveOr q x) hs) 0x7F800000#32 hr (.inl rfl) rfl i) (Shape.reshapeEquiv ht) fun _ => Iff.rfl).trans ?_
  refine (le_minReduce (shapeCast S1x8x32 (aboveOr q x) hs) hr (.inl rfl) rfl M).trans ?_
  exact Equiv.forall_congr (q := fun i => M ≤ aboveOr q x i) (Shape.reshapeEquiv hs) fun _ => Iff.rfl

/-- The least power above a value between two powers is the second. -/
theorem leastAbove_eq {q : EReal} {n : ℕ} (h1 : 1 ≤ n) (h2 : n ≤ 254) (hlo : fieldNum n ≤ q) (hhi : q < fieldNum (n + 1))
    (h0) (h1') (hs) (hr) (ht) (hp) : leastAbove q (exponents h0 h1') hs hr ht hp = fieldNum (n + 1) := by
  have hlt : ∀ k : ℤ, q < (((2 : ℝ) ^ k : ℝ) : EReal) → (n : ℤ) - 126 ≤ k := by
    intro k hk
    have h := lt_of_le_of_lt hlo hk
    rw [fieldNum_eq h1 h2, EReal.coe_lt_coe_iff] at h
    have := (zpow_lt_zpow_iff_right₀ (by norm_num : (1 : ℝ) < 2)).1 h
    omega
  refine le_antisymm ?_ ?_
  · by_cases he : n = 254
    · subst he; rw [fieldNum_top]; exact le_top
    · have hk : n + 2 < 256 := by omega
      have h := (le_leastAbove q (exponents h0 h1') hs hr ht hp _).1 le_rfl (ix2 (⟨(n + 2) / 32, by omega⟩ : Fin 8) (⟨(n + 2) % 32, by omega⟩ : Fin 32))
      rw [aboveOr_apply, power_apply] at h
      have e : (((32 * ((n + 2) / 32) + (n + 2) % 32 : ℕ) : ℤ) - 128) = (((n + 1 : ℕ) : ℤ) - 127) := by omega
      simp only at h
      rw [e, ← fieldNum_eq (by omega) (by omega), if_pos hhi] at h
      exact h
  · refine (le_leastAbove q (exponents h0 h1') hs hr ht hp _).2 fun i => ?_
    obtain ⟨a, b, rfl⟩ : ∃ (a : Fin 8) (b : Fin 32), i = ix2 a b := ⟨i 0, i 1, eq_ix2 i⟩
    have ha := a.isLt
    have hb := b.isLt
    rw [aboveOr_apply, power_apply]
    split
    · next hq =>
      have hk := hlt _ hq
      by_cases he : n = 254
      · exfalso; omega
      · rw [fieldNum_eq (by omega) (by omega), EReal.coe_le_coe_iff]
        exact zpow_le_zpow_right₀ (by norm_num) (by omega)
    · exact le_top

theorem fieldNum_one : Ideal.ofBits .f32 0x00800000#32 = fieldNum 1 := by unfold fieldNum; exact congrArg _ (by decide)

theorem scaleAbove_eq (q r : EReal) : scaleAbove q r = if q < fieldNum 1 ∨ q = ⊤ then 1 else r := by
  show Scalar.select (BitVec.ofBool (decide (q < Ideal.ofBits .f32 0x00800000#32)) ||| BitVec.ofBool (decide (q = Ideal.ofBits .f32 0x7F800000#32))) (Ideal.ofBits .f32 0x3F800000#32) r = _
  rw [ofBits_top, ofBits_one, fieldNum_one]
  by_cases h1 : q < fieldNum 1 <;> by_cases h2 : q = ⊤ <;> simp [h1, h2, Scalar.select]

/-- The value whose power is looked for: a maximum times a constant. -/
theorem scaled_eq (z : EReal) (w : BitVec 32) : (Scalar.mulf (F := Ideal) (φ := .f32) z (Scalar.ofBits .f32 w) : EReal) = z * Ideal.ofBits .f32 w := rfl
/-- A tile that holds the scale everywhere. -/
theorem scaleAbove_tile (q r : EReal) (j : (⟨2, ![8, 128]⟩ : Shape).Idx) :
    broadcast ⟨2, ![8, 128]⟩ (Scalar.select (Scalar.ori (Scalar.cmpf (F := Ideal) (φ := .f32) .olt q (Scalar.ofBits .f32 0x00800000#32)) (Scalar.cmpf (F := Ideal) (φ := .f32) .oeq q (Scalar.ofBits .f32 0x7F800000#32))) (Scalar.ofBits (F := Ideal) .f32 0x3F800000#32) r) j
      = scaleAbove q r := rfl

/-- The two scales are one. -/
theorem scale_eq (q : EReal) (h0) (h1) (hs) (hr) (ht) (hp) :
    scaleOfField (fieldOf q) = scaleAbove q (leastAbove q (exponents h0 h1) hs hr ht hp) := by
  obtain ⟨n, hn, hb⟩ := fieldOf_spec q
  rw [hn, scaleAbove_eq]
  have hbd := hb.bd
  by_cases hz : n = 0
  · subst hz
    have hq : q < fieldNum 1 := by rcases hb.hi with h | h; · omega
                                   · exact h
    rw [if_pos (.inl hq)]
    exact ofBits_one
  by_cases ht' : n = 255
  · subst ht'
    have hq : fieldNum 255 ≤ q := by rcases hb.lo with h | h; · omega
                                     · exact h
    rw [fieldNum_top, top_le_iff] at hq
    rw [if_pos (.inr hq)]
    exact ofBits_one
  have hlo : fieldNum n ≤ q := by rcases hb.lo with h | h; · omega
                                  · exact h
  have hhi : q < fieldNum (n + 1) := by rcases hb.hi with h | h; · omega
                                        · exact h
  have hmono : fieldNum 1 ≤ fieldNum n := by
    rw [fieldNum_eq (by omega) (by omega), fieldNum_eq (by omega) (by omega), EReal.coe_le_coe_iff]
    exact zpow_le_zpow_right₀ (by norm_num) (by omega)
  rw [if_neg (by
    rintro (h | h)
    · exact absurd (lt_of_lt_of_le h (hmono.trans hlo)) (lt_irrefl _)
    · rw [h] at hhi; exact absurd hhi (not_lt.2 le_top)), leastAbove_eq (by omega) (by omega) hlo hhi]
  exact congrArg (Ideal.ofBits .f32) (scaleOfField_mid ⟨n, by omega⟩ (by show 1 ≤ n; omega))

end Cert.Proof.Common
-- ==== Proof.AmaxValue.lean ====
/-
  The largest magnitude of dy, as the kernel carries it from point to point, and the scale written from it at the last.
-/
module

public import proofs.«01_k».proof.Proof.Gen.AmaxIdeal.Value
public import proofs.«01_k».proof.Proof.DhFormula
public import proofs.«01_k».proof.Proof.Scale
public import Idealize.ShloMosaic.Lib.Pipeline.Value

@[expose] public section

set_option maxRecDepth 16384

noncomputable section

namespace Cert.Proof.Amax

open Cert.AmaxIdeal Cert.AmaxIdeal.Gen Idealize.ShloMosaic Idealize.ShloMosaic.TcCoe Idealize.SL.Sem
open Idealize.ShloMosaic.ValueIdx
open Cert.Proof.Common

/-- The columns before `n` are at most a bound. -/
def ColsLe (v : FVec Ideal S8x8192 .f32) (M : EReal) (n : ℕ) : Prop := ∀ i : S8x8192.Idx, (i 1).val < n → v i ≤ M

/-- 128 columns from `o`. -/
theorem slice_le (v : FVec Ideal S8x8192 .f32) (o : ℕ) (h) (M : EReal) :
    AllLe (extractStridedSlice S8x128 ![0, o] v h) M ↔ ∀ i : S8x8192.Idx, o ≤ (i 1).val → (i 1).val < o + 128 → v i ≤ M := by
  constructor
  · intro H i h1 h2
    have hr : (i 0).val < 8 := (i 0).isLt
    refine le_of_eq_of_le (congrArg v ?_) (H (ix2 (⟨(i 0).val, hr⟩ : Fin 8) (⟨(i 1).val - o, by omega⟩ : Fin 128)))
    funext a; apply Fin.ext
    match a with
    | ⟨0, _⟩ => show (i 0).val = 0 + (i 0).val; omega
    | ⟨1, _⟩ => show (i 1).val = o + ((i 1).val - o); omega
  · intro H j
    have hc : (j 1).val < 128 := (j 1).isLt
    refine H _ ?_ ?_
    · show o ≤ o + (j 1).val; omega
    · show o + (j 1).val < o + 128; omega

/-- One more slice. -/
theorem slice_step (acc : FVec Ideal S8x128 .f32) (v : FVec Ideal S8x8192 .f32) (o : ℕ) (h) (M : EReal)
    (H : AllLe acc M ↔ ColsLe v M o) :
    AllLe (maximumf acc (extractStridedSlice S8x128 ![0, o] v h)) M ↔ ColsLe v M (o + 128) := by
  rw [allLe_max, H, slice_le]
  refine ⟨fun K i hi => ?_, fun K => ⟨fun i hi => K i (by omega), fun i _ hi => K i hi⟩⟩
  by_cases h' : (i 1).val < o
  · exact K.1 i h'
  · exact K.2 i (by omega) hi
theorem slice_first (v : FVec Ideal S8x8192 .f32) (h) (M : EReal) :
    AllLe (extractStridedSlice S8x128 ![0, 0] v h) M ↔ ColsLe v M 128 := by
  rw [slice_le]
  exact ⟨fun K i hi => K i (by omega) (by omega), fun K i _ hi => K i (by omega)⟩

theorem pay14_le (x : Vec Ideal S256x8192 .bf16) (M : EReal) :
    AllLe (k0_pay14 (F := Ideal) x) M ↔ ColsLe (k0_pay13 (F := Ideal) x) M 2688 := by
  unfold k0_pay14
  generalize k0_pay13 (F := Ideal) x = v
  iterate 20 refine slice_step _ _ _ _ M ?_
  exact slice_first _ _ M
theorem pay15_le (v : FVec Ideal S8x8192 .f32) (acc : FVec Ideal S8x128 .f32) (M : EReal) (H : AllLe acc M ↔ ColsLe v M 2688) :
    AllLe (k0_pay15 (F := Ideal) v acc) M ↔ ColsLe v M 6528 := by
  unfold k0_pay15
  iterate 30 refine slice_step _ _ _ _ M ?_
  exact H
theorem pay1_le (xs : Vec Ideal S8x128 .f32) (v : FVec Ideal S8x8192 .f32) (acc : FVec Ideal S8x128 .f32) (M : EReal) (H : AllLe acc M ↔ ColsLe v M 6528) :
    AllLe (k0_pay1 (F := Ideal) xs v acc) M ↔ AllLe xs M ∧ ColsLe v M 8192 := by
  unfold k0_pay1
  refine (allLe_shapeCast _ _ M).trans ?_
  refine (allLe_max _ _ M).trans (and_congr Iff.rfl ?_)
  iterate 13 refine slice_step _ _ _ _ M ?_
  exact H

/-- The magnitudes of a block are at most a bound. -/
def blockLe (x : Vec Ideal S256x8192 .bf16) (M : EReal) : Prop := ∀ i, mag (x i) ≤ M

theorem pay13_le (x : Vec Ideal S256x8192 .bf16) (M : EReal) : ColsLe (k0_pay13 (F := Ideal) x) M 8192 ↔ blockLe x M := by
  have e : ColsLe (k0_pay13 (F := Ideal) x) M 8192 ↔ AllLe (k0_pay13 (F := Ideal) x) M :=
    ⟨fun H i => H i (i 1).isLt, fun H i _ => H i⟩
  rw [e]
  unfold k0_pay13
  refine (maxReduce_le _ _ _ _ M).trans ?_
  refine (allLe_shapeCast _ _ M).trans ?_
  rw [shapeCast_self]
  exact Iff.rfl

/-- The tile after a point. -/
theorem point_le (xs : Vec Ideal S8x128 .f32) (x : Vec Ideal S256x8192 .bf16) (M : EReal) :
    AllLe (k0_pay1 (F := Ideal) xs (k0_pay13 x) (k0_pay15 (k0_pay13 x) (k0_pay14 x))) M ↔ AllLe xs M ∧ blockLe x M :=
  (pay1_le _ _ _ M (pay15_le _ _ M (pay14_le x M))).trans (and_congr Iff.rfl (pay13_le x M))

/-- The tile of zeros. -/
theorem zeros_le (M : EReal) : AllLe (k0_pay12 (F := Ideal)) M ↔ 0 ≤ M := by
  have e : ∀ i, k0_pay12 (F := Ideal) i = (0 : EReal) := fun i => ofBits_zero
  unfold AllLe
  simp only [e]
  exact ⟨fun H => H (ix2 0 0), fun H _ => H⟩

/-- The first point starts from zeros, -/
theorem soutA_le (c : Dev nD) (i : grid0.Coords) (a1 g1 a2 g2 a3 g3 a4 g4) (x0 : Vec Ideal S256x8192 .bf16) (hc hd) (M : EReal) :
    AllLe (sout0_A_0 (F := Ideal) c i a1 g1 a2 g2 a3 g3 a4 g4 hc hd x0) M ↔ 0 ≤ M ∧ blockLe x0 M := by
  unfold sout0_A_0
  rw [View.read_writes_eq_canon _ _ _ (scover0_A_0 c i a1 g1 a2 g2 a3 g3 a4 g4 hc hd x0)]
  unfold kernelRun0_A
  dsimp only
  sl_unfold_words
  rw [View.canon_cons_unit_zero (S := S8x128) hz2, View.readCov_unit_zero (S := S8x128) _ hz2]
  simp only [View.readAt_eq_ld, g1.read_unread, View.ld_unit_zero (S := S256x8192) hz2]
  rw [← zeros_le]
  exact point_le ..
/-- every other from what the point before left. -/
theorem soutB_le (c : Dev nD) (i : grid0.Coords) (a1 g1 a2 g2 a3 g3 a4 g4) (x0 : Vec Ideal S256x8192 .bf16) (hc hd) (xs : Vec Ideal S8x128 .f32) (M : EReal) :
    AllLe (sout0_B_0 (F := Ideal) c i a1 g1 a2 g2 a3 g3 a4 g4 hc hd x0 xs) M ↔ AllLe xs M ∧ blockLe x0 M := by
  unfold sout0_B_0
  rw [View.read_writes_eq_canon _ _ _ (scover0_B_0 c i a1 g1 a2 g2 a3 g3 a4 g4 hc hd x0 xs)]
  unfold kernelRun0_B
  dsimp only
  sl_unfold_words
  rw [View.canon_unit_zero hz2]
  simp only [View.readAt_eq_ld, g1.read_unread, g4.read_unread, View.ld_unit_zero (S := S256x8192) hz2,
    View.ld_unit_zero (S := S8x128) (X := xs) hz2]
  exact point_le ..
theorem soutC_le (c : Dev nD) (i : grid0.Coords) (a1 g1 a2 g2 a3 g3 a4 g4) (x0 : Vec Ideal S256x8192 .bf16) (hc hd) (xs : Vec Ideal S8x128 .f32) (M : EReal) :
    AllLe (sout0_C_0 (F := Ideal) c i a1 g1 a2 g2 a3 g3 a4 g4 hc hd x0 xs) M ↔ AllLe xs M ∧ blockLe x0 M := by
  unfold sout0_C_0
  rw [View.read_writes_eq_canon _ _ _ (scover0_C_0 c i a1 g1 a2 g2 a3 g3 a4 g4 hc hd x0 xs)]
  unfold kernelRun0_C
  dsimp only
  sl_unfold_words
  rw [View.canon_unit_zero hz2]
  simp only [View.readAt_eq_ld, g1.read_unread, g4.read_unread, View.ld_unit_zero (S := S256x8192) hz2,
    View.ld_unit_zero (S := S8x128) (X := xs) hz2]
  exact point_le ..

/-- The tile of the scale, from the tile of maxima. -/
def scaleTile (A : Vec Ideal S8x128 .f32) : FVec Ideal S8x128 .f32 :=
  k0_pay3 (k0_pay10 (k0_pay5 A) (k0_pay6 A) (k0_pay7 A) k0_pay8) (k0_pay11 (k0_pay5 A) (k0_pay6 A) (k0_pay7 A) k0_pay8)

/-- The last point writes the scale of the maxima it leaves. -/
theorem out1_C (c : Dev nD) (i : grid0.Coords) (a1 g1 a2 g2 a3 g3 a4 g4) (x0 : Vec Ideal S256x8192 .bf16) (hc hd) (xs : Vec Ideal S8x128 .f32) :
    out0_C_1 (F := Ideal) c i a1 g1 a2 g2 a3 g3 a4 g4 hc hd x0 xs = scaleTile (sout0_C_0 (F := Ideal) c i a1 g1 a2 g2 a3 g3 a4 g4 hc hd x0 xs) := by
  unfold out0_C_1 sout0_C_0
  rw [View.read_writes_eq_canon _ _ _ (cover0_C_1 c i a1 g1 a2 g2 a3 g3 a4 g4 hc hd x0 xs),
    View.read_writes_eq_canon _ _ _ (scover0_C_0 c i a1 g1 a2 g2 a3 g3 a4 g4 hc hd x0 xs)]
  unfold kernelRun0_C
  dsimp only
  sl_unfold_words
  rw [View.canon_unit_zero hz2, View.canon_unit_zero hz2, View.readCov_unit_zero (S := S8x128) _ hz2]
  rfl

/-- The greatest of a tile. -/
def tileMax (A : Vec Ideal S8x128 .f32) : EReal :=
  extractAt ![0, 0, 0] (shapeCast S1x1x1 (multiReduction (F := Ideal) .maximumf [1, 2] S1 (shapeCast S1x8x128 A shapeCasts_S8x128_S1x8x128) 0xFF800000#32 reduces_S1x8x128_S1 (.inl rfl) rfl) shapeCasts_S1_S1x1x1) inpos_S1x1x1_p0_0_0

theorem tileMax_le (A : Vec Ideal S8x128 .f32) (M : EReal) : tileMax A ≤ M ↔ AllLe A M := by
  unfold tileMax
  refine (extract_le _ _ M).trans ?_
  refine (allLe_shapeCast _ _ M).trans ?_
  refine (maxReduce_le _ _ _ _ M).trans ?_
  exact allLe_shapeCast _ _ M

/-- One step of the search, everywhere in the tile. -/
theorem step_apply (Q : FVec Ideal S8x128 .f32) (H : BitVec 32) (B : IVec S8x128 32) (j : S8x128.Idx) :
    select (cmpf .oge Q (bitcastToFloat .f32 (shli (addi B (broadcast S8x128 H)) (broadcast S8x128 23#32)))) (addi B (broadcast S8x128 H)) B j
      = bitStep (Q j) H (B j) := rfl

/-- The first three bits, -/
theorem pay6_apply (A : Vec Ideal S8x128 .f32) (j : S8x128.Idx) :
    k0_pay6 (F := Ideal) A j = bitStep (k0_pay5 (F := Ideal) A j) 32#32 (bitStep (k0_pay5 (F := Ideal) A j) 64#32 (bitStep (k0_pay5 (F := Ideal) A j) 128#32 0#32)) := by
  unfold k0_pay6
  generalize k0_pay5 A = Q
  rw [step_apply, step_apply, step_apply]
  rfl
/-- and all eight. -/
theorem pay9_apply (A : Vec Ideal S8x128 .f32) (j : S8x128.Idx) :
    k0_pay9 (F := Ideal) (k0_pay5 A) (k0_pay6 A) (k0_pay7 A) k0_pay8 j = fieldOf (k0_pay5 (F := Ideal) A j) := by
  have h6 := pay6_apply A j
  unfold k0_pay9 k0_pay7 k0_pay8 fieldOf
  generalize k0_pay6 A = B at h6 ⊢
  generalize k0_pay5 A = Q at h6 ⊢
  rw [step_apply, step_apply, step_apply, step_apply, step_apply, h6]

/-- The value whose exponent is searched. -/
theorem scaled_apply (x : EReal) (w : BitVec 32) (j : S8x128.Idx) :
    (mulf (broadcast S8x128 x) (broadcast S8x128 (Scalar.ofBits (F := Ideal) .f32 w)) : FVec Ideal S8x128 .f32) j = x * Ideal.ofBits .f32 w := rfl
theorem pay5_apply (A : Vec Ideal S8x128 .f32) (j : S8x128.Idx) :
    k0_pay5 (F := Ideal) A j = tileMax A * Ideal.ofBits .f32 0x37924925#32 := by
  unfold k0_pay5 tileMax
  exact scaled_apply _ _ j

/-- The scale, at every place of the tile. -/
theorem scaleTile_apply (A : Vec Ideal S8x128 .f32) (j : S8x128.Idx) :
    scaleTile A j = scaleOfField (fieldOf (tileMax A * Ideal.ofBits .f32 0x37924925#32)) := by
  rw [← pay5_apply A j, ← pay9_apply]
  unfold scaleTile k0_pay3 k0_pay2 k0_pay10 k0_pay11
  generalize k0_pay9 (F := Ideal) (k0_pay5 A) (k0_pay6 A) (k0_pay7 A) k0_pay8 = B
  rfl

variable (m : (ℓ : Loc nD τ sig) → Buf (Elt Ideal) ℓ)

/-- The array the window reads: dy as a matrix. -/
abbrev yArr (c : Dev nD) : Vec Ideal S3072x8192 .bf16 := V m c main_v0

theorem yArr_eq (c : Dev nD) : yArr m c = shapeCast S3072x8192 (m ((c : Thread nD τ).loc main_arg0)) shapeCasts_S1x3072x8192_S3072x8192 := rfl

/-- The printed index map of the window, decided over the grid. -/
theorem idx0 : ∀ t : Fin cfg0.N, win0_0.index t (0 : Fin 2) = t.val ∧ win0_0.index t (1 : Fin 2) = 0 :=
  (by decide +kernel : ∀ t : Fin grid0.N, _)

/-- Point `t`'s rows: from `256 t`. -/
theorem blk0 (c : Dev nD) (t : Fin cfg0.N) (a : Fin 256) (k : Fin 8192) (p : Fin 3072) (hp : p.val = 256 * t.val + a.val) :
    (iblk m c 0 t : Vec Ideal S256x8192 .bf16) (ix2 a k) = yArr m c (ix2 p k) := by
  unfold iblk
  rw [View.read_apply]
  show V m c main_v0 _ = V m c main_v0 _
  congr 1
  funext d
  apply Fin.ext
  match d with
  | ⟨0, _⟩ => show win0_0.index t 0 * 256 + 1 * a.val = p.val; rw [(idx0 t).1]; omega
  | ⟨1, _⟩ => show win0_0.index t 1 * 8192 + 1 * k.val = k.val; rw [(idx0 t).2]; omega

/-- The magnitudes of a point's block are at most a bound. -/
abbrev pointLe (c : Dev nD) (t : Fin cfg0.N) (M : EReal) : Prop := blockLe (iblk m c 0 t) M

/-- The tile carried after a point bounds the magnitudes of the points so far. -/
theorem carried_le (c : Dev nD) (M : EReal) : ∀ (n : ℕ) (hn : n < cfg0.N),
    AllLe (outsAt0 m c n hn).2.2 M ↔ 0 ≤ M ∧ ∀ (k : ℕ) (hk : k ≤ n), pointLe m c ⟨k, lt_of_le_of_lt hk hn⟩ M := by
  intro n
  induction n with
  | zero =>
    intro hn
    have h := congrArg (fun z => z.2.2) (outsAt0_A m c ⟨0, hn⟩ (by rfl) (by show ¬ 0 % 12 = 11; decide))
    dsimp only at h
    rw [h]
    refine (soutA_le ..).trans (and_congr Iff.rfl ?_)
    refine ⟨fun H k hk => ?_, fun H => H 0 le_rfl⟩
    obtain rfl : k = 0 := by omega
    exact H
  | succ n ih =>
    intro hn
    have hN : cfg0.N = 12 := N_0
    have hn' : n < cfg0.N := by omega
    have step : AllLe (outsAt0 m c (n + 1) hn).2.2 M ↔ AllLe (outsAt0 m c n hn').2.2 M ∧ pointLe m c ⟨n + 1, hn⟩ M := by
      have h0 : ¬ (n + 1) % 12 = 0 := by omega
      by_cases h1 : (n + 1) % 12 = 11
      · have h := congrArg (fun z => z.2.2) (outsAt0_C m c ⟨n + 1, hn⟩ h0 h1)
        dsimp only at h
        rw [h]
        exact soutC_le ..
      · have h := congrArg (fun z => z.2.2) (outsAt0_B m c ⟨n + 1, hn⟩ h0 h1)
        dsimp only at h
        rw [h]
        exact soutB_le ..
    rw [step, ih hn', and_assoc]
    refine and_congr Iff.rfl ⟨fun H k hk => ?_, fun H => ⟨fun k hk => H k (by omega), H (n + 1) le_rfl⟩⟩
    rcases Nat.lt_or_ge n k with h | h
    · obtain rfl : k = n + 1 := by omega
      exact H.2
    · exact H.1 k h

/-- The magnitudes of all points are the magnitudes of the array. -/
theorem points_iff (c : Dev nD) (M : EReal) : (∀ (k : ℕ) (hk : k ≤ 11), pointLe m c ⟨k, lt_of_le_of_lt hk (lt_of_lt_of_eq (by decide) N_0.symm)⟩ M)
    ↔ ∀ (p : Fin 3072) (q : Fin 8192), mag (yArr m c (ix2 p q)) ≤ M := by
  constructor
  · intro H p q
    have hp := p.isLt
    have h := H (p.val / 256) (by omega) (ix2 (⟨p.val % 256, Nat.mod_lt _ (by decide)⟩ : Fin 256) q)
    rw [blk0 m c _ _ q p (by show p.val = 256 * (p.val / 256) + p.val % 256; omega)] at h
    exact h
  · intro H k hk j
    obtain ⟨a, q, rfl⟩ : ∃ (a : Fin 256) (q : Fin 8192), j = ix2 a q := ⟨j 0, j 1, eq_ix2 (j : S256x8192.Idx)⟩
    have ha := a.isLt
    rw [blk0 m c _ a q ⟨256 * k + a.val, by omega⟩ rfl]
    exact H _ q

/-- The greatest magnitude the kernel ends with. -/
def kernelMax (c : Dev nD) : EReal := tileMax (outsAt0 m c 11 (lt_of_lt_of_eq (by decide) N_0.symm)).2.2

theorem kernelMax_le (c : Dev nD) (M : EReal) : kernelMax m c ≤ M ↔ 0 ≤ M ∧
    ∀ (p : Fin 3072) (q : Fin 8192), mag (yArr m c (ix2 p q)) ≤ M := by
  unfold kernelMax
  rw [tileMax_le, carried_le, points_iff]

/-- The tile the kernel ends with: everywhere the scale of the greatest magnitude. -/
theorem final1_apply (c : Dev nD) (j : S8x128.Idx) :
    ((dats m 0 c).arrAt 1 cfg0.N : Vec Ideal S8x128 .f32) j = scaleOfField (fieldOf (kernelMax m c * Ideal.ofBits .f32 0x37924925#32)) := by
  have hN : 11 < cfg0.N := lt_of_lt_of_eq (by decide) N_0.symm
  rw [Value.final1, Value.G1_last, ← Value.outsAt0_sweep m c 11 hN]
  have h := outsAt0_C m c ⟨11, hN⟩ (by show ¬ 11 % 12 = 0; decide) (by rfl)
  have h1 := congrArg (fun z => z.1) h
  have hs := congrArg (fun z => z.2.2) h
  dsimp only at h1 hs
  unfold kernelMax
  rw [← scaleTile_apply]
  refine congrFun ?_ j
  rw [h1, hs]
  exact out1_C ..

end Cert.Proof.Amax

end
-- ==== Proof.AmaxRef.lean ====
/-
  The scale of dy the reference ends with.
-/
module

public import proofs.«01_k».proof.Proof.Gen.AmaxRefIdeal.Value
public import proofs.«01_k».proof.Proof.DhFormula
public import proofs.«01_k».proof.Proof.Scale
public import Idealize.ShloMosaic.Lib.Pipeline.Value

@[expose] public section

set_option maxRecDepth 16384

noncomputable section

namespace Cert.Proof.AmaxRef

open Cert.AmaxRefIdeal Cert.AmaxRefIdeal.Gen Idealize.ShloMosaic Idealize.ShloMosaic.TcCoe Idealize.SL.Sem
open Idealize.ShloMosaic.ValueIdx
open Cert.Proof.Common

section AnyF

variable {F : FTy → Type} [FloatOps F]
variable (m : (ℓ : Loc nD τ sig) → Buf (Elt F) ℓ)

/-- The one point. -/
def t₀ : Fin cfg0.N := ⟨0, by decide⟩

/-- The body leaves the payload of its input. -/
theorem out_eq (x0 : Vec F S3072x8192 .bf16) : out0_1 x0 = k0_pay1 x0 := by
  unfold out0_1 r0_0
  rw [View.canon_unit_zero hz2, View.ld_unit_zero (S := S3072x8192) hz2]

/-- The array the window reads. -/
abbrev yArr (c : Dev nD) : Vec F S3072x8192 .bf16 := V m c main_v0

/-- The host's reshape. -/
theorem yArr_eq (c : Dev nD) : yArr m c = shapeCast S3072x8192 (m ((c : Thread nD τ).loc main_arg0)) shapeCasts_S1x3072x8192_S3072x8192 := rfl

/-- The input's one block is its array. -/
theorem blk0 (c : Dev nD) : (iblk m c 0 t₀ : Vec F S3072x8192 .bf16) = yArr m c := by
  have hz : (fun a => (win0_0.index t₀) a * main_v0.ty.shape.size a) = fun _ => 0 := funext fun a => by fin_cases a <;> decide
  exact Memref.read_access_unit_zero (Elt F) main_v0 hz (fun a => by fin_cases a <;> decide) _

/-- The result is the payload of the array. -/
theorem final_value (c : Dev nD) : (dats m 0 c).arrAt 1 cfg0.N = k0_pay1 (yArr m c) := by
  have ho := Value.blocks1 m c t₀ (by decide +kernel)
  have hz : (fun a => (win0_1.index t₀) a * main_v1.ty.shape.size a) = fun _ => 0 := funext fun a => by fin_cases a <;> decide
  have hr := fun f => Memref.read_access_unit_zero (Elt F) main_v1 hz (fun a => by fin_cases a <;> decide) f
  rw [hr] at ho
  rw [ho, Value.flushed1, out_eq, blk0]
  rfl

end AnyF

/-- The greatest magnitude of an array. -/
def arrayMax (x : Vec Ideal S3072x8192 .bf16) : EReal :=
  extractAt ![0, 0, 0] (shapeCast S1x1x1 (multiReduction (F := Ideal) .maximumf [1, 2] S1 (shapeCast S1x3072x8192 (absf (F := Ideal) (φ := .f32) (extf (F := Ideal) (φ := .bf16) .f32 (shapeCast S3072x8192 x shapeCasts_S3072x8192_S3072x8192) bitsLt_bf16_f32)) shapeCasts_S3072x8192_S1x3072x8192) 0xFF800000#32 reduces_S1x3072x8192_S1 (.inl rfl) rfl) shapeCasts_S1_S1x1x1) inpos_S1x1x1_p0_0_0

theorem arrayMax_le (x : Vec Ideal S3072x8192 .bf16) (M : EReal) :
    arrayMax x ≤ M ↔ ∀ (p : Fin 3072) (q : Fin 8192), mag (x (ix2 p q)) ≤ M := by
  unfold arrayMax
  refine (extract_le _ _ M).trans ?_
  refine (allLe_shapeCast _ _ M).trans ?_
  refine (maxReduce_le _ _ _ _ M).trans ?_
  refine (allLe_shapeCast _ _ M).trans ?_
  rw [shapeCast_self]
  refine ⟨fun H p q => H (ix2 p q), fun H j => ?_⟩
  obtain ⟨p, q, rfl⟩ : ∃ (p : Fin 3072) (q : Fin 8192), j = ix2 p q := ⟨j 0, j 1, eq_ix2 (j : S3072x8192.Idx)⟩
  exact H p q

/-- The tile of the scale. -/
theorem pay1_apply (x : Vec Ideal S3072x8192 .bf16) (j : S8x128.Idx) :
    k0_pay1 (F := Ideal) x j = scaleOfField (fieldOf (arrayMax x * Ideal.ofBits .f32 0x37924925#32)) := by
  rw [← scaled_eq, scale_eq _ iota_S8x32_d0_w32 iota_S8x32_d1_w32 shapeCasts_S8x32_S1x8x32 reduces_S1x8x32_S1 shapeCasts_S1_S1x1x1 inpos_S1x1x1_p0_0_0]
  unfold k0_pay1 leastAbove aboveOr exponents arrayMax
  exact scaleAbove_tile _ _ j

/-- The tile the reference ends with. -/
theorem final_apply (m : (ℓ : Loc nD τ sig) → Buf (Elt Ideal) ℓ) (c : Dev nD) (j : S8x128.Idx) :
    ((dats m 0 c).arrAt 1 cfg0.N : Vec Ideal S8x128 .f32) j = scaleOfField (fieldOf (arrayMax (yArr m c) * Ideal.ofBits .f32 0x37924925#32)) := by
  rw [final_value]
  exact pay1_apply _ j

end Cert.Proof.AmaxRef

end
-- ==== Proof.AmaxAlg.lean ====
/-
  The kernel of the scale of dy and its reference end with the same scale, for every argument.
-/
module

public import proofs.«01_k».proof.Defs
public import proofs.«01_k».proof.Proof.AmaxValue
public import proofs.«01_k».proof.Proof.AmaxRef

@[expose] public section

set_option maxRecDepth 16384

noncomputable section

namespace Cert.Proof.AmaxAlg

open Idealize.ShloMosaic Idealize.SL.Sem Idealize.ShloMosaic.ValueIdx
open Cert.Proof.Common

theorem algebraic : Cert.algebraic_AmaxIdeal_AmaxRefIdeal (hAmaxIdeal := Cert.AmaxIdeal.Gen.facts)
    (hAmaxRefIdeal := Cert.AmaxRefIdeal.Gen.facts) := by
  intro m g m' g' _ hargs
  refine ⟨fun c => (Cert.AmaxIdeal.Gen.dats (F := Ideal) m 0 c).arrAt 1 Cert.AmaxIdeal.cfg0.N, ?_, ?_⟩
  · refine (θ_run (Cert.AmaxIdeal.defs (F := Ideal)) _ _).mono (fun r h c => ?_) (Cert.AmaxIdeal.Value.run_blocks (F := Ideal) m g)
    obtain ⟨h1, -, h0⟩ := h c
    exact ⟨h1, h0⟩
  refine (θ_run (Cert.AmaxRefIdeal.defs (F := Ideal)) _ _).mono (fun r h c => ?_) (Cert.AmaxRefIdeal.Value.run_blocks (F := Ideal) m' g')
  obtain ⟨hv, h0⟩ := h c
  have a0 := hargs c
  have ey : AmaxRef.yArr m' c = Amax.yArr m c := by rw [AmaxRef.yArr_eq, Amax.yArr_eq, a0]
  have em : AmaxRef.arrayMax (AmaxRef.yArr m' c) = Amax.kernelMax m c := by
    refine eq_of_forall_ge_iff fun M => ?_
    rw [AmaxRef.arrayMax_le, Amax.kernelMax_le, ey]
    exact ⟨fun H => ⟨(mag_nonneg _).trans (H ⟨0, by decide⟩ ⟨0, by decide⟩), H⟩, fun H => H.2⟩
  refine ⟨hv.trans ?_, h0⟩
  funext j
  refine (AmaxRef.final_apply m' c j).trans (Eq.trans ?_ (Amax.final1_apply m c j).symm)
  rw [em]

end Cert.Proof.AmaxAlg

end
-- ==== Proof.DhPay.lean ====
/-
  The payloads of the kernel's body over the extended reals: the gradients a chunk of rows computes, and the rounding
  that leaves them as they are.
-/
module

public import proofs.«01_k».proof.Proof.Gen.DhIdeal.Skeleton
public import proofs.«01_k».proof.Proof.DhFormula
public import Idealize.ShloMosaic.Lib.Pipeline.Value

@[expose] public section

noncomputable section

namespace Cert.Proof.Dh

open Cert.DhIdeal Cert.DhIdeal.Gen Idealize.ShloMosaic Idealize.ShloMosaic.TcCoe Idealize.SL.Sem
open Idealize.ShloMosaic.ValueIdx
open Cert.Proof.Common
open scoped BigOperators

/-- The product of the rows of the codes and the rows of the weights, at an index. -/
theorem dot_apply (v9 : Vec Ideal S1024x8192 .fp8e5m2) (v10 : Vec Ideal S256x8192 .fp8e4m3) (a : Fin 1024) (b : Fin 256) :
    (matmul (φ₁ := .fp8e5m2) (φ₂ := .fp8e4m3) dot_S1024x8192_S256x8192_S1024x256_1_1_0_0_n_n none v9 v10 (constant S1024x256 .f32 0x00000000#32) : FVec Ideal S1024x256 .f32) (ix2 a b)
      = ∑ k : Fin 8192, v9 (ix2 a k) * v10 (ix2 b k) := by
  refine (Ideal.matmul_transposedRhs_apply (M := 1024) (K := 8192) (N := 256) none v9 v10 (constant S1024x256 .f32 0x00000000#32) a b).trans ?_
  show Ideal.ofBits .f32 0x00000000#32 + _ = _
  rw [ofBits_zero, zero_add]

/-- The product of the two scales. -/
theorem pay13_apply (v3 : Vec Ideal S8x128 .f32) (v5 : Elt Ideal .f32) (i : S1x1.Idx) :
    k0_pay13 (F := Ideal) v3 v5 i = v3 (ix2 0 0) * v5 := by
  unfold k0_pay13
  show v3 _ * v5 = _
  refine congrArg (· * v5) (congrArg v3 ?_)
  funext d
  apply Fin.ext
  match d with
  | ⟨0, _⟩ => have h : (i 0).val < 1 := (i 0).isLt
              show 0 + (i 0).val = 0; omega
  | ⟨1, _⟩ => have h : (i 1).val < 1 := (i 1).isLt
              show 0 + (i 1).val = 0; omega

/-- The gradient of the activation, chunk by chunk. -/
theorem pay14_apply (v3 : Vec Ideal S8x128 .f32) (v5 : Elt Ideal .f32) (v9 : Vec Ideal S1024x8192 .fp8e5m2) (v10 : Vec Ideal S256x8192 .fp8e4m3)
    (a : Fin 1024) (b : Fin 256) :
    k0_pay14 (F := Ideal) v3 v5 v9 v10 (ix2 a b) = (∑ k : Fin 8192, v9 (ix2 a k) * v10 (ix2 b k)) * (v3 (ix2 0 0) * v5) := by
  unfold k0_pay14
  refine (congrArg₂ (· * ·) (dot_apply v9 v10 a b) ?_)
  exact pay13_apply v3 v5 _
theorem pay37_apply (v3 : Vec Ideal S8x128 .f32) (v5 : Elt Ideal .f32) (v9 : Vec Ideal S1024x8192 .fp8e5m2) (v10 : Vec Ideal S256x8192 .fp8e4m3)
    (a : Fin 1024) (b : Fin 256) :
    k0_pay37 (F := Ideal) (k0_pay13 v3 v5) v9 v10 (ix2 a b) = (∑ k : Fin 8192, v9 (ix2 a k) * v10 (ix2 b k)) * (v3 (ix2 0 0) * v5) := by
  unfold k0_pay37
  refine (congrArg₂ (· * ·) (dot_apply v9 v10 a b) ?_)
  exact pay13_apply v3 v5 _
theorem pay69_apply (v3 : Vec Ideal S8x128 .f32) (v5 : Elt Ideal .f32) (v9 : Vec Ideal S1024x8192 .fp8e5m2) (v10 : Vec Ideal S256x8192 .fp8e4m3)
    (a : Fin 1024) (b : Fin 256) :
    k0_pay69 (F := Ideal) (k0_pay13 v3 v5) v9 v10 (ix2 a b) = (∑ k : Fin 8192, v9 (ix2 a k) * v10 (ix2 b k)) * (v3 (ix2 0 0) * v5) := by
  unfold k0_pay69
  refine (congrArg₂ (· * ·) (dot_apply v9 v10 a b) ?_)
  exact pay13_apply v3 v5 _

/-- The logistic function of a chunk's gate. -/
theorem pay16_apply (v14 : Vec Ideal S1024x256 .bf16) (j : S1024x256.Idx) : k0_pay16 (F := Ideal) v14 j = sig (v14 j) := by
  unfold k0_pay16 k0_pay15
  simp only [shapeCast_self]
  show Ideal.div (Ideal.ofBits .f32 0x3F800000#32) (Ideal.ofBits .f32 0x3F800000#32 + Ideal.exp (Ideal.ofBits .f32 0x00000000#32 - v14 j)) = _
  rw [ofBits_one, ofBits_zero, zero_sub]
  rfl
theorem pay40_apply (v14 : FVec Ideal S1024x256 .bf16) (j : S1024x256.Idx) : k0_pay40 (F := Ideal) v14 j = sig (v14 j) := by
  unfold k0_pay40 k0_pay39
  show Ideal.div (Ideal.ofBits .f32 0x3F800000#32) (Ideal.ofBits .f32 0x3F800000#32 + Ideal.exp (Ideal.ofBits .f32 0x00000000#32 - v14 j)) = _
  rw [ofBits_one, ofBits_zero, zero_sub]
  rfl
theorem pay71_apply (v14 : Vec Ideal S1024x256 .bf16) (j : S1024x256.Idx) : k0_pay71 (F := Ideal) v14 j = sig (v14 j) := by
  unfold k0_pay71 k0_pay70
  simp only [shapeCast_self]
  show Ideal.div (Ideal.ofBits .f32 0x3F800000#32) (Ideal.ofBits .f32 0x3F800000#32 + Ideal.exp (Ideal.ofBits .f32 0x00000000#32 - v14 j)) = _
  rw [ofBits_one, ofBits_zero, zero_sub]
  rfl

/-- The gradient at the gate and at the up projection, first chunk. -/
theorem pay17_apply (v3 : Vec Ideal S8x128 .f32) (v5 : Elt Ideal .f32) (v9 : Vec Ideal S1024x8192 .fp8e5m2) (v10 : Vec Ideal S256x8192 .fp8e4m3)
    (v14 v17 : Vec Ideal S1024x256 .bf16) (a : Fin 1024) (b : Fin 256) :
    k0_pay17 (F := Ideal) v3 v5 v9 v10 v14 v17 (ix2 a b)
      = dgOf ((∑ k : Fin 8192, v9 (ix2 a k) * v10 (ix2 b k)) * (v3 (ix2 0 0) * v5)) (v14 (ix2 a b)) (v17 (ix2 a b)) := by
  rw [← pay14_apply]
  unfold k0_pay17 k0_pay15
  simp only [shapeCast_self]
  show k0_pay14 v3 v5 v9 v10 (ix2 a b) * v17 (ix2 a b) * k0_pay16 (F := Ideal) v14 (ix2 a b)
    * (Ideal.ofBits .f32 0x3F800000#32 + v14 (ix2 a b) * (Ideal.ofBits .f32 0x3F800000#32 - k0_pay16 (F := Ideal) v14 (ix2 a b))) = _
  rw [ofBits_one, pay16_apply]
  rfl
theorem pay18_apply (v3 : Vec Ideal S8x128 .f32) (v5 : Elt Ideal .f32) (v9 : Vec Ideal S1024x8192 .fp8e5m2) (v10 : Vec Ideal S256x8192 .fp8e4m3)
    (v14 : Vec Ideal S1024x256 .bf16) (a : Fin 1024) (b : Fin 256) :
    k0_pay18 (F := Ideal) v3 v5 v9 v10 v14 (ix2 a b)
      = duOf ((∑ k : Fin 8192, v9 (ix2 a k) * v10 (ix2 b k)) * (v3 (ix2 0 0) * v5)) (v14 (ix2 a b)) := by
  rw [← pay14_apply]
  unfold k0_pay18 k0_pay15
  simp only [shapeCast_self]
  show k0_pay14 v3 v5 v9 v10 (ix2 a b) * v14 (ix2 a b) * k0_pay16 (F := Ideal) v14 (ix2 a b) = _
  rw [pay16_apply]
  rfl

/-- The same, second chunk. -/
theorem pay41_apply (v3 : Vec Ideal S8x128 .f32) (v5 : Elt Ideal .f32) (v9 : Vec Ideal S1024x8192 .fp8e5m2) (v10 : Vec Ideal S256x8192 .fp8e4m3)
    (v14 v17 : Vec Ideal S1024x256 .bf16) (a : Fin 1024) (b : Fin 256) :
    k0_pay41 (F := Ideal) (k0_pay37 (k0_pay13 v3 v5) v9 v10) (k0_pay38 v14) v17 (ix2 a b)
      = dgOf ((∑ k : Fin 8192, v9 (ix2 a k) * v10 (ix2 b k)) * (v3 (ix2 0 0) * v5)) (v14 (ix2 a b)) (v17 (ix2 a b)) := by
  rw [← pay37_apply]
  unfold k0_pay41 k0_pay39 k0_pay38
  simp only [shapeCast_self]
  show k0_pay37 (k0_pay13 v3 v5) v9 v10 (ix2 a b) * v17 (ix2 a b) * k0_pay40 (F := Ideal) v14 (ix2 a b)
    * (Ideal.ofBits .f32 0x3F800000#32 + v14 (ix2 a b) * (Ideal.ofBits .f32 0x3F800000#32 - k0_pay40 (F := Ideal) v14 (ix2 a b))) = _
  rw [ofBits_one, pay40_apply]
  rfl
theorem pay42_apply (v3 : Vec Ideal S8x128 .f32) (v5 : Elt Ideal .f32) (v9 : Vec Ideal S1024x8192 .fp8e5m2) (v10 : Vec Ideal S256x8192 .fp8e4m3)
    (v14 : Vec Ideal S1024x256 .bf16) (a : Fin 1024) (b : Fin 256) :
    k0_pay42 (F := Ideal) (k0_pay37 (k0_pay13 v3 v5) v9 v10) (k0_pay38 v14) (ix2 a b)
      = duOf ((∑ k : Fin 8192, v9 (ix2 a k) * v10 (ix2 b k)) * (v3 (ix2 0 0) * v5)) (v14 (ix2 a b)) := by
  rw [← pay37_apply]
  unfold k0_pay42 k0_pay39 k0_pay38
  simp only [shapeCast_self]
  show k0_pay37 (k0_pay13 v3 v5) v9 v10 (ix2 a b) * v14 (ix2 a b) * k0_pay40 (F := Ideal) v14 (ix2 a b) = _
  rw [pay40_apply]
  rfl

/-- The same, third chunk. -/
theorem pay72_apply (v3 : Vec Ideal S8x128 .f32) (v5 : Elt Ideal .f32) (v9 : Vec Ideal S1024x8192 .fp8e5m2) (v10 : Vec Ideal S256x8192 .fp8e4m3)
    (v14 v17 : Vec Ideal S1024x256 .bf16) (a : Fin 1024) (b : Fin 256) :
    k0_pay72 (F := Ideal) (k0_pay13 v3 v5) v9 v10 v14 v17 (ix2 a b)
      = dgOf ((∑ k : Fin 8192, v9 (ix2 a k) * v10 (ix2 b k)) * (v3 (ix2 0 0) * v5)) (v14 (ix2 a b)) (v17 (ix2 a b)) := by
  rw [← pay69_apply]
  unfold k0_pay72 k0_pay70
  simp only [shapeCast_self]
  show k0_pay69 (k0_pay13 v3 v5) v9 v10 (ix2 a b) * v17 (ix2 a b) * k0_pay71 (F := Ideal) v14 (ix2 a b)
    * (Ideal.ofBits .f32 0x3F800000#32 + v14 (ix2 a b) * (Ideal.ofBits .f32 0x3F800000#32 - k0_pay71 (F := Ideal) v14 (ix2 a b))) = _
  rw [ofBits_one, pay71_apply]
  rfl
theorem pay73_apply (v3 : Vec Ideal S8x128 .f32) (v5 : Elt Ideal .f32) (v9 : Vec Ideal S1024x8192 .fp8e5m2) (v10 : Vec Ideal S256x8192 .fp8e4m3)
    (v14 : Vec Ideal S1024x256 .bf16) (a : Fin 1024) (b : Fin 256) :
    k0_pay73 (F := Ideal) (k0_pay13 v3 v5) v9 v10 v14 (ix2 a b)
      = duOf ((∑ k : Fin 8192, v9 (ix2 a k) * v10 (ix2 b k)) * (v3 (ix2 0 0) * v5)) (v14 (ix2 a b)) := by
  rw [← pay69_apply]
  unfold k0_pay73 k0_pay70
  simp only [shapeCast_self]
  show k0_pay69 (k0_pay13 v3 v5) v9 v10 (ix2 a b) * v14 (ix2 a b) * k0_pay71 (F := Ideal) v14 (ix2 a b) = _
  rw [pay71_apply]
  rfl

/-- Rounding to odd leaves a value its nearest one equals: each of the six roundings, whatever the odd neighbour is. -/
theorem round26 (v n : FVec Ideal S1024x256 .f32) (x y) (j : S1024x256.Idx) (h : n j = v j) : k0_pay26 (F := Ideal) v n x y j = v j := by
  unfold k0_pay26
  exact select_nearest _ _ _ h
theorem round36 (v n : FVec Ideal S1024x256 .f32) (x y z w) (j : S1024x256.Idx) (h : n j = v j) : k0_pay36 (F := Ideal) v n x y z w j = v j := by
  unfold k0_pay36
  exact select_nearest _ _ _ h
theorem round57 (v n : FVec Ideal S1024x256 .f32) (x y z) (j : S1024x256.Idx) (h : n j = v j) : k0_pay57 (F := Ideal) v n x y z j = v j := by
  unfold k0_pay57
  exact select_nearest _ _ _ h
theorem round68 (v n : FVec Ideal S1024x256 .f32) (x y) (j : S1024x256.Idx) (h : n j = v j) : k0_pay68 (F := Ideal) v n x y j = v j := by
  unfold k0_pay68
  exact select_nearest _ _ _ h
theorem round82 (v n : FVec Ideal S1024x256 .f32) (x y) (j : S1024x256.Idx) (h : n j = v j) : k0_pay82 (F := Ideal) v n x y j = v j := by
  unfold k0_pay82
  exact select_nearest _ _ _ h
theorem round92 (v n : FVec Ideal S1024x256 .f32) (x y z w) (j : S1024x256.Idx) (h : n j = v j) : k0_pay92 (F := Ideal) v n x y z w j = v j := by
  unfold k0_pay92
  exact select_nearest _ _ _ h

end Cert.Proof.Dh

end
-- ==== Proof.DhOut.lean ====
/-
  What each point of the kernel's grid leaves in its blocks of the two gradients, over the extended reals: the formula
  of the point's blocks. The three stores of a block are three pieces of one function.
-/
module

public import proofs.«01_k».proof.Proof.Gen.DhIdeal.Frame
public import proofs.«01_k».proof.Proof.DhPay

@[expose] public section

set_option maxRecDepth 16384

noncomputable section

namespace Cert.Proof.Dh

open Cert.DhIdeal Cert.DhIdeal.Gen Idealize.ShloMosaic Idealize.ShloMosaic.TcCoe Idealize.SL.Sem
open Idealize.ShloMosaic.ValueIdx
open Cert.Proof.Common
open scoped BigOperators

/-- The gradient of the activation at an index of a block. -/
def daBlock (x0 : Vec Ideal S1 .f32) (x1 : Vec Ideal S3072x8192 .fp8e5m2) (x2 : Vec Ideal S256x8192 .fp8e4m3) (x5 : Vec Ideal S8x128 .f32)
    (p : Fin 3072) (q : Fin 256) : EReal :=
  (∑ k : Fin 8192, (x1 (ix2 p k) : EReal) * x2 (ix2 q k)) * (x5 (ix2 0 0) * x0 (ix1 0))
/-- The gradient at the gate, a block. -/
def dgBlock (x0 : Vec Ideal S1 .f32) (x1 : Vec Ideal S3072x8192 .fp8e5m2) (x2 : Vec Ideal S256x8192 .fp8e4m3) (x3 x4 : Vec Ideal S3072x256 .bf16)
    (x5 : Vec Ideal S8x128 .f32) : Vec Ideal S3072x256 .bf16 :=
  fun j => dgOf (daBlock x0 x1 x2 x5 (j 0) (j 1)) (x3 j) (x4 j)
/-- The gradient at the up projection, a block. -/
def duBlock (x0 : Vec Ideal S1 .f32) (x1 : Vec Ideal S3072x8192 .fp8e5m2) (x2 : Vec Ideal S256x8192 .fp8e4m3) (x3 : Vec Ideal S3072x256 .bf16)
    (x5 : Vec Ideal S8x128 .f32) : Vec Ideal S3072x256 .bf16 :=
  fun j => duOf (daBlock x0 x1 x2 x5 (j 0) (j 1)) (x3 j)

/-- A chunk of the rows of the codes, read at an index. -/
theorem rows1 (x1 : Vec Ideal S3072x8192 .fp8e5m2) (o : ℕ) (h) (a : Fin 1024) (k : Fin 8192) (p : Fin 3072) (hp : p.val = o + 1 * a.val) :
    (View.ld x1 (Rect.unit ![o, 0] ![1024, 8192] h) : Vec Ideal S1024x8192 .fp8e5m2) (ix2 a k) = x1 (ix2 p k) := by
  show x1 _ = x1 _
  congr 1
  funext d
  apply Fin.ext
  match d with
  | ⟨0, _⟩ => exact hp.symm
  | ⟨1, _⟩ => show 0 + 1 * k.val = k.val; omega
/-- The rows of the weights, read at an index. -/
theorem rows2 (x2 : Vec Ideal S256x8192 .fp8e4m3) (h) (b : Fin 256) (k : Fin 8192) (q : Fin 256) (hq : q.val = 0 + 1 * b.val) :
    (View.ld x2 (Rect.unit ![0, 0] ![256, 8192] h) : Vec Ideal S256x8192 .fp8e4m3) (ix2 b k) = x2 (ix2 q k) := by
  show x2 _ = x2 _
  congr 1
  funext d
  apply Fin.ext
  match d with
  | ⟨0, _⟩ => exact hq.symm
  | ⟨1, _⟩ => show 0 + 1 * k.val = k.val; omega
/-- The corner of the scale's tile. -/
theorem corner5 (x5 : Vec Ideal S8x128 .f32) (h) : (View.ld x5 (Rect.unit ![0, 0] ![8, 128] h) : Vec Ideal S8x128 .f32) (ix2 0 0) = x5 (ix2 0 0) := by
  show x5 _ = x5 _
  congr 1
  funext d
  match d with
  | ⟨0, _⟩ => rfl
  | ⟨1, _⟩ => rfl
/-- The one weight scale. -/
theorem corner0 (x0 : Vec Ideal S1 .f32) (h) (i) : (View.ld x0 (Rect.unit ![0] ![1] h) : Vec Ideal S1 .f32) i = x0 (ix1 0) :=
  congrArg x0 (idx1_eq _ _)

section Chunk

variable (x0 : Vec Ideal S1 .f32) (x1 : Vec Ideal S3072x8192 .fp8e5m2) (x2 : Vec Ideal S256x8192 .fp8e4m3)
  (x3 : Vec Ideal S3072x256 .bf16) (x4 : Vec Ideal S3072x256 .bf16) (x5 : Vec Ideal S8x128 .f32)

/-- The gradient of the activation a chunk computes is the block's at the chunk's rows. -/
theorem chunkDa (o : ℕ) (h0 h1 h2 h5) (i) (a : Fin 1024) (b : Fin 256) (p : Fin 3072) (hp : p.val = o + 1 * a.val)
    (q : Fin 256) (hq : q.val = 0 + 1 * b.val) :
    (∑ k : Fin 8192, (View.ld x1 (Rect.unit ![o, 0] ![1024, 8192] h1) : Vec Ideal S1024x8192 .fp8e5m2) (ix2 a k)
        * (View.ld x2 (Rect.unit ![0, 0] ![256, 8192] h2) : Vec Ideal S256x8192 .fp8e4m3) (ix2 b k) : EReal)
      * ((View.ld x5 (Rect.unit ![0, 0] ![8, 128] h5) : Vec Ideal S8x128 .f32) (ix2 0 0)
        * (View.ld x0 (Rect.unit ![0] ![1] h0) : Vec Ideal S1 .f32) i)
      = daBlock x0 x1 x2 x5 p q := by
  unfold daBlock
  rw [corner5, corner0]
  refine congrArg (· * _) (Finset.sum_congr rfl fun k _ => ?_)
  rw [rows1 x1 o h1 a k p hp, rows2 x2 h2 b k q hq]

/-- The gradient at the gate a chunk computes is the block's at the chunk's place. -/
theorem chunkDg (o : ℕ) (h0 h1 h2 h3 h5) (i) (a : Fin 1024) (b : Fin 256) :
    dgOf ((∑ k : Fin 8192, (View.ld x1 (Rect.unit ![o, 0] ![1024, 8192] h1) : Vec Ideal S1024x8192 .fp8e5m2) (ix2 a k)
        * (View.ld x2 (Rect.unit ![0, 0] ![256, 8192] h2) : Vec Ideal S256x8192 .fp8e4m3) (ix2 b k))
      * ((View.ld x5 (Rect.unit ![0, 0] ![8, 128] h5) : Vec Ideal S8x128 .f32) (ix2 0 0)
        * (View.ld x0 (Rect.unit ![0] ![1] h0) : Vec Ideal S1 .f32) i))
      ((View.ld x3 (Rect.unit ![o, 0] ![1024, 256] h3) : Vec Ideal S1024x256 .bf16) (ix2 a b))
      ((View.ld x4 (Rect.unit ![o, 0] ![1024, 256] h3) : Vec Ideal S1024x256 .bf16) (ix2 a b))
      = dgBlock x0 x1 x2 x3 x4 x5 ((Rect.unit ![o, 0] ![1024, 256] h3 : Rect S3072x256).emb (ix2 a b)) :=
  congrArg (fun z => dgOf z _ _) (chunkDa x0 x1 x2 x5 o h0 h1 h2 h5 i a b _ rfl _ rfl)

/-- The gradient at the up projection a chunk computes is the block's at the chunk's place. -/
theorem chunkDu (o : ℕ) (h0 h1 h2 h3 h5) (i) (a : Fin 1024) (b : Fin 256) :
    duOf ((∑ k : Fin 8192, (View.ld x1 (Rect.unit ![o, 0] ![1024, 8192] h1) : Vec Ideal S1024x8192 .fp8e5m2) (ix2 a k)
        * (View.ld x2 (Rect.unit ![0, 0] ![256, 8192] h2) : Vec Ideal S256x8192 .fp8e4m3) (ix2 b k))
      * ((View.ld x5 (Rect.unit ![0, 0] ![8, 128] h5) : Vec Ideal S8x128 .f32) (ix2 0 0)
        * (View.ld x0 (Rect.unit ![0] ![1] h0) : Vec Ideal S1 .f32) i))
      ((View.ld x3 (Rect.unit ![o, 0] ![1024, 256] h3) : Vec Ideal S1024x256 .bf16) (ix2 a b))
      = duBlock x0 x1 x2 x3 x5 ((Rect.unit ![o, 0] ![1024, 256] h3 : Rect S3072x256).emb (ix2 a b)) :=
  congrArg (fun z => duOf z _) (chunkDa x0 x1 x2 x5 o h0 h1 h2 h5 i a b _ rfl _ rfl)

/-- Case A: the block of the gradient at the gate. -/
theorem out6_A (c : Dev nD) (i : grid0.Coords) (a0 g0 a1 g1 a2 g2 a3 g3 a4 g4 a5 g5 a6 g6 a7 g7 a8 g8 a9 g9 a10 g10) (hc hd) :
    out0_A_6 (F := Ideal) c i a0 g0 a1 g1 a2 g2 a3 g3 a4 g4 a5 g5 a6 g6 a7 g7 a8 g8 a9 g9 a10 g10 hc hd x0 x1 x2 x3 x4 x5 = dgBlock x0 x1 x2 x3 x4 x5 := by
  unfold out0_A_6
  rw [View.read_writes_eq_canon _ _ _ (cover0_A_6 c i a0 g0 a1 g1 a2 g2 a3 g3 a4 g4 a5 g5 a6 g6 a7 g7 a8 g8 a9 g9 a10 g10 hc hd x0 x1 x2 x3 x4 x5)]
  refine funext fun y => View.canon_apply_of_pieces (dgBlock x0 x1 x2 x3 x4 x5) _ ?_ y (cover0_A_6 c i a0 g0 a1 g1 a2 g2 a3 g3 a4 g4 a5 g5 a6 g6 a7 g7 a8 g8 a9 g9 a10 g10 hc hd x0 x1 x2 x3 x4 x5 y)
  unfold kernelRun0_A
  dsimp only
  sl_unfold_words
  simp only [View.readAt_eq_ld, g0.read_unread, g1.read_unread, g2.read_unread, g3.read_unread, g4.read_unread, g5.read_unread]
  intro p hp
  simp only [List.mem_cons, List.not_mem_nil, or_false] at hp
  rcases hp with rfl | rfl | rfl
  · intro x
    obtain ⟨a, b, rfl⟩ : ∃ (a : Fin 1024) (b : Fin 256), x = ix2 a b := ⟨x 0, x 1, eq_ix2 (x : S1024x256.Idx)⟩
    refine Eq.trans (round82 _ _ _ _ _ ?_) ?_
    · rfl
    · exact (pay72_apply _ _ _ _ _ _ a b).trans (chunkDg x0 x1 x2 x3 x4 x5 2048 _ _ _ _ _ _ a b)
  · intro x
    obtain ⟨a, b, rfl⟩ : ∃ (a : Fin 1024) (b : Fin 256), x = ix2 a b := ⟨x 0, x 1, eq_ix2 (x : S1024x256.Idx)⟩
    refine Eq.trans (round57 _ _ _ _ _ _ ?_) ?_
    · rfl
    · exact (pay41_apply _ _ _ _ _ _ a b).trans (chunkDg x0 x1 x2 x3 x4 x5 1024 _ _ _ _ _ _ a b)
  · intro x
    obtain ⟨a, b, rfl⟩ : ∃ (a : Fin 1024) (b : Fin 256), x = ix2 a b := ⟨x 0, x 1, eq_ix2 (x : S1024x256.Idx)⟩
    refine Eq.trans (round26 _ _ _ _ _ ?_) ?_
    · rfl
    · exact (pay17_apply _ _ _ _ _ _ a b).trans (chunkDg x0 x1 x2 x3 x4 x5 0 _ _ _ _ _ _ a b)

/-- Case A: the block of the gradient at the up projection. -/
theorem out7_A (c : Dev nD) (i : grid0.Coords) (a0 g0 a1 g1 a2 g2 a3 g3 a4 g4 a5 g5 a6 g6 a7 g7 a8 g8 a9 g9 a10 g10) (hc hd) :
    out0_A_7 (F := Ideal) c i a0 g0 a1 g1 a2 g2 a3 g3 a4 g4 a5 g5 a6 g6 a7 g7 a8 g8 a9 g9 a10 g10 hc hd x0 x1 x2 x3 x4 x5 = duBlock x0 x1 x2 x3 x5 := by
  unfold out0_A_7
  rw [View.read_writes_eq_canon _ _ _ (cover0_A_7 c i a0 g0 a1 g1 a2 g2 a3 g3 a4 g4 a5 g5 a6 g6 a7 g7 a8 g8 a9 g9 a10 g10 hc hd x0 x1 x2 x3 x4 x5)]
  refine funext fun y => View.canon_apply_of_pieces (duBlock x0 x1 x2 x3 x5) _ ?_ y (cover0_A_7 c i a0 g0 a1 g1 a2 g2 a3 g3 a4 g4 a5 g5 a6 g6 a7 g7 a8 g8 a9 g9 a10 g10 hc hd x0 x1 x2 x3 x4 x5 y)
  unfold kernelRun0_A
  dsimp only
  sl_unfold_words
  simp only [View.readAt_eq_ld, g0.read_unread, g1.read_unread, g2.read_unread, g3.read_unread, g4.read_unread, g5.read_unread]
  intro p hp
  simp only [List.mem_cons, List.not_mem_nil, or_false] at hp
  rcases hp with rfl | rfl | rfl
  · intro x
    obtain ⟨a, b, rfl⟩ : ∃ (a : Fin 1024) (b : Fin 256), x = ix2 a b := ⟨x 0, x 1, eq_ix2 (x : S1024x256.Idx)⟩
    refine Eq.trans (round92 _ _ _ _ _ _ _ ?_) ?_
    · rfl
    · exact (pay73_apply _ _ _ _ _ a b).trans (chunkDu x0 x1 x2 x3 x5 2048 _ _ _ _ _ _ a b)
  · intro x
    obtain ⟨a, b, rfl⟩ : ∃ (a : Fin 1024) (b : Fin 256), x = ix2 a b := ⟨x 0, x 1, eq_ix2 (x : S1024x256.Idx)⟩
    refine Eq.trans (round68 _ _ _ _ _ ?_) ?_
    · rfl
    · exact (pay42_apply _ _ _ _ _ a b).trans (chunkDu x0 x1 x2 x3 x5 1024 _ _ _ _ _ _ a b)
  · intro x
    obtain ⟨a, b, rfl⟩ : ∃ (a : Fin 1024) (b : Fin 256), x = ix2 a b := ⟨x 0, x 1, eq_ix2 (x : S1024x256.Idx)⟩
    refine Eq.trans (round36 _ _ _ _ _ _ _ ?_) ?_
    · rfl
    · exact (pay18_apply _ _ _ _ _ a b).trans (chunkDu x0 x1 x2 x3 x5 0 _ _ _ _ _ _ a b)

/-- Case B: the block of the gradient at the gate. -/
theorem out6_B (c : Dev nD) (i : grid0.Coords) (a0 g0 a1 g1 a2 g2 a3 g3 a4 g4 a5 g5 a6 g6 a7 g7 a8 g8 a9 g9 a10 g10) (hc hd) (xs : Vec Ideal S8x128 .f32) :
    out0_B_6 (F := Ideal) c i a0 g0 a1 g1 a2 g2 a3 g3 a4 g4 a5 g5 a6 g6 a7 g7 a8 g8 a9 g9 a10 g10 hc hd x0 x1 x2 x3 x4 x5 xs = dgBlock x0 x1 x2 x3 x4 x5 := by
  unfold out0_B_6
  rw [View.read_writes_eq_canon _ _ _ (cover0_B_6 c i a0 g0 a1 g1 a2 g2 a3 g3 a4 g4 a5 g5 a6 g6 a7 g7 a8 g8 a9 g9 a10 g10 hc hd x0 x1 x2 x3 x4 x5 xs)]
  refine funext fun y => View.canon_apply_of_pieces (dgBlock x0 x1 x2 x3 x4 x5) _ ?_ y (cover0_B_6 c i a0 g0 a1 g1 a2 g2 a3 g3 a4 g4 a5 g5 a6 g6 a7 g7 a8 g8 a9 g9 a10 g10 hc hd x0 x1 x2 x3 x4 x5 xs y)
  unfold kernelRun0_B
  dsimp only
  sl_unfold_words
  simp only [View.readAt_eq_ld, g0.read_unread, g1.read_unread, g2.read_unread, g3.read_unread, g4.read_unread, g5.read_unread]
  intro p hp
  simp only [List.mem_cons, List.not_mem_nil, or_false] at hp
  rcases hp with rfl | rfl | rfl
  · intro x
    obtain ⟨a, b, rfl⟩ : ∃ (a : Fin 1024) (b : Fin 256), x = ix2 a b := ⟨x 0, x 1, eq_ix2 (x : S1024x256.Idx)⟩
    refine Eq.trans (round82 _ _ _ _ _ ?_) ?_
    · rfl
    · exact (pay72_apply _ _ _ _ _ _ a b).trans (chunkDg x0 x1 x2 x3 x4 x5 2048 _ _ _ _ _ _ a b)
  · intro x
    obtain ⟨a, b, rfl⟩ : ∃ (a : Fin 1024) (b : Fin 256), x = ix2 a b := ⟨x 0, x 1, eq_ix2 (x : S1024x256.Idx)⟩
    refine Eq.trans (round57 _ _ _ _ _ _ ?_) ?_
    · rfl
    · exact (pay41_apply _ _ _ _ _ _ a b).trans (chunkDg x0 x1 x2 x3 x4 x5 1024 _ _ _ _ _ _ a b)
  · intro x
    obtain ⟨a, b, rfl⟩ : ∃ (a : Fin 1024) (b : Fin 256), x = ix2 a b := ⟨x 0, x 1, eq_ix2 (x : S1024x256.Idx)⟩
    refine Eq.trans (round26 _ _ _ _ _ ?_) ?_
    · rfl
    · exact (pay17_apply _ _ _ _ _ _ a b).trans (chunkDg x0 x1 x2 x3 x4 x5 0 _ _ _ _ _ _ a b)

/-- Case B: the block of the gradient at the up projection. -/
theorem out7_B (c : Dev nD) (i : grid0.Coords) (a0 g0 a1 g1 a2 g2 a3 g3 a4 g4 a5 g5 a6 g6 a7 g7 a8 g8 a9 g9 a10 g10) (hc hd) (xs : Vec Ideal S8x128 .f32) :
    out0_B_7 (F := Ideal) c i a0 g0 a1 g1 a2 g2 a3 g3 a4 g4 a5 g5 a6 g6 a7 g7 a8 g8 a9 g9 a10 g10 hc hd x0 x1 x2 x3 x4 x5 xs = duBlock x0 x1 x2 x3 x5 := by
  unfold out0_B_7
  rw [View.read_writes_eq_canon _ _ _ (cover0_B_7 c i a0 g0 a1 g1 a2 g2 a3 g3 a4 g4 a5 g5 a6 g6 a7 g7 a8 g8 a9 g9 a10 g10 hc hd x0 x1 x2 x3 x4 x5 xs)]
  refine funext fun y => View.canon_apply_of_pieces (duBlock x0 x1 x2 x3 x5) _ ?_ y (cover0_B_7 c i a0 g0 a1 g1 a2 g2 a3 g3 a4 g4 a5 g5 a6 g6 a7 g7 a8 g8 a9 g9 a10 g10 hc hd x0 x1 x2 x3 x4 x5 xs y)
  unfold kernelRun0_B
  dsimp only
  sl_unfold_words
  simp only [View.readAt_eq_ld, g0.read_unread, g1.read_unread, g2.read_unread, g3.read_unread, g4.read_unread, g5.read_unread]
  intro p hp
  simp only [List.mem_cons, List.not_mem_nil, or_false] at hp
  rcases hp with rfl | rfl | rfl
  · intro x
    obtain ⟨a, b, rfl⟩ : ∃ (a : Fin 1024) (b : Fin 256), x = ix2 a b := ⟨x 0, x 1, eq_ix2 (x : S1024x256.Idx)⟩
    refine Eq.trans (round92 _ _ _ _ _ _ _ ?_) ?_
    · rfl
    · exact (pay73_apply _ _ _ _ _ a b).trans (chunkDu x0 x1 x2 x3 x5 2048 _ _ _ _ _ _ a b)
  · intro x
    obtain ⟨a, b, rfl⟩ : ∃ (a : Fin 1024) (b : Fin 256), x = ix2 a b := ⟨x 0, x 1, eq_ix2 (x : S1024x256.Idx)⟩
    refine Eq.trans (round68 _ _ _ _ _ ?_) ?_
    · rfl
    · exact (pay42_apply _ _ _ _ _ a b).trans (chunkDu x0 x1 x2 x3 x5 1024 _ _ _ _ _ _ a b)
  · intro x
    obtain ⟨a, b, rfl⟩ : ∃ (a : Fin 1024) (b : Fin 256), x = ix2 a b := ⟨x 0, x 1, eq_ix2 (x : S1024x256.Idx)⟩
    refine Eq.trans (round36 _ _ _ _ _ _ _ ?_) ?_
    · rfl
    · exact (pay18_apply _ _ _ _ _ a b).trans (chunkDu x0 x1 x2 x3 x5 0 _ _ _ _ _ _ a b)

/-- Case C: the block of the gradient at the gate. -/
theorem out6_C (c : Dev nD) (i : grid0.Coords) (a0 g0 a1 g1 a2 g2 a3 g3 a4 g4 a5 g5 a6 g6 a7 g7 a8 g8 a9 g9 a10 g10) (hc hd) (xs : Vec Ideal S8x128 .f32) :
    out0_C_6 (F := Ideal) c i a0 g0 a1 g1 a2 g2 a3 g3 a4 g4 a5 g5 a6 g6 a7 g7 a8 g8 a9 g9 a10 g10 hc hd x0 x1 x2 x3 x4 x5 xs = dgBlock x0 x1 x2 x3 x4 x5 := by
  unfold out0_C_6
  rw [View.read_writes_eq_canon _ _ _ (cover0_C_6 c i a0 g0 a1 g1 a2 g2 a3 g3 a4 g4 a5 g5 a6 g6 a7 g7 a8 g8 a9 g9 a10 g10 hc hd x0 x1 x2 x3 x4 x5 xs)]
  refine funext fun y => View.canon_apply_of_pieces (dgBlock x0 x1 x2 x3 x4 x5) _ ?_ y (cover0_C_6 c i a0 g0 a1 g1 a2 g2 a3 g3 a4 g4 a5 g5 a6 g6 a7 g7 a8 g8 a9 g9 a10 g10 hc hd x0 x1 x2 x3 x4 x5 xs y)
  unfold kernelRun0_C
  dsimp only
  sl_unfold_words
  simp only [View.readAt_eq_ld, g0.read_unread, g1.read_unread, g2.read_unread, g3.read_unread, g4.read_unread, g5.read_unread]
  intro p hp
  simp only [List.mem_cons, List.not_mem_nil, or_false] at hp
  rcases hp with rfl | rfl | rfl
  · intro x
    obtain ⟨a, b, rfl⟩ : ∃ (a : Fin 1024) (b : Fin 256), x = ix2 a b := ⟨x 0, x 1, eq_ix2 (x : S1024x256.Idx)⟩
    refine Eq.trans (round82 _ _ _ _ _ ?_) ?_
    · rfl
    · exact (pay72_apply _ _ _ _ _ _ a b).trans (chunkDg x0 x1 x2 x3 x4 x5 2048 _ _ _ _ _ _ a b)
  · intro x
    obtain ⟨a, b, rfl⟩ : ∃ (a : Fin 1024) (b : Fin 256), x = ix2 a b := ⟨x 0, x 1, eq_ix2 (x : S1024x256.Idx)⟩
    refine Eq.trans (round57 _ _ _ _ _ _ ?_) ?_
    · rfl
    · exact (pay41_apply _ _ _ _ _ _ a b).trans (chunkDg x0 x1 x2 x3 x4 x5 1024 _ _ _ _ _ _ a b)
  · intro x
    obtain ⟨a, b, rfl⟩ : ∃ (a : Fin 1024) (b : Fin 256), x = ix2 a b := ⟨x 0, x 1, eq_ix2 (x : S1024x256.Idx)⟩
    refine Eq.trans (round26 _ _ _ _ _ ?_) ?_
    · rfl
    · exact (pay17_apply _ _ _ _ _ _ a b).trans (chunkDg x0 x1 x2 x3 x4 x5 0 _ _ _ _ _ _ a b)

/-- Case C: the block of the gradient at the up projection. -/
theorem out7_C (c : Dev nD) (i : grid0.Coords) (a0 g0 a1 g1 a2 g2 a3 g3 a4 g4 a5 g5 a6 g6 a7 g7 a8 g8 a9 g9 a10 g10) (hc hd) (xs : Vec Ideal S8x128 .f32) :
    out0_C_7 (F := Ideal) c i a0 g0 a1 g1 a2 g2 a3 g3 a4 g4 a5 g5 a6 g6 a7 g7 a8 g8 a9 g9 a10 g10 hc hd x0 x1 x2 x3 x4 x5 xs = duBlock x0 x1 x2 x3 x5 := by
  unfold out0_C_7
  rw [View.read_writes_eq_canon _ _ _ (cover0_C_7 c i a0 g0 a1 g1 a2 g2 a3 g3 a4 g4 a5 g5 a6 g6 a7 g7 a8 g8 a9 g9 a10 g10 hc hd x0 x1 x2 x3 x4 x5 xs)]
  refine funext fun y => View.canon_apply_of_pieces (duBlock x0 x1 x2 x3 x5) _ ?_ y (cover0_C_7 c i a0 g0 a1 g1 a2 g2 a3 g3 a4 g4 a5 g5 a6 g6 a7 g7 a8 g8 a9 g9 a10 g10 hc hd x0 x1 x2 x3 x4 x5 xs y)
  unfold kernelRun0_C
  dsimp only
  sl_unfold_words
  simp only [View.readAt_eq_ld, g0.read_unread, g1.read_unread, g2.read_unread, g3.read_unread, g4.read_unread, g5.read_unread]
  intro p hp
  simp only [List.mem_cons, List.not_mem_nil, or_false] at hp
  rcases hp with rfl | rfl | rfl
  · intro x
    obtain ⟨a, b, rfl⟩ : ∃ (a : Fin 1024) (b : Fin 256), x = ix2 a b := ⟨x 0, x 1, eq_ix2 (x : S1024x256.Idx)⟩
    refine Eq.trans (round92 _ _ _ _ _ _ _ ?_) ?_
    · rfl
    · exact (pay73_apply _ _ _ _ _ a b).trans (chunkDu x0 x1 x2 x3 x5 2048 _ _ _ _ _ _ a b)
  · intro x
    obtain ⟨a, b, rfl⟩ : ∃ (a : Fin 1024) (b : Fin 256), x = ix2 a b := ⟨x 0, x 1, eq_ix2 (x : S1024x256.Idx)⟩
    refine Eq.trans (round68 _ _ _ _ _ ?_) ?_
    · rfl
    · exact (pay42_apply _ _ _ _ _ a b).trans (chunkDu x0 x1 x2 x3 x5 1024 _ _ _ _ _ _ a b)
  · intro x
    obtain ⟨a, b, rfl⟩ : ∃ (a : Fin 1024) (b : Fin 256), x = ix2 a b := ⟨x 0, x 1, eq_ix2 (x : S1024x256.Idx)⟩
    refine Eq.trans (round36 _ _ _ _ _ _ _ ?_) ?_
    · rfl
    · exact (pay18_apply _ _ _ _ _ a b).trans (chunkDu x0 x1 x2 x3 x5 0 _ _ _ _ _ _ a b)

end Chunk

end Cert.Proof.Dh

end
-- ==== Proof.DhValue.lean ====
/-
  The kernel's arrays of the two gradients over the extended reals, at an index.
-/
module

public import proofs.«01_k».proof.Proof.Gen.DhIdeal.Value
public import proofs.«01_k».proof.Proof.DhOut

@[expose] public section

set_option maxRecDepth 16384

noncomputable section

namespace Cert.Proof.Dh

open Cert.DhIdeal Cert.DhIdeal.Gen Idealize.ShloMosaic Idealize.ShloMosaic.TcCoe Idealize.SL.Sem
open Idealize.ShloMosaic.ValueIdx
open Cert.Proof.Common
open scoped BigOperators

/-- The printed index maps of the windows, decided over the grid. -/
theorem idx0 : ∀ t : Fin cfg0.N, win0_0.index t (0 : Fin 1) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)
theorem idx4 : ∀ t : Fin cfg0.N, win0_4.index t (0 : Fin 2) = 0 ∧ win0_4.index t (1 : Fin 2) = 64 + t.val :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = t.val :=
  (by decide +kernel : ∀ t : Fin grid0.N, _)
theorem idx7 : ∀ t : Fin cfg0.N, win0_7.index t (0 : Fin 2) = 0 ∧ win0_7.index t (1 : Fin 2) = t.val :=
  (by decide +kernel : ∀ t : Fin grid0.N, _)
theorem flush0_6 : ∀ t : Fin cfg0.N, (cfg0.win 6).flush t = true :=
  (by decide +kernel : ∀ t : Fin grid0.N, _)
theorem flush0_7 : ∀ t : Fin cfg0.N, (cfg0.win 7).flush t = true :=
  (by decide +kernel : ∀ t : Fin grid0.N, _)

section Blocks

variable {F : FTy → Type} [FloatOps F]
variable (m : (ℓ : Loc nD τ sig) → Buf (Elt F) ℓ)

/-- The arrays the windows read: the weight scale as a one-element array, the codes of dy, the weight codes, the gate
    and the up projection side by side, the tile of the scale of dy. -/
abbrev sArr (c : Dev nD) : Vec F S1 .f32 := V m c main_v1
abbrev yArr (c : Dev nD) : Vec F S3072x8192 .fp8e5m2 := V m c main_arg0
abbrev wArr (c : Dev nD) : Vec F S16384x8192 .fp8e4m3 := V m c main_arg2
abbrev hArr (c : Dev nD) : Vec F S3072x32768 .bf16 := V m c main_v0
abbrev tArr (c : Dev nD) : Vec F S8x128 .f32 := V m c main_arg1

/-- The host's reshapes. -/
theorem hArr_eq (c : Dev nD) : hArr m c = shapeCast S3072x32768 (m ((c : Thread nD τ).loc main_arg4)) shapeCasts_S1x3072x32768_S3072x32768 := rfl
theorem sArr_eq (c : Dev nD) : sArr m c = shapeCast S1 (m ((c : Thread nD τ).loc main_arg3)) shapeCasts_S_S1 := rfl

/-- Every point's scale is the one scale. -/
theorem blk0 (c : Dev nD) (t : Fin cfg0.N) : (iblk m c 0 t : Vec F S1 .f32) (ix1 0) = sArr m c (ix1 0) := by
  unfold iblk
  rw [View.read_apply]
  show V m c main_v1 _ = V m c main_v1 _
  exact congrArg _ (idx1_eq _ _)

/-- Every point's codes of dy are the whole array. -/
theorem blk1 (c : Dev nD) (t : Fin cfg0.N) (p : Fin 3072) (k : Fin 8192) :
    (iblk m c 1 t : Vec F S3072x8192 .fp8e5m2) (ix2 p k) = yArr m c (ix2 p k) := by
  unfold iblk
  rw [View.read_apply]
  show V m c main_arg0 _ = V m c main_arg0 _
  congr 1
  funext d
  apply Fin.ext
  match d with
  | ⟨0, _⟩ => show win0_1.index t 0 * 3072 + 1 * p.val = p.val; rw [(idx1 t).1]; omega
  | ⟨1, _⟩ => show win0_1.index t 1 * 8192 + 1 * k.val = k.val; rw [(idx1 t).2]; omega

/-- Point `t`'s rows of the weight codes: from `256 t`. -/
theorem blk2 (c : Dev nD) (t : Fin cfg0.N) (b : Fin 256) (k : Fin 8192) (q : Fin 16384) (hq : q.val = 256 * t.val + b.val) :
    (iblk m c 2 t : Vec F S256x8192 .fp8e4m3) (ix2 b k) = wArr m c (ix2 q k) := by
  unfold iblk
  rw [View.read_apply]
  show V m c main_arg2 _ = V m c main_arg2 _
  congr 1
  funext d
  apply Fin.ext
  match d with
  | ⟨0, _⟩ => show win0_2.index t 0 * 256 + 1 * b.val = q.val; rw [(idx2 t).1]; omega
  | ⟨1, _⟩ => show win0_2.index t 1 * 8192 + 1 * k.val = k.val; rw [(idx2 t).2]; omega

/-- Point `t`'s columns of the gate: from `256 t`. -/
theorem blk3 (c : Dev nD) (t : Fin cfg0.N) (p : Fin 3072) (b : Fin 256) (q : Fin 16384) (hq : q.val = 256 * t.val + b.val) :
    (iblk m c 3 t : Vec F S3072x256 .bf16) (ix2 p b) = hArr m c (ix2 p (gateCol q)) := by
  unfold iblk
  rw [View.read_apply]
  show V m c main_v0 _ = V m c main_v0 _
  congr 1
  funext d
  apply Fin.ext
  match d with
  | ⟨0, _⟩ => show win0_3.index t 0 * 3072 + 1 * p.val = p.val; rw [(idx3 t).1]; omega
  | ⟨1, _⟩ => show win0_3.index t 1 * 256 + 1 * b.val = q.val; rw [(idx3 t).2]; omega

/-- Point `t`'s columns of the up projection: from `16384 + 256 t`. -/
theorem blk4 (c : Dev nD) (t : Fin cfg0.N) (p : Fin 3072) (b : Fin 256) (q : Fin 16384) (hq : q.val = 256 * t.val + b.val) :
    (iblk m c 4 t : Vec F S3072x256 .bf16) (ix2 p b) = hArr m c (ix2 p (upCol q)) := by
  unfold iblk
  rw [View.read_apply]
  show V m c main_v0 _ = V m c main_v0 _
  congr 1
  funext d
  apply Fin.ext
  match d with
  | ⟨0, _⟩ => show win0_4.index t 0 * 3072 + 1 * p.val = p.val; rw [(idx4 t).1]; omega
  | ⟨1, _⟩ => show win0_4.index t 1 * 256 + 1 * b.val = 16384 + q.val; rw [(idx4 t).2]; omega

/-- Every point's tile is the one tile. -/
theorem blk5 (c : Dev nD) (t : Fin cfg0.N) : (iblk m c 5 t : Vec F S8x128 .f32) (ix2 0 0) = tArr m c (ix2 0 0) := by
  unfold iblk
  rw [View.read_apply]
  show V m c main_arg1 _ = V m c main_arg1 _
  congr 1
  funext d
  apply Fin.ext
  match d with
  | ⟨0, _⟩ => show win0_5.index t 0 * 8 + 1 * 0 = 0; rw [(idx5 t).1]
  | ⟨1, _⟩ => show win0_5.index t 1 * 128 + 1 * 0 = 0; rw [(idx5 t).2]

end Blocks

variable (m : (ℓ : Loc nD τ sig) → Buf (Elt Ideal) ℓ)

/-- The block of the gradient at the gate, and at the up projection, of point `t`. -/
abbrev dgPoint (c : Dev nD) (t : Fin cfg0.N) : Vec Ideal S3072x256 .bf16 :=
  dgBlock (iblk m c 0 t) (iblk m c 1 t) (iblk m c 2 t) (iblk m c 3 t) (iblk m c 4 t) (iblk m c 5 t)
abbrev duPoint (c : Dev nD) (t : Fin cfg0.N) : Vec Ideal S3072x256 .bf16 :=
  duBlock (iblk m c 0 t) (iblk m c 1 t) (iblk m c 2 t) (iblk m c 3 t) (iblk m c 5 t)

/-- They are the formulas of the arrays, at the point's columns. -/
theorem daPoint_apply (c : Dev nD) (t : Fin cfg0.N) (p : Fin 3072) (b : Fin 256) (q : Fin 16384) (hq : q.val = 256 * t.val + b.val) :
    daBlock (iblk m c 0 t) (iblk m c 1 t) (iblk m c 2 t) (iblk m c 5 t) p b = daAt (yArr m c) (wArr m c) (tArr m c) (sArr m c) p q := by
  unfold daBlock daAt
  rw [blk0, blk5]
  refine congrArg (· * _) (Finset.sum_congr rfl fun k _ => ?_)
  exact congrArg₂ (· * ·) (blk1 m c t p k) (blk2 m c t b k q hq)
theorem dgPoint_apply (c : Dev nD) (t : Fin cfg0.N) (p : Fin 3072) (b : Fin 256) (q : Fin 16384) (hq : q.val = 256 * t.val + b.val) :
    dgPoint m c t (ix2 p b) = dgAt (yArr m c) (wArr m c) (tArr m c) (sArr m c) (hArr m c) p q := by
  show dgOf (daBlock (iblk m c 0 t) (iblk m c 1 t) (iblk m c 2 t) (iblk m c 5 t) p b) _ _ = _
  rw [daPoint_apply m c t p b q hq, blk3 m c t p b q hq, blk4 m c t p b q hq]
  rfl
theorem duPoint_apply (c : Dev nD) (t : Fin cfg0.N) (p : Fin 3072) (b : Fin 256) (q : Fin 16384) (hq : q.val = 256 * t.val + b.val) :
    duPoint m c t (ix2 p b) = duAt (yArr m c) (wArr m c) (tArr m c) (sArr m c) (hArr m c) p q := by
  show duOf (daBlock (iblk m c 0 t) (iblk m c 1 t) (iblk m c 2 t) (iblk m c 5 t) p b) _ = _
  rw [daPoint_apply m c t p b q hq, blk3 m c t p b q hq]
  rfl

/-- What every point leaves in its two blocks. -/
theorem outs6 (c : Dev nD) (t : Fin cfg0.N) : (outsAt0 m c t.val t.isLt).1 = dgPoint m c t := by
  by_cases h0 : t.val % 64 = 0
  · have h1 : ¬t.val % 64 = 63 := by omega
    simp only [outsAt0_A m c t h0 h1, out6_A]
  · by_cases h1 : t.val % 64 = 63
    · simp only [outsAt0_C m c t h0 h1, out6_C]
    · simp only [outsAt0_B m c t h0 h1, out6_B]
theorem outs7 (c : Dev nD) (t : Fin cfg0.N) : (outsAt0 m c t.val t.isLt).2.1 = duPoint m c t := by
  by_cases h0 : t.val % 64 = 0
  · have h1 : ¬t.val % 64 = 63 := by omega
    simp only [outsAt0_A m c t h0 h1, out7_A]
  · by_cases h1 : t.val % 64 = 63
    · simp only [outsAt0_C m c t h0 h1, out7_C]
    · simp only [outsAt0_B m c t h0 h1, out7_B]

set_option maxRecDepth 65536 in
/-- The final array of the gradient at the gate, at an index of point `t`'s block. -/
theorem at6 (c : Dev nD) (t : Fin cfg0.N) (p : Fin 3072) (b : Fin 256) (q : Fin 16384) (hq : q.val = 256 * t.val + b.val) :
    ((dats m 0 c).arrAt 6 cfg0.N : Vec Ideal S3072x16384 .bf16) (ix2 p q) = dgPoint m c t (ix2 p b) := by
  have h := Value.blocks6 m c t (flush0_6 t)
  rw [Value.flushed6, outs6] at h
  generalize dgPoint m c t = X at h ⊢
  have h' := congrFun h (ix2 p b)
  rw [View.read_apply] at h'
  refine Eq.trans (congrArg ((dats m 0 c).arrAt 6 cfg0.N) ?_) h'
  funext d
  apply Fin.ext
  match d with
  | ⟨0, _⟩ => show p.val = win0_6.index t 0 * 3072 + 1 * p.val; rw [(idx6 t).1]; omega
  | ⟨1, _⟩ => show q.val = win0_6.index t 1 * 256 + 1 * b.val; rw [(idx6 t).2]; omega

set_option maxRecDepth 65536 in
/-- The final array of the gradient at the up projection, at an index of point `t`'s block. -/
theorem at7 (c : Dev nD) (t : Fin cfg0.N) (p : Fin 3072) (b : Fin 256) (q : Fin 16384) (hq : q.val = 256 * t.val + b.val) :
    ((dats m 0 c).arrAt 7 cfg0.N : Vec Ideal S3072x16384 .bf16) (ix2 p q) = duPoint m c t (ix2 p b) := by
  have h := Value.blocks7 m c t (flush0_7 t)
  rw [Value.flushed7, outs7] at h
  generalize duPoint m c t = X at h ⊢
  have h' := congrFun h (ix2 p b)
  rw [View.read_apply] at h'
  refine Eq.trans (congrArg ((dats m 0 c).arrAt 7 cfg0.N) ?_) h'
  funext d
  apply Fin.ext
  match d with
  | ⟨0, _⟩ => show p.val = win0_7.index t 0 * 3072 + 1 * p.val; rw [(idx7 t).1]; omega
  | ⟨1, _⟩ => show q.val = win0_7.index t 1 * 256 + 1 * b.val; rw [(idx7 t).2]; omega

/-- The point whose block holds a column. -/
def ptOf (q : Fin 16384) : Fin cfg0.N :=
  ⟨q.val / 256, by rw [show cfg0.N = 64 from N_0]; have := q.isLt; omega⟩

/-- The two arrays at an index. -/
theorem final6_apply (c : Dev nD) (p : Fin 3072) (q : Fin 16384) :
    ((dats m 0 c).arrAt 6 cfg0.N : Vec Ideal S3072x16384 .bf16) (ix2 p q) = dgAt (yArr m c) (wArr m c) (tArr m c) (sArr m c) (hArr m c) p q := by
  have hb : q.val = 256 * (ptOf q).val + q.val % 256 := by show q.val = 256 * (q.val / 256) + q.val % 256; omega
  exact (at6 m c (ptOf q) p ⟨q.val % 256, Nat.mod_lt _ (by decide)⟩ q hb).trans (dgPoint_apply m c (ptOf q) p _ q hb)
theorem final7_apply (c : Dev nD) (p : Fin 3072) (q : Fin 16384) :
    ((dats m 0 c).arrAt 7 cfg0.N : Vec Ideal S3072x16384 .bf16) (ix2 p q) = duAt (yArr m c) (wArr m c) (tArr m c) (sArr m c) (hArr m c) p q := by
  have hb : q.val = 256 * (ptOf q).val + q.val % 256 := by show q.val = 256 * (q.val / 256) + q.val % 256; omega
  exact (at7 m c (ptOf q) p ⟨q.val % 256, Nat.mod_lt _ (by decide)⟩ q hb).trans (duPoint_apply m c (ptOf q) p _ q hb)

end Cert.Proof.Dh

end
-- ==== Proof.DhAmax.lean ====
/-
  The largest magnitude of the two gradients, as the kernel carries it from point to point: a tile of partial maxima that
  is at most a bound exactly when every gradient met so far is; and the scale written from it at the last point.
-/
module

public import proofs.«01_k».proof.Proof.DhValue
public import proofs.«01_k».proof.Proof.Scale

@[expose] public section

set_option maxRecDepth 16384

noncomputable section

namespace Cert.Proof.Dh

open Cert.DhIdeal Cert.DhIdeal.Gen Idealize.ShloMosaic Idealize.ShloMosaic.TcCoe Idealize.SL.Sem
open Idealize.ShloMosaic.ValueIdx
open Cert.Proof.Common
open scoped BigOperators

/-- Two magnitudes are at most a bound. -/
abbrev Both (a b M : EReal) : Prop := mag a ≤ M ∧ mag b ≤ M

/-- The larger of two magnitudes, everywhere. -/
theorem allLe_mags (v w : FVec Ideal S1024x256 .f32) (M : EReal) :
    AllLe (maximumf (absf v) (absf w)) M ↔ ∀ i, Both (v i) (w i) M :=
  (allLe_max _ _ M).trans ⟨fun H i => ⟨H.1 i, H.2 i⟩, fun H => ⟨fun i => (H i).1, fun i => (H i).2⟩⟩

/-- The tile of a chunk's maxima. -/
theorem pay19_le (xs : Vec Ideal S8x128 .f32) (v w : FVec Ideal S1024x256 .f32) (M : EReal) :
    AllLe (k0_pay19 (F := Ideal) xs v w) M ↔ AllLe xs M ∧ ∀ i, Both (v i) (w i) M := by
  unfold k0_pay19
  refine (allLe_max _ _ M).trans (and_congr Iff.rfl ?_)
  refine (allLe_halves _ _ _ M).trans ?_
  refine (maxReduce_le _ _ _ _ M).trans ?_
  exact (allLe_shapeCast _ _ M).trans (allLe_mags v w M)
theorem pay43_le (xs : FVec Ideal S8x128 .f32) (v300 : FVec Ideal S1024x256 .f32) (v302 : FVec Ideal S1024x256 .bf16) (v304 : Vec Ideal S1024x256 .bf16) (M : EReal) :
    AllLe (k0_pay43 (F := Ideal) xs v300 v302 v304) M
      ↔ AllLe xs M ∧ ∀ i, Both (k0_pay41 (F := Ideal) v300 v302 v304 i) (k0_pay42 (F := Ideal) v300 v302 i) M := by
  unfold k0_pay43
  refine (allLe_max _ _ M).trans (and_congr Iff.rfl ?_)
  refine (allLe_halves _ _ _ M).trans ?_
  refine (maxReduce_le _ _ _ _ M).trans ?_
  exact (allLe_shapeCast _ _ M).trans (allLe_mags _ _ M)
theorem pay75_le (xs : FVec Ideal S8x128 .f32) (v7 : FVec Ideal S1x1 .f32) (v583 : Vec Ideal S1024x8192 .fp8e5m2) (v584 : Vec Ideal S256x8192 .fp8e4m3)
    (v588 v591 : Vec Ideal S1024x256 .bf16) (M : EReal) :
    AllLe (k0_pay1 (k0_pay75 (F := Ideal) xs (k0_pay74 v7 v583 v584 v588 v591))) M
      ↔ AllLe xs M ∧ ∀ i, Both (k0_pay72 (F := Ideal) v7 v583 v584 v588 v591 i) (k0_pay73 (F := Ideal) v7 v583 v584 v588 i) M := by
  unfold k0_pay1 k0_pay75 k0_pay74
  refine (allLe_shapeCast _ _ M).trans ?_
  refine (allLe_max _ _ M).trans (and_congr Iff.rfl ?_)
  refine (allLe_halves _ _ _ M).trans ?_
  refine (maxReduce_le _ _ _ _ M).trans ?_
  exact (allLe_shapeCast _ _ M).trans (allLe_mags _ _ M)

/-- The three chunks of rows are all the rows. -/
theorem chunks_iff (P : S3072x256.Idx → Prop) (h0 h1 h2) :
    (∀ j, P j) ↔ ((∀ x : S1024x256.Idx, P ((Rect.unit ![0, 0] ![1024, 256] h0 : Rect S3072x256).emb x))
      ∧ (∀ x : S1024x256.Idx, P ((Rect.unit ![1024, 0] ![1024, 256] h1 : Rect S3072x256).emb x)))
      ∧ (∀ x : S1024x256.Idx, P ((Rect.unit ![2048, 0] ![1024, 256] h2 : Rect S3072x256).emb x)) := by
  refine ⟨fun H => ⟨⟨fun _ => H _, fun _ => H _⟩, fun _ => H _⟩, fun H j => ?_⟩
  have hr : (j 0).val < 3072 := (j 0).isLt
  have hc : (j 1).val < 256 := (j 1).isLt
  have key : ∀ (o : ℕ) (h) (hlo : o ≤ (j 0).val) (hhi : (j 0).val < o + 1024),
      ((Rect.unit ![o, 0] ![1024, 256] h : Rect S3072x256).emb (ix2 (⟨(j 0).val - o, by omega⟩ : Fin 1024) (⟨(j 1).val, hc⟩ : Fin 256))) = j := by
    intro o h hlo hhi
    funext d
    apply Fin.ext
    match d with
    | ⟨0, _⟩ => show o + 1 * ((j 0).val - o) = (j 0).val; omega
    | ⟨1, _⟩ => show 0 + 1 * (j 1).val = (j 1).val; omega
  rcases Nat.lt_or_ge (j 0).val 1024 with h | h
  · rw [← key 0 h0 (by omega) (by omega)]; exact H.1.1 _
  rcases Nat.lt_or_ge (j 0).val 2048 with h' | h'
  · rw [← key 1024 h1 (by omega) (by omega)]; exact H.1.2 _
  · rw [← key 2048 h2 (by omega) (by omega)]; exact H.2 _

section Chunk

variable (x0 : Vec Ideal S1 .f32) (x1 : Vec Ideal S3072x8192 .fp8e5m2) (x2 : Vec Ideal S256x8192 .fp8e4m3)
  (x3 : Vec Ideal S3072x256 .bf16) (x4 : Vec Ideal S3072x256 .bf16) (x5 : Vec Ideal S8x128 .f32)

/-- The gradients of a block are at most a bound. -/
def blockLe (M : EReal) : Prop := ∀ j, Both (dgBlock x0 x1 x2 x3 x4 x5 j) (duBlock x0 x1 x2 x3 x5 j) M

/-- The tile after the three chunks of a point. -/
theorem chunks_le (xs : Vec Ideal S8x128 .f32) (h0 hA hB hC h2 hA' hB' hC' h5) (i) (M : EReal) :
    AllLe (k0_pay1 (k0_pay75 (F := Ideal)
        (k0_pay43
          (k0_pay19 xs
            (k0_pay17 (View.ld x5 (Rect.unit ![0, 0] ![8, 128] h5)) ((View.ld x0 (Rect.unit ![0] ![1] h0) : Vec Ideal S1 .f32) i) (View.ld x1 (Rect.unit ![0, 0] ![1024, 8192] hA)) (View.ld x2 (Rect.unit ![0, 0] ![256, 8192] h2)) (View.ld x3 (Rect.unit ![0, 0] ![1024, 256] hA')) (View.ld x4 (Rect.unit ![0, 0] ![1024, 256] hA')))
            (k0_pay18 (View.ld x5 (Rect.unit ![0, 0] ![8, 128] h5)) ((View.ld x0 (Rect.unit ![0] ![1] h0) : Vec Ideal S1 .f32) i) (View.ld x1 (Rect.unit ![0, 0] ![1024, 8192] hA)) (View.ld x2 (Rect.unit ![0, 0] ![256, 8192] h2)) (View.ld x3 (Rect.unit ![0, 0] ![1024, 256] hA'))))
          (k0_pay37 (k0_pay13 (View.ld x5 (Rect.unit ![0, 0] ![8, 128] h5)) ((View.ld x0 (Rect.unit ![0] ![1] h0) : Vec Ideal S1 .f32) i)) (View.ld x1 (Rect.unit ![1024, 0] ![1024, 8192] hB)) (View.ld x2 (Rect.unit ![0, 0] ![256, 8192] h2)))
          (k0_pay38 (View.ld x3 (Rect.unit ![1024, 0] ![1024, 256] hB')))
          (View.ld x4 (Rect.unit ![1024, 0] ![1024, 256] hB')))
        (k0_pay74 (k0_pay13 (View.ld x5 (Rect.unit ![0, 0] ![8, 128] h5)) ((View.ld x0 (Rect.unit ![0] ![1] h0) : Vec Ideal S1 .f32) i)) (View.ld x1 (Rect.unit ![2048, 0] ![1024, 8192] hC)) (View.ld x2 (Rect.unit ![0, 0] ![256, 8192] h2)) (View.ld x3 (Rect.unit ![2048, 0] ![1024, 256] hC')) (View.ld x4 (Rect.unit ![2048, 0] ![1024, 256] hC'))))) M
      ↔ AllLe xs M ∧ blockLe x0 x1 x2 x3 x4 x5 M := by
  refine (pay75_le _ _ _ _ _ _ M).trans ?_
  unfold blockLe
  rw [chunks_iff (fun j => Both (dgBlock x0 x1 x2 x3 x4 x5 j) (duBlock x0 x1 x2 x3 x5 j) M) hA' hB' hC', ← and_assoc, ← and_assoc]
  refine and_congr ((pay43_le _ _ _ _ M).trans (and_congr ((pay19_le _ _ _ M).trans (and_congr Iff.rfl ?_)) ?_)) ?_
  · refine forall_congr' fun x => ?_
    obtain ⟨a, b, rfl⟩ : ∃ (a : Fin 1024) (b : Fin 256), x = ix2 a b := ⟨x 0, x 1, eq_ix2 (x : S1024x256.Idx)⟩
    rw [pay17_apply, pay18_apply, chunkDg x0 x1 x2 x3 x4 x5 0, chunkDu x0 x1 x2 x3 x5 0]
  · refine forall_congr' fun x => ?_
    obtain ⟨a, b, rfl⟩ : ∃ (a : Fin 1024) (b : Fin 256), x = ix2 a b := ⟨x 0, x 1, eq_ix2 (x : S1024x256.Idx)⟩
    rw [pay41_apply, pay42_apply, chunkDg x0 x1 x2 x3 x4 x5 1024, chunkDu x0 x1 x2 x3 x5 1024]
  · refine forall_congr' fun x => ?_
    obtain ⟨a, b, rfl⟩ : ∃ (a : Fin 1024) (b : Fin 256), x = ix2 a b := ⟨x 0, x 1, eq_ix2 (x : S1024x256.Idx)⟩
    rw [pay72_apply, pay73_apply, chunkDg x0 x1 x2 x3 x4 x5 2048, chunkDu x0 x1 x2 x3 x5 2048]

/-- The tile of zeros. -/
theorem zeros_le (M : EReal) : AllLe (k0_pay12 (F := Ideal)) M ↔ 0 ≤ M := by
  have e : ∀ i, k0_pay12 (F := Ideal) i = (0 : EReal) := fun i => ofBits_zero
  unfold AllLe
  simp only [e]
  exact ⟨fun H => H (ix2 0 0), fun H _ => H⟩

/-- The first point starts from zeros, -/
theorem soutA_le (c : Dev nD) (i : grid0.Coords) (a0 g0 a1 g1 a2 g2 a3 g3 a4 g4 a5 g5 a6 g6 a7 g7 a8 g8 a9 g9 a10 g10) (hc hd) (M : EReal) :
    AllLe (sout0_A_0 (F := Ideal) c i a0 g0 a1 g1 a2 g2 a3 g3 a4 g4 a5 g5 a6 g6 a7 g7 a8 g8 a9 g9 a10 g10 hc hd x0 x1 x2 x3 x4 x5) M
      ↔ 0 ≤ M ∧ blockLe x0 x1 x2 x3 x4 x5 M := by
  unfold sout0_A_0
  rw [View.read_writes_eq_canon _ _ _ (scover0_A_0 c i a0 g0 a1 g1 a2 g2 a3 g3 a4 g4 a5 g5 a6 g6 a7 g7 a8 g8 a9 g9 a10 g10 hc hd x0 x1 x2 x3 x4 x5)]
  unfold kernelRun0_A
  dsimp only
  sl_unfold_words
  rw [View.canon_cons_unit_zero (S := S8x128) hz2, View.readCov_unit_zero (S := S8x128) _ hz2]
  simp only [View.readAt_eq_ld, g0.read_unread, g1.read_unread, g2.read_unread, g3.read_unread, g4.read_unread, g5.read_unread]
  rw [← zeros_le]
  exact chunks_le ..
/-- every other from what the point before left. -/
theorem soutB_le (c : Dev nD) (i : grid0.Coords) (a0 g0 a1 g1 a2 g2 a3 g3 a4 g4 a5 g5 a6 g6 a7 g7 a8 g8 a9 g9 a10 g10) (hc hd) (xs : Vec Ideal S8x128 .f32) (M : EReal) :
    AllLe (sout0_B_0 (F := Ideal) c i a0 g0 a1 g1 a2 g2 a3 g3 a4 g4 a5 g5 a6 g6 a7 g7 a8 g8 a9 g9 a10 g10 hc hd x0 x1 x2 x3 x4 x5 xs) M
      ↔ AllLe xs M ∧ blockLe x0 x1 x2 x3 x4 x5 M := by
  unfold sout0_B_0
  rw [View.read_writes_eq_canon _ _ _ (scover0_B_0 c i a0 g0 a1 g1 a2 g2 a3 g3 a4 g4 a5 g5 a6 g6 a7 g7 a8 g8 a9 g9 a10 g10 hc hd x0 x1 x2 x3 x4 x5 xs)]
  unfold kernelRun0_B
  dsimp only
  sl_unfold_words
  rw [View.canon_unit_zero hz2]
  simp only [View.readAt_eq_ld, g0.read_unread, g1.read_unread, g2.read_unread, g3.read_unread, g4.read_unread, g5.read_unread, g10.read_unread,
    View.ld_unit_zero (S := S8x128) (X := xs) hz2]
  exact chunks_le ..
theorem soutC_le (c : Dev nD) (i : grid0.Coords) (a0 g0 a1 g1 a2 g2 a3 g3 a4 g4 a5 g5 a6 g6 a7 g7 a8 g8 a9 g9 a10 g10) (hc hd) (xs : Vec Ideal S8x128 .f32) (M : EReal) :
    AllLe (sout0_C_0 (F := Ideal) c i a0 g0 a1 g1 a2 g2 a3 g3 a4 g4 a5 g5 a6 g6 a7 g7 a8 g8 a9 g9 a10 g10 hc hd x0 x1 x2 x3 x4 x5 xs) M
      ↔ AllLe xs M ∧ blockLe x0 x1 x2 x3 x4 x5 M := by
  unfold sout0_C_0
  rw [View.read_writes_eq_canon _ _ _ (scover0_C_0 c i a0 g0 a1 g1 a2 g2 a3 g3 a4 g4 a5 g5 a6 g6 a7 g7 a8 g8 a9 g9 a10 g10 hc hd x0 x1 x2 x3 x4 x5 xs)]
  unfold kernelRun0_C
  dsimp only
  sl_unfold_words
  rw [View.canon_unit_zero hz2]
  simp only [View.readAt_eq_ld, g0.read_unread, g1.read_unread, g2.read_unread, g3.read_unread, g4.read_unread, g5.read_unread, g10.read_unread,
    View.ld_unit_zero (S := S8x128) (X := xs) hz2]
  exact chunks_le ..

/-- The tile of the scale, from the tile of maxima. -/
def scaleTile (A : Vec Ideal S8x128 .f32) : FVec Ideal S8x128 .f32 :=
  k0_pay3 (k0_pay10 (k0_pay5 A) (k0_pay6 A) (k0_pay7 A) k0_pay8) (k0_pay11 (k0_pay5 A) (k0_pay6 A) (k0_pay7 A) k0_pay8)

/-- The last point writes the scale of the maxima it leaves. -/
theorem out8_C (c : Dev nD) (i : grid0.Coords) (a0 g0 a1 g1 a2 g2 a3 g3 a4 g4 a5 g5 a6 g6 a7 g7 a8 g8 a9 g9 a10 g10) (hc hd) (xs : Vec Ideal S8x128 .f32) :
    out0_C_8 (F := Ideal) c i a0 g0 a1 g1 a2 g2 a3 g3 a4 g4 a5 g5 a6 g6 a7 g7 a8 g8 a9 g9 a10 g10 hc hd x0 x1 x2 x3 x4 x5 xs
      = scaleTile (sout0_C_0 (F := Ideal) c i a0 g0 a1 g1 a2 g2 a3 g3 a4 g4 a5 g5 a6 g6 a7 g7 a8 g8 a9 g9 a10 g10 hc hd x0 x1 x2 x3 x4 x5 xs) := by
  unfold out0_C_8 sout0_C_0
  rw [View.read_writes_eq_canon _ _ _ (cover0_C_8 c i a0 g0 a1 g1 a2 g2 a3 g3 a4 g4 a5 g5 a6 g6 a7 g7 a8 g8 a9 g9 a10 g10 hc hd x0 x1 x2 x3 x4 x5 xs),
    View.read_writes_eq_canon _ _ _ (scover0_C_0 c i a0 g0 a1 g1 a2 g2 a3 g3 a4 g4 a5 g5 a6 g6 a7 g7 a8 g8 a9 g9 a10 g10 hc hd x0 x1 x2 x3 x4 x5 xs)]
  unfold kernelRun0_C
  dsimp only
  sl_unfold_words
  rw [View.canon_unit_zero hz2, View.canon_unit_zero hz2, View.readCov_unit_zero (S := S8x128) _ hz2]
  rfl

end Chunk

/-- The greatest of a tile. -/
def tileMax (A : Vec Ideal S8x128 .f32) : EReal :=
  extractAt ![0, 0, 0] (shapeCast S1x1x1 (multiReduction (F := Ideal) .maximumf [1, 2] S1 (shapeCast S1x8x128 A shapeCasts_S8x128_S1x8x128) 0xFF800000#32 reduces_S1x8x128_S1 (.inl rfl) rfl) shapeCasts_S1_S1x1x1) inpos_S1x1x1_p0_0_0

theorem tileMax_le (A : Vec Ideal S8x128 .f32) (M : EReal) : tileMax A ≤ M ↔ AllLe A M := by
  unfold tileMax
  refine (extract_le _ _ M).trans ?_
  refine (allLe_shapeCast _ _ M).trans ?_
  refine (maxReduce_le _ _ _ _ M).trans ?_
  exact allLe_shapeCast _ _ M

/-- One step of the search, everywhere in the tile. -/
theorem step_apply (Q : FVec Ideal S8x128 .f32) (H : BitVec 32) (B : IVec S8x128 32) (j : S8x128.Idx) :
    select (cmpf .oge Q (bitcastToFloat .f32 (shli (addi B (broadcast S8x128 H)) (broadcast S8x128 23#32)))) (addi B (broadcast S8x128 H)) B j
      = bitStep (Q j) H (B j) := rfl

/-- The first three bits, -/
theorem pay6_apply (A : Vec Ideal S8x128 .f32) (j : S8x128.Idx) :
    k0_pay6 (F := Ideal) A j = bitStep (k0_pay5 (F := Ideal) A j) 32#32 (bitStep (k0_pay5 (F := Ideal) A j) 64#32 (bitStep (k0_pay5 (F := Ideal) A j) 128#32 0#32)) := by
  unfold k0_pay6
  generalize k0_pay5 A = Q
  rw [step_apply, step_apply, step_apply]
  rfl
/-- and all eight. -/
theorem pay9_apply (A : Vec Ideal S8x128 .f32) (j : S8x128.Idx) :
    k0_pay9 (F := Ideal) (k0_pay5 A) (k0_pay6 A) (k0_pay7 A) k0_pay8 j = fieldOf (k0_pay5 (F := Ideal) A j) := by
  have h6 := pay6_apply A j
  unfold k0_pay9 k0_pay7 k0_pay8 fieldOf
  generalize k0_pay6 A = B at h6 ⊢
  generalize k0_pay5 A = Q at h6 ⊢
  rw [step_apply, step_apply, step_apply, step_apply, step_apply, h6]

/-- The value whose exponent is searched. -/
theorem scaled_apply (x : EReal) (w : BitVec 32) (j : S8x128.Idx) :
    (mulf (broadcast S8x128 x) (broadcast S8x128 (Scalar.ofBits (F := Ideal) .f32 w)) : FVec Ideal S8x128 .f32) j = x * Ideal.ofBits .f32 w := rfl
theorem pay5_apply (A : Vec Ideal S8x128 .f32) (j : S8x128.Idx) :
    k0_pay5 (F := Ideal) A j = tileMax A * Ideal.ofBits .f32 0x37924925#32 := by
  unfold k0_pay5 tileMax
  exact scaled_apply _ _ j

/-- The scale, at every place of the tile. -/
theorem scaleTile_apply (A : Vec Ideal S8x128 .f32) (j : S8x128.Idx) :
    scaleTile A j = scaleOfField (fieldOf (tileMax A * Ideal.ofBits .f32 0x37924925#32)) := by
  rw [← pay5_apply A j, ← pay9_apply]
  unfold scaleTile k0_pay3 k0_pay2 k0_pay10 k0_pay11
  generalize k0_pay9 (F := Ideal) (k0_pay5 A) (k0_pay6 A) (k0_pay7 A) k0_pay8 = B
  rfl

variable (m : (ℓ : Loc nD τ sig) → Buf (Elt Ideal) ℓ)

/-- The gradients of a point's blocks are at most a bound. -/
abbrev pointLe (c : Dev nD) (t : Fin cfg0.N) (M : EReal) : Prop :=
  blockLe (iblk m c 0 t) (iblk m c 1 t) (iblk m c 2 t) (iblk m c 3 t) (iblk m c 4 t) (iblk m c 5 t) M

/-- The tile carried after a point bounds the gradients of the points so far. -/
theorem carried_le (c : Dev nD) (M : EReal) : ∀ (n : ℕ) (hn : n < cfg0.N),
    AllLe (outsAt0 m c n hn).2.2.2.2 M ↔ 0 ≤ M ∧ ∀ (k : ℕ) (hk : k ≤ n), pointLe m c ⟨k, lt_of_le_of_lt hk hn⟩ M := by
  intro n
  induction n with
  | zero =>
    intro hn
    have h := congrArg (fun z => z.2.2.2.2) (outsAt0_A m c ⟨0, hn⟩ (by rfl) (by show ¬ 0 % 64 = 63; decide))
    dsimp only at h
    rw [h]
    refine (soutA_le ..).trans (and_congr Iff.rfl ?_)
    refine ⟨fun H k hk => ?_, fun H => H 0 le_rfl⟩
    obtain rfl : k = 0 := by omega
    exact H
  | succ n ih =>
    intro hn
    have hN : cfg0.N = 64 := N_0
    have hn' : n < cfg0.N := by omega
    have step : AllLe (outsAt0 m c (n + 1) hn).2.2.2.2 M ↔ AllLe (outsAt0 m c n hn').2.2.2.2 M ∧ pointLe m c ⟨n + 1, hn⟩ M := by
      have h0 : ¬ (n + 1) % 64 = 0 := by omega
      by_cases h1 : (n + 1) % 64 = 63
      · have h := congrArg (fun z => z.2.2.2.2) (outsAt0_C m c ⟨n + 1, hn⟩ h0 h1)
        dsimp only at h
        rw [h]
        exact soutC_le ..
      · have h := congrArg (fun z => z.2.2.2.2) (outsAt0_B m c ⟨n + 1, hn⟩ h0 h1)
        dsimp only at h
        rw [h]
        exact soutB_le ..
    rw [step, ih hn', and_assoc]
    refine and_congr Iff.rfl ⟨fun H k hk => ?_, fun H => ⟨fun k hk => H k (by omega), H (n + 1) le_rfl⟩⟩
    rcases Nat.lt_or_ge n k with h | h
    · obtain rfl : k = n + 1 := by omega
      exact H.2
    · exact H.1 k h

/-- The gradients of all points are the gradients of the arrays. -/
theorem points_iff (c : Dev nD) (M : EReal) : (∀ (k : ℕ) (hk : k ≤ 63), pointLe m c ⟨k, lt_of_le_of_lt hk (lt_of_lt_of_eq (by decide) N_0.symm)⟩ M)
    ↔ ∀ (p : Fin 3072) (q : Fin 16384), Both (dgAt (yArr m c) (wArr m c) (tArr m c) (sArr m c) (hArr m c) p q) (duAt (yArr m c) (wArr m c) (tArr m c) (sArr m c) (hArr m c) p q) M := by
  constructor
  · intro H p q
    have hq := q.isLt
    have hb : q.val = 256 * (ptOf q).val + q.val % 256 := by show q.val = 256 * (q.val / 256) + q.val % 256; omega
    have h := H (q.val / 256) (by omega) (ix2 p ⟨q.val % 256, Nat.mod_lt _ (by decide)⟩)
    have e1 := dgPoint_apply m c (ptOf q) p ⟨q.val % 256, Nat.mod_lt _ (by decide)⟩ q hb
    have e2 := duPoint_apply m c (ptOf q) p ⟨q.val % 256, Nat.mod_lt _ (by decide)⟩ q hb
    rw [← e1, ← e2]
    exact h
  · intro H k hk j
    obtain ⟨p, b, rfl⟩ : ∃ (p : Fin 3072) (b : Fin 256), j = ix2 p b := ⟨j 0, j 1, eq_ix2 (j : S3072x256.Idx)⟩
    have hb := b.isLt
    have h := H p ⟨256 * k + b.val, by omega⟩
    rw [← dgPoint_apply m c ⟨k, lt_of_le_of_lt hk (lt_of_lt_of_eq (by decide) N_0.symm)⟩ p b ⟨256 * k + b.val, by omega⟩ rfl,
      ← duPoint_apply m c ⟨k, lt_of_le_of_lt hk (lt_of_lt_of_eq (by decide) N_0.symm)⟩ p b ⟨256 * k + b.val, by omega⟩ rfl] at h
    exact h

/-- The greatest magnitude the kernel ends with. -/
def kernelMax (c : Dev nD) : EReal := tileMax (outsAt0 m c 63 (lt_of_lt_of_eq (by decide) N_0.symm)).2.2.2.2

theorem kernelMax_le (c : Dev nD) (M : EReal) : kernelMax m c ≤ M ↔ 0 ≤ M ∧
    ∀ (p : Fin 3072) (q : Fin 16384), Both (dgAt (yArr m c) (wArr m c) (tArr m c) (sArr m c) (hArr m c) p q) (duAt (yArr m c) (wArr m c) (tArr m c) (sArr m c) (hArr m c) p q) M := by
  unfold kernelMax
  rw [tileMax_le, carried_le, points_iff]

/-- The tile the kernel ends with: everywhere the scale of the greatest magnitude. -/
theorem final8_apply (c : Dev nD) (j : S8x128.Idx) :
    ((dats m 0 c).arrAt 8 cfg0.N : Vec Ideal S8x128 .f32) j = scaleOfField (fieldOf (kernelMax m c * Ideal.ofBits .f32 0x37924925#32)) := by
  have hN : 63 < cfg0.N := lt_of_lt_of_eq (by decide) N_0.symm
  rw [Value.final8, Value.G8_last, ← Value.outsAt0_sweep m c 63 hN]
  have h := outsAt0_C m c ⟨63, hN⟩ (by show ¬ 63 % 64 = 0; decide) (by rfl)
  have h8 := congrArg (fun z => z.2.2.1) h
  have hs := congrArg (fun z => z.2.2.2.2) h
  dsimp only at h8 hs
  unfold kernelMax
  rw [← scaleTile_apply]
  refine congrFun ?_ j
  rw [h8, hs]
  exact out8_C ..

end Cert.Proof.Dh

end
-- ==== Proof.DhRef.lean ====
/-
  The reference's gradients at the gate and at the up projection over the extended reals, at an index.
-/
module

public import proofs.«01_k».proof.Proof.Gen.DhRefIdeal.Value
public import proofs.«01_k».proof.Proof.DhFormula
public import Idealize.ShloMosaic.Lib.Pipeline.Value

@[expose] public section

set_option maxRecDepth 16384

noncomputable section

namespace Cert.Proof.DhRef

open Cert.DhRefIdeal Cert.DhRefIdeal.Gen Idealize.ShloMosaic Idealize.ShloMosaic.TcCoe Idealize.SL.Sem
open Idealize.ShloMosaic.ValueIdx
open Cert.Proof.Common
open scoped BigOperators

section AnyF

variable {F : FTy → Type} [FloatOps F]
variable (m : (ℓ : Loc nD τ sig) → Buf (Elt F) ℓ)

/-- The one point. -/
def t₀ : Fin cfg0.N := ⟨0, by decide⟩

/-- The half of the columns that holds the gate, and the half that holds the up projection. -/
def gateHalf (x : Vec F S3072x32768 .bf16) : Vec F S3072x16384 .bf16 := fun j => x (ix2 (j 0) (gateCol (j 1)))
def upHalf (x : Vec F S3072x32768 .bf16) : Vec F S3072x16384 .bf16 := fun j => x (ix2 (j 0) (upCol (j 1)))

theorem ldGate (x : Vec F S3072x32768 .bf16) (h) :
    (View.ld x (Rect.unit ![0, 0] ![3072, 16384] h) : Vec F S3072x16384 .bf16) = gateHalf x := by
  funext j
  show x _ = x _
  congr 1
  funext d
  apply Fin.ext
  match d with
  | ⟨0, _⟩ => show 0 + 1 * (j 0).val = (j 0).val; omega
  | ⟨1, _⟩ => show 0 + 1 * (j 1).val = (j 1).val; omega
theorem ldUp (x : Vec F S3072x32768 .bf16) (h) :
    (View.ld x (Rect.unit ![0, 16384] ![3072, 16384] h) : Vec F S3072x16384 .bf16) = upHalf x := by
  funext j
  show x _ = x _
  congr 1
  funext d
  apply Fin.ext
  match d with
  | ⟨0, _⟩ => show 0 + 1 * (j 0).val = (j 0).val; omega
  | ⟨1, _⟩ => show 16384 + 1 * (j 1).val = 16384 + (j 1).val; omega
theorem ldTile (x : Vec F S8x128 .f32) (h) :
    (View.ld x (Rect.unit ![0, 0] ![1, 1] h) : Vec F S1x1 .f32) = fun _ => x (ix2 0 0) := by
  funext j
  show x _ = x _
  have e0 : (j 0).val < 1 := (j 0).isLt
  have e1 : (j 1).val < 1 := (j 1).isLt
  congr 1
  funext d
  apply Fin.ext
  match d with
  | ⟨0, _⟩ => show 0 + 1 * (j 0).val = 0; omega
  | ⟨1, _⟩ => show 0 + 1 * (j 1).val = 0; omega
theorem ldOne (x : Vec F S1 .f32) (h) (i) : (View.ld x (Rect.unit ![0] ![1] h) : Vec F S1 .f32) i = x (ix1 0) :=
  congrArg x (idx1_eq _ _)

/-- The body leaves the payloads of its inputs. -/
theorem out5_A (c : Dev nD) (a0 g0 a1 g1 a2 g2 a3 g3 a4 g4 a5 g5 a6 g6 a7 g7)
    (x0 : Vec F S3072x8192 .fp8e5m2) (x1 : Vec F S8x128 .f32) (x2 : Vec F S16384x8192 .fp8e4m3) (x3 : Vec F S1 .f32) (x4 : Vec F S3072x32768 .bf16) :
    out0_A_5 c a0 g0 a1 g1 a2 g2 a3 g3 a4 g4 a5 g5 a6 g6 a7 g7 x0 x1 x2 x3 x4
      = k0_pay1 (k0_pay7 x0 x2 (fun _ => x1 (ix2 0 0)) (x3 (ix1 0)) (gateHalf x4) (upHalf x4)) := by
  unfold out0_A_5
  rw [View.read_writes_eq_canon _ _ _ (cover0_A_5 c a0 g0 a1 g1 a2 g2 a3 g3 a4 g4 a5 g5 a6 g6 a7 g7 x0 x1 x2 x3 x4)]
  unfold kernelRun0_A
  dsimp only
  sl_unfold_words
  rw [View.canon_unit_zero hz2]
  simp only [View.readAt_eq_ld, g0.read_unread, g1.read_unread, g2.read_unread, g3.read_unread, g4.read_unread,
    View.ld_unit_zero (S := S3072x8192) hz2, View.ld_unit_zero (S := S16384x8192) hz2]
  rw [ldGate, ldUp, ldTile, ldOne]
  rfl
theorem out6_A (c : Dev nD) (a0 g0 a1 g1 a2 g2 a3 g3 a4 g4 a5 g5 a6 g6 a7 g7)
    (x0 : Vec F S3072x8192 .fp8e5m2) (x1 : Vec F S8x128 .f32) (x2 : Vec F S16384x8192 .fp8e4m3) (x3 : Vec F S1 .f32) (x4 : Vec F S3072x32768 .bf16) :
    out0_A_6 c a0 g0 a1 g1 a2 g2 a3 g3 a4 g4 a5 g5 a6 g6 a7 g7 x0 x1 x2 x3 x4
      = k0_pay2 (k0_pay8 x0 x2 (fun _ => x1 (ix2 0 0)) (x3 (ix1 0)) (gateHalf x4)) := by
  unfold out0_A_6
  rw [View.read_writes_eq_canon _ _ _ (cover0_A_6 c a0 g0 a1 g1 a2 g2 a3 g3 a4 g4 a5 g5 a6 g6 a7 g7 x0 x1 x2 x3 x4)]
  unfold kernelRun0_A
  dsimp only
  sl_unfold_words
  rw [View.canon_unit_zero hz2]
  simp only [View.readAt_eq_ld, g0.read_unread, g1.read_unread, g2.read_unread, g3.read_unread, g4.read_unread,
    View.ld_unit_zero (S := S3072x8192) hz2, View.ld_unit_zero (S := S16384x8192) hz2]
  rw [ldGate, ldTile, ldOne]
  rfl
theorem out7_A (c : Dev nD) (a0 g0 a1 g1 a2 g2 a3 g3 a4 g4 a5 g5 a6 g6 a7 g7)
    (x0 : Vec F S3072x8192 .fp8e5m2) (x1 : Vec F S8x128 .f32) (x2 : Vec F S16384x8192 .fp8e4m3) (x3 : Vec F S1 .f32) (x4 : Vec F S3072x32768 .bf16) :
    out0_A_7 c a0 g0 a1 g1 a2 g2 a3 g3 a4 g4 a5 g5 a6 g6 a7 g7 x0 x1 x2 x3 x4
      = k0_pay3 (k0_pay9 x0 x2 (fun _ => x1 (ix2 0 0)) (x3 (ix1 0)) (gateHalf x4) (upHalf x4)) k0_pay10 := by
  unfold out0_A_7
  rw [View.read_writes_eq_canon _ _ _ (cover0_A_7 c a0 g0 a1 g1 a2 g2 a3 g3 a4 g4 a5 g5 a6 g6 a7 g7 x0 x1 x2 x3 x4)]
  unfold kernelRun0_A
  dsimp only
  sl_unfold_words
  rw [View.canon_unit_zero hz2]
  simp only [View.readAt_eq_ld, g0.read_unread, g1.read_unread, g2.read_unread, g3.read_unread, g4.read_unread,
    View.ld_unit_zero (S := S3072x8192) hz2, View.ld_unit_zero (S := S16384x8192) hz2]
  rw [ldGate, ldUp, ldTile, ldOne]
  rfl

/-- The arrays the windows read. -/
abbrev yArr (c : Dev nD) : Vec F S3072x8192 .fp8e5m2 := V m c main_arg0
abbrev tArr (c : Dev nD) : Vec F S8x128 .f32 := V m c main_arg1
abbrev wArr (c : Dev nD) : Vec F S16384x8192 .fp8e4m3 := V m c main_arg2
abbrev sArr (c : Dev nD) : Vec F S1 .f32 := V m c main_v0
abbrev hArr (c : Dev nD) : Vec F S3072x32768 .bf16 := V m c main_v1

/-- The host's two reshapes. -/
theorem sArr_eq (c : Dev nD) : sArr m c = shapeCast S1 (m ((c : Thread nD τ).loc main_arg3)) shapeCasts_S_S1 := rfl
theorem hArr_eq (c : Dev nD) : hArr m c = shapeCast S3072x32768 (m ((c : Thread nD τ).loc main_arg4)) shapeCasts_S1x3072x32768_S3072x32768 := rfl

/-- Each input's one block is its array. -/
theorem blk0 (c : Dev nD) : (iblk m c 0 t₀ : Vec F S3072x8192 .fp8e5m2) = yArr m c := by
  have hz : (fun a => (win0_0.index t₀) a * main_arg0.ty.shape.size a) = fun _ => 0 := funext fun a => by fin_cases a <;> decide
  exact Memref.read_access_unit_zero (Elt F) main_arg0 hz (fun a => by fin_cases a <;> decide) _
theorem blk1 (c : Dev nD) : (iblk m c 1 t₀ : Vec F S8x128 .f32) = tArr m c := by
  have hz : (fun a => (win0_1.index t₀) a * main_arg1.ty.shape.size a) = fun _ => 0 := funext fun a => by fin_cases a <;> decide
  exact Memref.read_access_unit_zero (Elt F) main_arg1 hz (fun a => by fin_cases a <;> decide) _
theorem blk2 (c : Dev nD) : (iblk m c 2 t₀ : Vec F S16384x8192 .fp8e4m3) = wArr m c := by
  have hz : (fun a => (win0_2.index t₀) a * main_arg2.ty.shape.size a) = fun _ => 0 := funext fun a => by fin_cases a <;> decide
  exact Memref.read_access_unit_zero (Elt F) main_arg2 hz (fun a => by fin_cases a <;> decide) _
theorem blk3 (c : Dev nD) : (iblk m c 3 t₀ : Vec F S1 .f32) = sArr m c := by
  have hz : (fun a => (win0_3.index t₀) a * main_v0.ty.shape.size a) = fun _ => 0 := funext fun a => by fin_cases a <;> decide
  exact Memref.read_access_unit_zero (Elt F) main_v0 hz (fun a => by fin_cases a <;> decide) _
theorem blk4 (c : Dev nD) : (iblk m c 4 t₀ : Vec F S3072x32768 .bf16) = hArr m c := by
  have hz : (fun a => (win0_4.index t₀) a * main_v1.ty.shape.size a) = fun _ => 0 := funext fun a => by fin_cases a <;> decide
  exact Memref.read_access_unit_zero (Elt F) main_v1 hz (fun a => by fin_cases a <;> decide) _

/-- The result arrays are the payloads of the arrays. -/
theorem final5_value (c : Dev nD) :
    (dats m 0 c).arrAt 5 cfg0.N
      = k0_pay1 (k0_pay7 (yArr m c) (wArr m c) (fun _ => tArr m c (ix2 0 0)) (sArr m c (ix1 0)) (gateHalf (hArr m c)) (upHalf (hArr m c))) := by
  have ho := Value.blocks5 m c t₀ (by decide +kernel)
  have hz : (fun a => (win0_5.index t₀) a * main_v2_0.ty.shape.size a) = fun _ => 0 := funext fun a => by fin_cases a <;> decide
  have hr := fun f => Memref.read_access_unit_zero (Elt F) main_v2_0 hz (fun a => by fin_cases a <;> decide) f
  rw [hr] at ho
  rw [ho, Value.flushed5_A]
  simp only [out5_A, blk0, blk1, blk2, blk3, blk4]
  rfl
theorem final6_value (c : Dev nD) :
    (dats m 0 c).arrAt 6 cfg0.N
      = k0_pay2 (k0_pay8 (yArr m c) (wArr m c) (fun _ => tArr m c (ix2 0 0)) (sArr m c (ix1 0)) (gateHalf (hArr m c))) := by
  have ho := Value.blocks6 m c t₀ (by decide +kernel)
  have hz : (fun a => (win0_6.index t₀) a * main_v2_1.ty.shape.size a) = fun _ => 0 := funext fun a => by fin_cases a <;> decide
  have hr := fun f => Memref.read_access_unit_zero (Elt F) main_v2_1 hz (fun a => by fin_cases a <;> decide) f
  rw [hr] at ho
  rw [ho, Value.flushed6_A]
  simp only [out6_A, blk0, blk1, blk2, blk3, blk4]
  rfl
theorem final7_value (c : Dev nD) :
    (dats m 0 c).arrAt 7 cfg0.N
      = k0_pay3 (k0_pay9 (yArr m c) (wArr m c) (fun _ => tArr m c (ix2 0 0)) (sArr m c (ix1 0)) (gateHalf (hArr m c)) (upHalf (hArr m c))) k0_pay10 := by
  have ho := Value.blocks7 m c t₀ (by decide +kernel)
  have hz : (fun a => (win0_7.index t₀) a * main_v2_2.ty.shape.size a) = fun _ => 0 := funext fun a => by fin_cases a <;> decide
  have hr := fun f => Memref.read_access_unit_zero (Elt F) main_v2_2 hz (fun a => by fin_cases a <;> decide) f
  rw [hr] at ho
  rw [ho, Value.flushed7_A]
  simp only [out7_A, blk0, blk1, blk2, blk3, blk4]
  rfl

end AnyF

/-- The gradient of the activation at an index. -/
theorem pay4_apply (y : Vec Ideal S3072x8192 .fp8e5m2) (w : Vec Ideal S16384x8192 .fp8e4m3) (t : Vec Ideal S8x128 .f32) (s : Vec Ideal S1 .f32)
    (p : Fin 3072) (q : Fin 16384) :
    k0_pay4 (F := Ideal) y w (fun _ => t (ix2 0 0)) (s (ix1 0)) (ix2 p q) = daAt y w t s p q := by
  unfold k0_pay4
  refine congrArg (· * (t (ix2 0 0) * s (ix1 0) : EReal))
    ((Ideal.matmul_transposedRhs_apply (M := 3072) (K := 8192) (N := 16384) none y w (constant S3072x16384 .f32 0x00000000#32) p q).trans ?_)
  show Ideal.ofBits .f32 0x00000000#32 + _ = _
  rw [ofBits_zero, zero_add]

/-- The logistic function of the gate. -/
theorem pay6_apply (g : Vec Ideal S3072x16384 .bf16) (j : S3072x16384.Idx) : k0_pay6 (F := Ideal) g j = sig (g j) := by
  unfold k0_pay6 k0_pay5
  simp only [shapeCast_self]
  rfl

/-- The gradients at the gate and at the up projection. -/
theorem pay7_apply (y : Vec Ideal S3072x8192 .fp8e5m2) (w : Vec Ideal S16384x8192 .fp8e4m3) (t : Vec Ideal S8x128 .f32) (s : Vec Ideal S1 .f32)
    (h : Vec Ideal S3072x32768 .bf16) (p : Fin 3072) (q : Fin 16384) :
    k0_pay7 (F := Ideal) y w (fun _ => t (ix2 0 0)) (s (ix1 0)) (gateHalf h) (upHalf h) (ix2 p q) = dgAt y w t s h p q := by
  unfold dgAt
  rw [← pay4_apply]
  unfold k0_pay7 k0_pay5
  simp only [shapeCast_self]
  show k0_pay4 (F := Ideal) y w (fun _ => t (ix2 0 0)) (s (ix1 0)) (ix2 p q) * upHalf h (ix2 p q) * k0_pay6 (F := Ideal) (gateHalf h) (ix2 p q)
    * (Ideal.ofBits .f32 0x3F800000#32 + gateHalf h (ix2 p q) * (Ideal.ofBits .f32 0x3F800000#32 - k0_pay6 (F := Ideal) (gateHalf h) (ix2 p q))) = _
  rw [ofBits_one, pay6_apply]
  rfl
theorem pay8_apply (y : Vec Ideal S3072x8192 .fp8e5m2) (w : Vec Ideal S16384x8192 .fp8e4m3) (t : Vec Ideal S8x128 .f32) (s : Vec Ideal S1 .f32)
    (h : Vec Ideal S3072x32768 .bf16) (p : Fin 3072) (q : Fin 16384) :
    k0_pay8 (F := Ideal) y w (fun _ => t (ix2 0 0)) (s (ix1 0)) (gateHalf h) (ix2 p q) = duAt y w t s h p q := by
  unfold duAt
  rw [← pay4_apply]
  unfold k0_pay8 k0_pay5
  simp only [shapeCast_self]
  show k0_pay4 (F := Ideal) y w (fun _ => t (ix2 0 0)) (s (ix1 0)) (ix2 p q) * gateHalf h (ix2 p q) * k0_pay6 (F := Ideal) (gateHalf h) (ix2 p q) = _
  rw [pay6_apply]
  rfl

/-- The two arrays at an index. -/
theorem final5_apply (m : (ℓ : Loc nD τ sig) → Buf (Elt Ideal) ℓ) (c : Dev nD) (p : Fin 3072) (q : Fin 16384) :
    ((dats m 0 c).arrAt 5 cfg0.N : Vec Ideal S3072x16384 .bf16) (ix2 p q) = dgAt (yArr m c) (wArr m c) (tArr m c) (sArr m c) (hArr m c) p q := by
  rw [final5_value]
  exact pay7_apply _ _ _ _ _ p q
theorem final6_apply (m : (ℓ : Loc nD τ sig) → Buf (Elt Ideal) ℓ) (c : Dev nD) (p : Fin 3072) (q : Fin 16384) :
    ((dats m 0 c).arrAt 6 cfg0.N : Vec Ideal S3072x16384 .bf16) (ix2 p q) = duAt (yArr m c) (wArr m c) (tArr m c) (sArr m c) (hArr m c) p q := by
  rw [final6_value]
  exact pay8_apply _ _ _ _ _ p q

end Cert.Proof.DhRef

end
-- ==== Proof.DhRefMax.lean ====
/-
  The scale the reference ends with: the scale of the greatest magnitude of the two gradients laid side by side.
-/
module

public import proofs.«01_k».proof.Proof.DhRef
public import proofs.«01_k».proof.Proof.Scale

@[expose] public section

set_option maxRecDepth 16384

noncomputable section

namespace Cert.Proof.DhRef

open Cert.DhRefIdeal Cert.DhRefIdeal.Gen Idealize.ShloMosaic Idealize.ShloMosaic.TcCoe Idealize.SL.Sem
open Idealize.ShloMosaic.ValueIdx
open Cert.Proof.Common

/-- The magnitudes of two arrays laid side by side are at most a bound when the magnitudes of both are. -/
theorem beside_le (v w : FVec Ideal S3072x16384 .f32) (M : EReal) :
    AllLe (absf (F := Ideal) (φ := .f32) (concatenate S3072x32768 1 [⟨S3072x16384, v⟩, ⟨S3072x16384, w⟩] concatenates_S3072x16384_S3072x16384_S3072x32768_d1)) M
      ↔ ∀ (p : Fin 3072) (q : Fin 16384), mag (v (ix2 p q)) ≤ M ∧ mag (w (ix2 p q)) ≤ M := by
  have hl : ∀ (p : Fin 3072) (q : Fin 16384), concatenate S3072x32768 1 [⟨S3072x16384, v⟩, ⟨S3072x16384, w⟩] concatenates_S3072x16384_S3072x16384_S3072x32768_d1 (ix2 p (gateCol q)) = v (ix2 p q) := by
    intro p q
    refine concatenate_pair_apply_left (1 : Fin S3072x32768.rank) v w _ (ix2 p (gateCol q)) rfl (ix2 p q) fun b => ?_
    match b with
    | ⟨0, _⟩ => rfl
    | ⟨1, _⟩ => rfl
  have hr : ∀ (p : Fin 3072) (q : Fin 16384), concatenate S3072x32768 1 [⟨S3072x16384, v⟩, ⟨S3072x16384, w⟩] concatenates_S3072x16384_S3072x16384_S3072x32768_d1 (ix2 p (upCol q)) = w (ix2 p q) := by
    intro p q
    refine concatenate_pair_apply_right (1 : Fin S3072x32768.rank) v w _ (ix2 p (upCol q)) rfl rfl (ix2 p q) (fun b hb => ?_) ?_
    · match b with
      | ⟨0, _⟩ => rfl
      | ⟨1, _⟩ => exact absurd rfl hb
    · show q.val + 16384 = 16384 + q.val
      omega
  have key : ∀ j, absf (F := Ideal) (φ := .f32) (concatenate S3072x32768 1 [⟨S3072x16384, v⟩, ⟨S3072x16384, w⟩] concatenates_S3072x16384_S3072x16384_S3072x32768_d1) j
      = mag (concatenate S3072x32768 1 [⟨S3072x16384, v⟩, ⟨S3072x16384, w⟩] concatenates_S3072x16384_S3072x16384_S3072x32768_d1 j) := fun j => rfl
  unfold AllLe
  simp only [key]
  constructor
  · intro H p q
    have h1 := H (ix2 p (gateCol q))
    have h2 := H (ix2 p (upCol q))
    rw [hl] at h1
    rw [hr] at h2
    exact ⟨h1, h2⟩
  · intro H j
    obtain ⟨p, b, rfl⟩ : ∃ (p : Fin 3072) (b : Fin 32768), j = ix2 p b := ⟨j 0, j 1, eq_ix2 (j : S3072x32768.Idx)⟩
    have hb := b.isLt
    by_cases h : b.val < 16384
    · have e : b = gateCol ⟨b.val, h⟩ := rfl
      rw [e, hl]
      exact (H p _).1
    · have e : b = upCol ⟨b.val - 16384, by omega⟩ := Fin.ext (by show b.val = 16384 + (b.val - 16384); omega)
      rw [e, hr]
      exact (H p _).2

/-- The greatest magnitude of two arrays laid side by side. -/
def besideMax (v w : FVec Ideal S3072x16384 .f32) : EReal :=
  extractAt ![0, 0, 0] (shapeCast S1x1x1 (multiReduction (F := Ideal) .maximumf [1, 2] S1 (shapeCast S1x3072x32768 (absf (F := Ideal) (φ := .f32) (concatenate S3072x32768 1 [⟨S3072x16384, v⟩, ⟨S3072x16384, w⟩] concatenates_S3072x16384_S3072x16384_S3072x32768_d1)) shapeCasts_S3072x32768_S1x3072x32768) 0xFF800000#32 reduces_S1x3072x32768_S1 (.inl rfl) rfl) shapeCasts_S1_S1x1x1) inpos_S1x1x1_p0_0_0

theorem besideMax_le (v w : FVec Ideal S3072x16384 .f32) (M : EReal) :
    besideMax v w ≤ M ↔ ∀ (p : Fin 3072) (q : Fin 16384), mag (v (ix2 p q)) ≤ M ∧ mag (w (ix2 p q)) ≤ M := by
  unfold besideMax
  refine (extract_le _ _ M).trans ?_
  refine (allLe_shapeCast _ _ M).trans ?_
  refine (maxReduce_le _ _ _ _ M).trans ?_
  refine (allLe_shapeCast _ _ M).trans ?_
  exact beside_le v w M

theorem pay9_eq (y : Vec Ideal S3072x8192 .fp8e5m2) (w : Vec Ideal S16384x8192 .fp8e4m3) (t : Vec Ideal S1x1 .f32) (s : EReal)
    (a b : Vec Ideal S3072x16384 .bf16) :
    k0_pay9 (F := Ideal) y w t s a b = besideMax (k0_pay7 (F := Ideal) y w t s a b) (k0_pay8 (F := Ideal) y w t s a) * Ideal.ofBits .f32 0x37924925#32 := by
  unfold k0_pay9 besideMax
  exact scaled_eq _ _

/-- The tile of the scale. -/
theorem pay3_apply (q : EReal) (j : S8x128.Idx) :
    k0_pay3 (F := Ideal) q k0_pay10 j = scaleOfField (fieldOf q) := by
  rw [scale_eq q iota_S8x32_d0_w32 iota_S8x32_d1_w32 shapeCasts_S8x32_S1x8x32 reduces_S1x8x32_S1 shapeCasts_S1_S1x1x1 inpos_S1x1x1_p0_0_0]
  unfold k0_pay3 k0_pay10 leastAbove aboveOr exponents
  exact scaleAbove_tile _ _ j

variable (m : (ℓ : Loc nD τ sig) → Buf (Elt Ideal) ℓ)

/-- The greatest magnitude of the reference. -/
def refMax (c : Dev nD) : EReal :=
  besideMax (k0_pay7 (F := Ideal) (yArr m c) (wArr m c) (fun _ => tArr m c (ix2 0 0)) (sArr m c (ix1 0)) (gateHalf (hArr m c)) (upHalf (hArr m c)))
    (k0_pay8 (F := Ideal) (yArr m c) (wArr m c) (fun _ => tArr m c (ix2 0 0)) (sArr m c (ix1 0)) (gateHalf (hArr m c)))

theorem refMax_le (c : Dev nD) (M : EReal) : refMax m c ≤ M ↔
    ∀ (p : Fin 3072) (q : Fin 16384), mag (dgAt (yArr m c) (wArr m c) (tArr m c) (sArr m c) (hArr m c) p q) ≤ M ∧ mag (duAt (yArr m c) (wArr m c) (tArr m c) (sArr m c) (hArr m c) p q) ≤ M := by
  unfold refMax
  rw [besideMax_le]
  simp only [pay7_apply, pay8_apply]

/-- The tile the reference ends with. -/
theorem final7_apply (c : Dev nD) (j : S8x128.Idx) :
    ((dats m 0 c).arrAt 7 cfg0.N : Vec Ideal S8x128 .f32) j = scaleOfField (fieldOf (refMax m c * Ideal.ofBits .f32 0x37924925#32)) := by
  rw [final7_value, pay9_eq]
  exact pay3_apply _ j

end Cert.Proof.DhRef

end
-- ==== Proof.DhAlg.lean ====
/-
  The kernel of the gradients and its reference end with the same two arrays and the same scale, for every argument.
-/
module

public import proofs.«01_k».proof.Defs
public import proofs.«01_k».proof.Proof.DhAmax
public import proofs.«01_k».proof.Proof.DhRefMax

@[expose] public section

set_option maxRecDepth 16384

noncomputable section

namespace Cert.Proof.DhAlg

open Idealize.ShloMosaic Idealize.SL.Sem Idealize.ShloMosaic.ValueIdx
open Cert.Proof.Common

theorem algebraic : Cert.algebraic_DhIdeal_DhRefIdeal (hDhIdeal := Cert.DhIdeal.Gen.facts)
    (hDhRefIdeal := Cert.DhRefIdeal.Gen.facts) := by
  intro m g m' g' _ hargs
  refine ⟨fun c => (Cert.DhIdeal.Gen.dats (F := Ideal) m 0 c).arrAt 6 Cert.DhIdeal.cfg0.N,
    fun c => (Cert.DhIdeal.Gen.dats (F := Ideal) m 0 c).arrAt 7 Cert.DhIdeal.cfg0.N,
    fun c => (Cert.DhIdeal.Gen.dats (F := Ideal) m 0 c).arrAt 8 Cert.DhIdeal.cfg0.N, ?_, ?_⟩
  · refine (θ_run (Cert.DhIdeal.defs (F := Ideal)) _ _).mono (fun r h c => ?_) (Cert.DhIdeal.Value.run_blocks (F := Ideal) m g)
    obtain ⟨h6, h7, h8, -, h0, h1, h2, h3, h4⟩ := h c
    exact ⟨h6, h7, h8, h0, h1, h2, h3, h4⟩
  refine (θ_run (Cert.DhRefIdeal.defs (F := Ideal)) _ _).mono (fun r h c => ?_) (Cert.DhRefIdeal.Value.run_blocks (F := Ideal) m' g')
  obtain ⟨h5, h6, h7, h0, h1, h2, h3, h4⟩ := h c
  obtain ⟨a0, a1, a2, a3, a4⟩ := hargs c
  have ey : DhRef.yArr m' c = Dh.yArr m c := (Cert.DhRefIdeal.Gen.V_main_arg0 m' c).trans (a0.trans (Cert.DhIdeal.Gen.V_main_arg0 m c).symm)
  have et : DhRef.tArr m' c = Dh.tArr m c := (Cert.DhRefIdeal.Gen.V_main_arg1 m' c).trans (a1.trans (Cert.DhIdeal.Gen.V_main_arg1 m c).symm)
  have ew : DhRef.wArr m' c = Dh.wArr m c := (Cert.DhRefIdeal.Gen.V_main_arg2 m' c).trans (a2.trans (Cert.DhIdeal.Gen.V_main_arg2 m c).symm)
  have es : DhRef.sArr m' c = Dh.sArr m c := by rw [DhRef.sArr_eq, Dh.sArr_eq, a3]
  have eh : DhRef.hArr m' c = Dh.hArr m c := by rw [DhRef.hArr_eq, Dh.hArr_eq, a4]
  have em : DhRef.refMax m' c = Dh.kernelMax m c := by
    refine eq_of_forall_ge_iff fun M => ?_
    rw [DhRef.refMax_le, Dh.kernelMax_le, ey, et, ew, es, eh]
    exact ⟨fun H => ⟨(mag_nonneg _).trans (H ⟨0, by decide⟩ ⟨0, by decide⟩).1, H⟩, fun H => H.2⟩
  refine ⟨h5.trans ?_, h6.trans ?_, h7.trans ?_, h0, h1, h2, h3, h4⟩
  · funext j
    obtain ⟨p, q, rfl⟩ : ∃ (p : Fin 3072) (q : Fin 16384), j = ix2 p q := ⟨j 0, j 1, eq_ix2 j⟩
    refine (DhRef.final5_apply m' c p q).trans (Eq.trans ?_ (Dh.final6_apply m c p q).symm)
    rw [ey, et, ew, es, eh]
  · funext j
    obtain ⟨p, q, rfl⟩ : ∃ (p : Fin 3072) (q : Fin 16384), j = ix2 p q := ⟨j 0, j 1, eq_ix2 j⟩
    refine (DhRef.final6_apply m' c p q).trans (Eq.trans ?_ (Dh.final7_apply m c p q).symm)
    rw [ey, et, ew, es, eh]
  · funext j
    refine (DhRef.final7_apply m' c j).trans (Eq.trans ?_ (Dh.final8_apply m c j).symm)
    rw [em]

end Cert.Proof.DhAlg

end
-- ==== Proof.lean ====
/-
  The certificate: every program runs to its end without a fault and keeps its arguments; every kernel idealizes as printed;
  and every kernel ends with its reference's results over the extended reals.
-/
module

public import proofs.«01_k».proof.Defs
public import proofs.«01_k».proof.Proof.Gen.Dw1
public import proofs.«01_k».proof.Proof.Gen.Dw1.Skeleton
public import proofs.«01_k».proof.Proof.Gen.Dw1.Launch
public import proofs.«01_k».proof.Proof.Gen.Dw1.Points
public import proofs.«01_k».proof.Proof.Gen.Dw1.Frame
public import proofs.«01_k».proof.Proof.Gen.Dw1Ideal
public import proofs.«01_k».proof.Proof.Gen.Dw1Ideal.Skeleton
public import proofs.«01_k».proof.Proof.Gen.Dw1Ideal.Launch
public import proofs.«01_k».proof.Proof.Gen.Dw1Ideal.Points
public import proofs.«01_k».proof.Proof.Gen.Dw1Ideal.Frame
public import proofs.«01_k».proof.Proof.Gen.Dw1RefIdeal
public import proofs.«01_k».proof.Proof.Gen.Dw1RefIdeal.Skeleton
public import proofs.«01_k».proof.Proof.Gen.Dw1RefIdeal.Launch
public import proofs.«01_k».proof.Proof.Gen.Dw1RefIdeal.Points
public import proofs.«01_k».proof.Proof.Gen.Dw1RefIdeal.Frame
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DxRefIdeal.Skeleton
public import proofs.«01_k».proof.Proof.Gen.DxRefIdeal.Launch
public import proofs.«01_k».proof.Proof.Gen.DxRefIdeal.Points
public import proofs.«01_k».proof.Proof.Gen.DxRefIdeal.Frame
public import proofs.«01_k».proof.Proof.Gen.Dw2
public import proofs.«01_k».proof.Proof.Gen.Dw2.Skeleton
public import proofs.«01_k».proof.Proof.Gen.Dw2.Launch
public import proofs.«01_k».proof.Proof.Gen.Dw2.Points
public import proofs.«01_k».proof.Proof.Gen.Dw2.Frame
public import proofs.«01_k».proof.Proof.Gen.Dw2Ideal
public import proofs.«01_k».proof.Proof.Gen.Dw2Ideal.Skeleton
public import proofs.«01_k».proof.Proof.Gen.Dw2Ideal.Launch
public import proofs.«01_k».proof.Proof.Gen.Dw2Ideal.Points
public import proofs.«01_k».proof.Proof.Gen.Dw2Ideal.Frame
public import proofs.«01_k».proof.Proof.Gen.Dw2RefIdeal
public import proofs.«01_k».proof.Proof.Gen.Dw2RefIdeal.Skeleton
public import proofs.«01_k».proof.Proof.Gen.Dw2RefIdeal.Launch
public import proofs.«01_k».proof.Proof.Gen.Dw2RefIdeal.Points
public import proofs.«01_k».proof.Proof.Gen.Dw2RefIdeal.Frame
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Launch
public import proofs.«01_k».proof.Proof.Gen.QuantIdeal.Points
public import proofs.«01_k».proof.Proof.Gen.QuantIdeal.Frame
public import proofs.«01_k».proof.Proof.Gen.QuantRefIdeal
public import proofs.«01_k».proof.Proof.Gen.QuantRefIdeal.Skeleton
public import proofs.«01_k».proof.Proof.Gen.QuantRefIdeal.Launch
public import proofs.«01_k».proof.Proof.Gen.QuantRefIdeal.Points
public import proofs.«01_k».proof.Proof.Gen.QuantRefIdeal.Frame
public import proofs.«01_k».proof.Proof.Gen.Amax
public import proofs.«01_k».proof.Proof.Gen.Amax.Skeleton
public import proofs.«01_k».proof.Proof.Gen.Amax.Launch
public import proofs.«01_k».proof.Proof.Gen.Amax.Points
public import proofs.«01_k».proof.Proof.Gen.Amax.Frame
public import proofs.«01_k».proof.Proof.Gen.AmaxIdeal
public import proofs.«01_k».proof.Proof.Gen.AmaxIdeal.Skeleton
public import proofs.«01_k».proof.Proof.Gen.AmaxIdeal.Launch
public import proofs.«01_k».proof.Proof.Gen.AmaxIdeal.Points
public import proofs.«01_k».proof.Proof.Gen.AmaxIdeal.Frame
public import proofs.«01_k».proof.Proof.Gen.AmaxRefIdeal
public import proofs.«01_k».proof.Proof.Gen.AmaxRefIdeal.Skeleton
public import proofs.«01_k».proof.Proof.Gen.AmaxRefIdeal.Launch
public import proofs.«01_k».proof.Proof.Gen.AmaxRefIdeal.Points
public import proofs.«01_k».proof.Proof.Gen.AmaxRefIdeal.Frame
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhRefIdeal
public import proofs.«01_k».proof.Proof.Gen.DhRefIdeal.Skeleton
public import proofs.«01_k».proof.Proof.Gen.DhRefIdeal.Launch
public import proofs.«01_k».proof.Proof.Gen.DhRefIdeal.Points
public import proofs.«01_k».proof.Proof.Gen.DhRefIdeal.Frame
public import proofs.«01_k».proof.Proof.Gen.Dw1Ideal.Value
public import proofs.«01_k».proof.Proof.Gen.Dw1RefIdeal.Value
public import proofs.«01_k».proof.Proof.Gen.DxIdeal.Value
public import proofs.«01_k».proof.Proof.Gen.DxRefIdeal.Value
public import proofs.«01_k».proof.Proof.Gen.Dw2RefIdeal.Value
public import proofs.«01_k».proof.Proof.Gen.QuantIdeal.Value
public import proofs.«01_k».proof.Proof.Gen.QuantRefIdeal.Value
public import proofs.«01_k».proof.Proof.Gen.AmaxIdeal.Value
public import proofs.«01_k».proof.Proof.Gen.AmaxRefIdeal.Value
public import proofs.«01_k».proof.Proof.Gen.DhIdeal.Value
public import proofs.«01_k».proof.Proof.Gen.DhRefIdeal.Value
public import proofs.«01_k».proof.Proof.Dw1Alg
public import proofs.«01_k».proof.Proof.DxAlg
public import proofs.«01_k».proof.Proof.Dw2Alg
public import proofs.«01_k».proof.Proof.QuantAlg
public import proofs.«01_k».proof.Proof.AmaxAlg
public import proofs.«01_k».proof.Proof.DhAlg
public import Idealize.ShloMosaic.Adequacy
public import Idealize.ShloMosaic.Init

@[expose] public section

noncomputable section

namespace Cert.Proof

open Idealize.ShloMosaic Idealize.SL.Sem

theorem claim : Cert.Claim :=
  ⟨Cert.Dw1.Gen.facts, Cert.Dw1Ideal.Gen.facts, Cert.Dw1RefIdeal.Gen.facts,
    Cert.Dx.Gen.facts, Cert.DxIdeal.Gen.facts, Cert.DxRefIdeal.Gen.facts,
    Cert.Dw2.Gen.facts, Cert.Dw2Ideal.Gen.facts, Cert.Dw2RefIdeal.Gen.facts,
    Cert.Quant.Gen.facts, Cert.QuantIdeal.Gen.facts, Cert.QuantRefIdeal.Gen.facts,
    Cert.Amax.Gen.facts, Cert.AmaxIdeal.Gen.facts, Cert.AmaxRefIdeal.Gen.facts,
    Cert.Dh.Gen.facts, Cert.DhIdeal.Gen.facts, Cert.DhRefIdeal.Gen.facts,
    fun m ρ _ => Cert.Dw1.Gen.frame m ρ, fun m ρ _ => Cert.Dw1Ideal.Gen.frame m ρ, fun m ρ _ => Cert.Dw1RefIdeal.Gen.frame m ρ,
    fun m ρ _ => Cert.Dx.Gen.frame m ρ, fun m ρ _ => Cert.DxIdeal.Gen.frame m ρ, fun m ρ _ => Cert.DxRefIdeal.Gen.frame m ρ,
    fun m ρ _ => Cert.Dw2.Gen.frame m ρ, fun m ρ _ => Cert.Dw2Ideal.Gen.frame m ρ, fun m ρ _ => Cert.Dw2RefIdeal.Gen.frame m ρ,
    fun m ρ _ => Cert.Quant.Gen.frame m ρ, fun m ρ _ => Cert.QuantIdeal.Gen.frame m ρ, fun m ρ _ => Cert.QuantRefIdeal.Gen.frame m ρ,
    fun m ρ _ => Cert.Amax.Gen.frame m ρ, fun m ρ _ => Cert.AmaxIdeal.Gen.frame m ρ, fun m ρ _ => Cert.AmaxRefIdeal.Gen.frame m ρ,
    fun m ρ _ => Cert.Dh.Gen.frame m ρ, fun m ρ _ => Cert.DhIdeal.Gen.frame m ρ, fun m ρ _ => Cert.DhRefIdeal.Gen.frame m ρ,
    trivial, Dw1Alg.algebraic, trivial, DxAlg.algebraic, trivial, Dw2Alg.algebraic, trivial, QuantAlg.algebraic, trivial, AmaxAlg.algebraic, trivial, DhAlg.algebraic⟩

end Cert.Proof

end
